-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "softmax_scale_log2e" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S4x16384x16x128 : Shape := ⟨4, ![4, 16384, 16, 128]⟩
abbrev S4x2x4096x128 : Shape := ⟨4, ![4, 2, 4096, 128]⟩
abbrev S4x2x4096 : Shape := ⟨3, ![4, 2, 4096]⟩
abbrev S4x2 : Shape := ⟨2, ![4, 2]⟩
abbrev S4 : Shape := ⟨1, ![4]⟩
abbrev S_ : Shape := ⟨0, ![]⟩

class Facts : Prop where
  bcast_S_S4x16384x16x128 : S_.BroadcastsInDim S4x16384x16x128 (![] : Fin 0 → Fin S4x16384x16x128.rank)
  reducesTo_S4x16384x16x128_S_d0_1_2_3 : S4x16384x16x128.ReducesTo [0, 1, 2, 3] S_
  h_S_ : 0 < S_.numel
  bcast_S_S4 : S_.BroadcastsInDim S4 (![] : Fin 0 → Fin S4.rank)
  reducesTo_S4_S_d0 : S4.ReducesTo [0] S_

variable [Facts]

def fn {F : FTy → Type} [FloatOps F] (main_arg0 : FVec F S4x16384x16x128 .bf16) (main_arg1 : FVec F S4x2x4096x128 .fp8e4m3) (main_arg2 : FVec F S4x2x4096 .f32) (main_arg3 : FVec F S4x2x4096x128 .fp8e4m3) (main_arg4 : FVec F S4x2 .f32) (main_arg5 : IVec S4 32) : IVec S_ 1 :=
  let main_v0 : FVec F S4x16384x16x128 .bf16 := Host.absf main_arg0
  let main_cst : FVec F S_ .bf16 := constant S_ .bf16 0x7F7F#16
  let main_v1 : FVec F S4x16384x16x128 .bf16 := broadcastInDim S4x16384x16x128 ![] bcast_S_S4x16384x16x128 main_cst
  let main_v2 : IVec S4x16384x16x128 1 := cmpf .ole main_v0 main_v1
  let main_c : IVec S_ 1 := constantI S_ 1 1#1
  let main_v3 : IVec S_ 1 := (fun x v => Host.reduce IntOp.andi x v reducesTo_S4x16384x16x128_S_d0_1_2_3 h_S_) main_v2 main_c
  let main_c_0 : IVec S_ 32 := constantI S_ 32 0#32
  let main_v4 : IVec S4 32 := broadcastInDim S4 ![] bcast_S_S4 main_c_0
  let main_v5 : IVec S4 1 := cmpi .sge main_arg5 main_v4
  let main_c_1 : IVec S_ 1 := constantI S_ 1 1#1
  let main_v6 : IVec S_ 1 := (fun x v => Host.reduce IntOp.andi x v reducesTo_S4_S_d0 h_S_) main_v5 main_c_1
  let main_v7 : IVec S_ 1 := andi main_v3 main_v6
  let main_c_2 : IVec S_ 32 := constantI S_ 32 4096#32
  let main_v8 : IVec S4 32 := broadcastInDim S4 ![] bcast_S_S4 main_c_2
  let main_v9 : IVec S4 1 := cmpi .sle main_arg5 main_v8
  let main_c_3 : IVec S_ 1 := constantI S_ 1 1#1
  let main_v10 : IVec S_ 1 := (fun x v => Host.reduce IntOp.andi x v reducesTo_S4_S_d0 h_S_) main_v9 main_c_3
  let main_v11 : IVec S_ 1 := andi main_v7 main_v10
  main_v11
-- ==== Kernel.lean ====
abbrev S4x16384x16x128 : Shape := ⟨4, ![4, 16384, 16, 128]⟩
abbrev S4x2x4096x128 : Shape := ⟨4, ![4, 2, 4096, 128]⟩
abbrev S4x2x4096 : Shape := ⟨3, ![4, 2, 4096]⟩
abbrev S4x2 : Shape := ⟨2, ![4, 2]⟩
abbrev S4 : Shape := ⟨1, ![4]⟩
abbrev S4x2x128x4096 : Shape := ⟨4, ![4, 2, 128, 4096]⟩
abbrev S4x2x4096x1 : Shape := ⟨4, ![4, 2, 4096, 1]⟩
abbrev S4x16384x16 : Shape := ⟨3, ![4, 16384, 16]⟩
abbrev S1x64x16x128 : Shape := ⟨4, ![1, 64, 16, 128]⟩
abbrev S1x2x4096x128 : Shape := ⟨4, ![1, 2, 4096, 128]⟩
abbrev S1x2x128x4096 : Shape := ⟨4, ![1, 2, 128, 4096]⟩
abbrev S1x64x16 : Shape := ⟨3, ![1, 64, 16]⟩
abbrev S2x4096x128 : Shape := ⟨3, ![2, 4096, 128]⟩
abbrev S4096x512 : Shape := ⟨2, ![4096, 512]⟩
abbrev S128x512 : Shape := ⟨2, ![128, 512]⟩
abbrev S1x1x4096x128 : Shape := ⟨4, ![1, 1, 4096, 128]⟩
abbrev S4096x128 : Shape := ⟨2, ![4096, 128]⟩
abbrev S1x4096x128 : Shape := ⟨3, ![1, 4096, 128]⟩
abbrev S1 : Shape := ⟨1, ![1]⟩
abbrev S64x16x128 : Shape := ⟨3, ![64, 16, 128]⟩
abbrev S64x16 : Shape := ⟨2, ![64, 16]⟩
abbrev S64x16x1 : Shape := ⟨3, ![64, 16, 1]⟩
abbrev S64x8x128 : Shape := ⟨3, ![64, 8, 128]⟩
abbrev S512x128 : Shape := ⟨2, ![512, 128]⟩
abbrev S64x8x1 : Shape := ⟨3, ![64, 8, 1]⟩
abbrev S512x1 : Shape := ⟨2, ![512, 1]⟩
abbrev S8x512 : Shape := ⟨2, ![8, 512]⟩
abbrev S1x512 : Shape := ⟨2, ![1, 512]⟩
abbrev S1x1x512x128 : Shape := ⟨4, ![1, 1, 512, 128]⟩
abbrev S512x512 : Shape := ⟨2, ![512, 512]⟩
abbrev S1x512x128 : Shape := ⟨3, ![1, 512, 128]⟩
abbrev S64x8x512 : Shape := ⟨3, ![64, 8, 512]⟩
abbrev S512 : Shape := ⟨1, ![512]⟩
abbrev S1x1x128x512 : Shape := ⟨4, ![1, 1, 128, 512]⟩
abbrev S1x1 : Shape := ⟨2, ![1, 1]⟩
abbrev S1x64x8x128 : Shape := ⟨4, ![1, 64, 8, 128]⟩

abbrev nBuf : Space → Nat
  | .hbm => 11
  | .vmem => 17
  | .smem => 2
  | _ => 0

abbrev bufTy : (tb : Table) → Fin (tcTables nBuf tb) → BufTy
  | .hbm, ⟨0, _⟩ => ⟨S4x16384x16x128, .bf16⟩
  | .hbm, ⟨1, _⟩ => ⟨S4x2x4096x128, .fp8e4m3⟩
  | .hbm, ⟨2, _⟩ => ⟨S4x2x4096, .f32⟩
  | .hbm, ⟨3, _⟩ => ⟨S4x2x4096x128, .fp8e4m3⟩
  | .hbm, ⟨4, _⟩ => ⟨S4x2, .f32⟩
  | .hbm, ⟨5, _⟩ => ⟨S4x2x128x4096, .fp8e4m3⟩
  | .hbm, ⟨6, _⟩ => ⟨S4x2x4096x1, .f32⟩
  | .hbm, ⟨7, _⟩ => ⟨S4x2x4096x128, .f32⟩
  | .hbm, ⟨8, _⟩ => ⟨S4x16384x16x128, .bf16⟩
  | .hbm, ⟨9, _⟩ => ⟨S4x16384x16x128, .fp8e4m3⟩
  | .hbm, ⟨10, _⟩ => ⟨S4x16384x16, .f32⟩
  | .local _ .vmem, ⟨0, _⟩ => ⟨S1x64x16x128, .bf16⟩
  | .local _ .vmem, ⟨1, _⟩ => ⟨S1x64x16x128, .bf16⟩
  | .local _ .vmem, ⟨2, _⟩ => ⟨S1x2x4096x128, .fp8e4m3⟩
  | .local _ .vmem, ⟨3, _⟩ => ⟨S1x2x4096x128, .fp8e4m3⟩
  | .local _ .vmem, ⟨4, _⟩ => ⟨S1x2x4096x128, .f32⟩
  | .local _ .vmem, ⟨5, _⟩ => ⟨S1x2x4096x128, .f32⟩
  | .local _ .vmem, ⟨6, _⟩ => ⟨S1x2x128x4096, .fp8e4m3⟩
  | .local _ .vmem, ⟨7, _⟩ => ⟨S1x2x128x4096, .fp8e4m3⟩
  | .local _ .vmem, ⟨8, _⟩ => ⟨S1x64x16x128, .bf16⟩
  | .local _ .vmem, ⟨9, _⟩ => ⟨S1x64x16x128, .bf16⟩
  | .local _ .vmem, ⟨10, _⟩ => ⟨S1x64x16x128, .fp8e4m3⟩
  | .local _ .vmem, ⟨11, _⟩ => ⟨S1x64x16x128, .fp8e4m3⟩
  | .local _ .vmem, ⟨12, _⟩ => ⟨S1x64x16, .f32⟩
  | .local _ .vmem, ⟨13, _⟩ => ⟨S1x64x16, .f32⟩
  | .local _ .vmem, ⟨14, _⟩ => ⟨S2x4096x128, .f32⟩
  | .local _ .vmem, ⟨15, _⟩ => ⟨S4096x512, .f32⟩
  | .local _ .vmem, ⟨16, _⟩ => ⟨S128x512, .f32⟩
  | .local _ .smem, ⟨0, _⟩ => ⟨S4, .i32⟩
  | .local _ .smem, ⟨1, _⟩ => ⟨S4x2, .f32⟩
  | _, _ => ⟨S4x16384x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 256], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
@[reducible] def k0_t1_loop (v4 : BitVec 32) : Scf.Loop 32 :=
  let c0_i32_29 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v121 : BitVec 32 := Scalar.subi v21 c0_i32_29
  let c1_i32_30 : BitVec 32 := 1#32
  let v123 : BitVec 32 := Scalar.divsi v121 c1_i32_30
  let v124 : BitVec 32 := Scalar.muli v123 c1_i32_30
  let v125 : BitVec 32 := Scalar.addi c0_i32_29 v124
  let c1_i32_31 : BitVec 32 := 1#32
  ⟨c0_i32_29, v125, c1_i32_31⟩

def k0_off2 (v4 : BitVec 32) (k0_t1 : Fin (k0_t1_loop v4).trips) : Fin 4 → Nat :=
  let c0_81 : Index := 0#32
  let c0_82 : Index := 0#32
  let c0_i32_29 : BitVec 32 := 0#32
  let c1_i32_31 : BitVec 32 := 1#32
  let arg14 : BitVec 32 := Scf.iv c0_i32_29 c1_i32_31 k0_t1
  let c512_i32_80 : BitVec 32 := 512#32
  let v232 : BitVec 32 := Scalar.muli arg14 c512_i32_80
  let v233 : Index := Scalar.indexCast v232
  let c0_83 : Index := 0#32
  ![0, 0, v233.toNat, 0]
def k0_off3 (v4 : BitVec 32) (k0_t1 : Fin (k0_t1_loop v4).trips) : Fin 3 → Nat :=
  let c0_86 : Index := 0#32
  let c0_i32_29 : BitVec 32 := 0#32
  let c1_i32_31 : BitVec 32 := 1#32
  let arg14 : BitVec 32 := Scf.iv c0_i32_29 c1_i32_31 k0_t1
  let c512_i32_85 : BitVec 32 := 512#32
  let v237 : BitVec 32 := Scalar.muli arg14 c512_i32_85
  let v238 : Index := Scalar.indexCast v237
  let c0_87 : Index := 0#32
  ![0, v238.toNat, 0]
def k0_off4 (v4 : BitVec 32) (k0_t1 : Fin (k0_t1_loop v4).trips) : Fin 2 → Nat :=
  let c0_i32_29 : BitVec 32 := 0#32
  let c1_i32_31 : BitVec 32 := 1#32
  let arg14 : BitVec 32 := Scf.iv c0_i32_29 c1_i32_31 k0_t1
  let c512_i32_88 : BitVec 32 := 512#32
  let v243 : BitVec 32 := Scalar.muli arg14 c512_i32_88
  let v244 : Index := Scalar.indexCast v243
  let c0_89 : Index := 0#32
  ![v244.toNat, 0]
@[reducible] def k0_t2_loop (v4 : BitVec 32) : Scf.Loop 32 :=
  let c0_i32_29 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v121 : BitVec 32 := Scalar.subi v21 c0_i32_29
  let c1_i32_30 : BitVec 32 := 1#32
  let v123 : BitVec 32 := Scalar.divsi v121 c1_i32_30
  let v124 : BitVec 32 := Scalar.muli v123 c1_i32_30
  let v125 : BitVec 32 := Scalar.addi c0_i32_29 v124
  let v122 : BitVec 32 := Scalar.addi c0_i32_29 v121
  let c1_i32_32 : BitVec 32 := 1#32
  ⟨v125, v122, c1_i32_32⟩
def k0_off5 (v4 : BitVec 32) (k0_t2 : Fin (k0_t2_loop v4).trips) : Fin 4 → Nat :=
  let c0_81 : Index := 0#32
  let c0_82 : Index := 0#32
  let c0_i32_29 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v121 : BitVec 32 := Scalar.subi v21 c0_i32_29
  let c1_i32_30 : BitVec 32 := 1#32
  let v123 : BitVec 32 := Scalar.divsi v121 c1_i32_30
  let v124 : BitVec 32 := Scalar.muli v123 c1_i32_30
  let v125 : BitVec 32 := Scalar.addi c0_i32_29 v124
  let c1_i32_32 : BitVec 32 := 1#32
  let arg14 : BitVec 32 := Scf.iv v125 c1_i32_32 k0_t2
  let c512_i32_80 : BitVec 32 := 512#32
  let v232 : BitVec 32 := Scalar.muli arg14 c512_i32_80
  let v233 : Index := Scalar.indexCast v232
  let c0_83 : Index := 0#32
  ![0, 0, v233.toNat, 0]
def k0_off6 (v4 : BitVec 32) (k0_t2 : Fin (k0_t2_loop v4).trips) : Fin 3 → Nat :=
  let c0_86 : Index := 0#32
  let c0_i32_29 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v121 : BitVec 32 := Scalar.subi v21 c0_i32_29
  let c1_i32_30 : BitVec 32 := 1#32
  let v123 : BitVec 32 := Scalar.divsi v121 c1_i32_30
  let v124 : BitVec 32 := Scalar.muli v123 c1_i32_30
  let v125 : BitVec 32 := Scalar.addi c0_i32_29 v124
  let c1_i32_32 : BitVec 32 := 1#32
  let arg14 : BitVec 32 := Scf.iv v125 c1_i32_32 k0_t2
  let c512_i32_85 : BitVec 32 := 512#32
  let v237 : BitVec 32 := Scalar.muli arg14 c512_i32_85
  let v238 : Index := Scalar.indexCast v237
  let c0_87 : Index := 0#32
  ![0, v238.toNat, 0]
def k0_off7 (v4 : BitVec 32) (k0_t2 : Fin (k0_t2_loop v4).trips) : Fin 2 → Nat :=
  let c0_i32_29 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v121 : BitVec 32 := Scalar.subi v21 c0_i32_29
  let c1_i32_30 : BitVec 32 := 1#32
  let v123 : BitVec 32 := Scalar.divsi v121 c1_i32_30
  let v124 : BitVec 32 := Scalar.muli v123 c1_i32_30
  let v125 : BitVec 32 := Scalar.addi c0_i32_29 v124
  let c1_i32_32 : BitVec 32 := 1#32
  let arg14 : BitVec 32 := Scf.iv v125 c1_i32_32 k0_t2
  let c512_i32_88 : BitVec 32 := 512#32
  let v243 : BitVec 32 := Scalar.muli arg14 c512_i32_88
  let v244 : Index := Scalar.indexCast v243
  let c0_89 : Index := 0#32
  ![v244.toNat, 0]
@[reducible] def k0_t3_loop (v4 : BitVec 32) : Scf.Loop 32 :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v128 : BitVec 32 := Scalar.subi v26 v21
  let c1_i32_33 : BitVec 32 := 1#32
  let v130 : BitVec 32 := Scalar.divsi v128 c1_i32_33
  let v131 : BitVec 32 := Scalar.muli v130 c1_i32_33
  let v132 : BitVec 32 := Scalar.addi v21 v131
  let c1_i32_34 : BitVec 32 := 1#32
  ⟨v21, v132, c1_i32_34⟩
def k0_off8 (v4 : BitVec 32) (k0_t3 : Fin (k0_t3_loop v4).trips) : Fin 4 → Nat :=
  let c0_81 : Index := 0#32
  let c0_82 : Index := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_34 : BitVec 32 := 1#32
  let arg14 : BitVec 32 := Scf.iv v21 c1_i32_34 k0_t3
  let c512_i32_80 : BitVec 32 := 512#32
  let v232 : BitVec 32 := Scalar.muli arg14 c512_i32_80
  let v233 : Index := Scalar.indexCast v232
  let c0_83 : Index := 0#32
  ![0, 0, v233.toNat, 0]
def k0_off9 (v4 : BitVec 32) (k0_t3 : Fin (k0_t3_loop v4).trips) : Fin 3 → Nat :=
  let c0_86 : Index := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_34 : BitVec 32 := 1#32
  let arg14 : BitVec 32 := Scf.iv v21 c1_i32_34 k0_t3
  let c512_i32_85 : BitVec 32 := 512#32
  let v237 : BitVec 32 := Scalar.muli arg14 c512_i32_85
  let v238 : Index := Scalar.indexCast v237
  let c0_87 : Index := 0#32
  ![0, v238.toNat, 0]
def k0_off10 (v4 : BitVec 32) (k0_t3 : Fin (k0_t3_loop v4).trips) : Fin 2 → Nat :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_34 : BitVec 32 := 1#32
  let arg14 : BitVec 32 := Scf.iv v21 c1_i32_34 k0_t3
  let c512_i32_90 : BitVec 32 := 512#32
  let v251 : BitVec 32 := Scalar.muli arg14 c512_i32_90
  let v252 : Index := Scalar.indexCast v251
  let c0_91 : Index := 0#32
  ![v252.toNat, 0]
@[reducible] def k0_t4_loop (v4 : BitVec 32) : Scf.Loop 32 :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v128 : BitVec 32 := Scalar.subi v26 v21
  let c1_i32_33 : BitVec 32 := 1#32
  let v130 : BitVec 32 := Scalar.divsi v128 c1_i32_33
  let v131 : BitVec 32 := Scalar.muli v130 c1_i32_33
  let v132 : BitVec 32 := Scalar.addi v21 v131
  let v129 : BitVec 32 := Scalar.addi v21 v128
  let c1_i32_35 : BitVec 32 := 1#32
  ⟨v132, v129, c1_i32_35⟩
def k0_off11 (v4 : BitVec 32) (k0_t4 : Fin (k0_t4_loop v4).trips) : Fin 4 → Nat :=
  let c0_81 : Index := 0#32
  let c0_82 : Index := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v128 : BitVec 32 := Scalar.subi v26 v21
  let c1_i32_33 : BitVec 32 := 1#32
  let v130 : BitVec 32 := Scalar.divsi v128 c1_i32_33
  let v131 : BitVec 32 := Scalar.muli v130 c1_i32_33
  let v132 : BitVec 32 := Scalar.addi v21 v131
  let c1_i32_35 : BitVec 32 := 1#32
  let arg14 : BitVec 32 := Scf.iv v132 c1_i32_35 k0_t4
  let c512_i32_80 : BitVec 32 := 512#32
  let v232 : BitVec 32 := Scalar.muli arg14 c512_i32_80
  let v233 : Index := Scalar.indexCast v232
  let c0_83 : Index := 0#32
  ![0, 0, v233.toNat, 0]
def k0_off12 (v4 : BitVec 32) (k0_t4 : Fin (k0_t4_loop v4).trips) : Fin 3 → Nat :=
  let c0_86 : Index := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v128 : BitVec 32 := Scalar.subi v26 v21
  let c1_i32_33 : BitVec 32 := 1#32
  let v130 : BitVec 32 := Scalar.divsi v128 c1_i32_33
  let v131 : BitVec 32 := Scalar.muli v130 c1_i32_33
  let v132 : BitVec 32 := Scalar.addi v21 v131
  let c1_i32_35 : BitVec 32 := 1#32
  let arg14 : BitVec 32 := Scf.iv v132 c1_i32_35 k0_t4
  let c512_i32_85 : BitVec 32 := 512#32
  let v237 : BitVec 32 := Scalar.muli arg14 c512_i32_85
  let v238 : Index := Scalar.indexCast v237
  let c0_87 : Index := 0#32
  ![0, v238.toNat, 0]
def k0_off13 (v4 : BitVec 32) (k0_t4 : Fin (k0_t4_loop v4).trips) : Fin 2 → Nat :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v128 : BitVec 32 := Scalar.subi v26 v21
  let c1_i32_33 : BitVec 32 := 1#32
  let v130 : BitVec 32 := Scalar.divsi v128 c1_i32_33
  let v131 : BitVec 32 := Scalar.muli v130 c1_i32_33
  let v132 : BitVec 32 := Scalar.addi v21 v131
  let c1_i32_35 : BitVec 32 := 1#32
  let arg14 : BitVec 32 := Scf.iv v132 c1_i32_35 k0_t4
  let c512_i32_90 : BitVec 32 := 512#32
  let v251 : BitVec 32 := Scalar.muli arg14 c512_i32_90
  let v252 : Index := Scalar.indexCast v251
  let c0_91 : Index := 0#32
  ![v252.toNat, 0]
@[reducible] def k0_t5_loop (v4 : BitVec 32) : Scf.Loop 32 :=
  let c0_i32_42 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v145 : BitVec 32 := Scalar.subi v26 c0_i32_42
  let c1_i32_43 : BitVec 32 := 1#32
  let v147 : BitVec 32 := Scalar.divsi v145 c1_i32_43
  let v148 : BitVec 32 := Scalar.muli v147 c1_i32_43
  let v149 : BitVec 32 := Scalar.addi c0_i32_42 v148
  let c1_i32_44 : BitVec 32 := 1#32
  ⟨c0_i32_42, v149, c1_i32_44⟩
def k0_off14 (v4 : BitVec 32) (k0_t5 : Fin (k0_t5_loop v4).trips) : Fin 2 → Nat :=
  let c0_i32_42 : BitVec 32 := 0#32
  let c1_i32_44 : BitVec 32 := 1#32
  let arg14 : BitVec 32 := Scf.iv c0_i32_42 c1_i32_44 k0_t5
  let c512_i32_80 : BitVec 32 := 512#32
  let v232 : BitVec 32 := Scalar.muli arg14 c512_i32_80
  let v233 : Index := Scalar.indexCast v232
  let c0_81 : Index := 0#32
  ![v233.toNat, 0]
def k0_mult1 (v4 : BitVec 32) (k0_t5 : Fin (k0_t5_loop v4).trips) : BitVec 32 :=
  let c0_i32_42 : BitVec 32 := 0#32
  let c1_i32_44 : BitVec 32 := 1#32
  let arg14 : BitVec 32 := Scf.iv c0_i32_42 c1_i32_44 k0_t5
  let c512_i32_85 : BitVec 32 := 512#32
  let v248 : BitVec 32 := Scalar.muli arg14 c512_i32_85
  v248
def k0_off15 (v4 : BitVec 32) (k0_t5 : Fin (k0_t5_loop v4).trips) : Fin 4 → Nat :=
  let c0_86 : Index := 0#32
  let c0_87 : Index := 0#32
  let c0_88 : Index := 0#32
  let c0_i32_42 : BitVec 32 := 0#32
  let c1_i32_44 : BitVec 32 := 1#32
  let arg14 : BitVec 32 := Scf.iv c0_i32_42 c1_i32_44 k0_t5
  let c512_i32_85 : BitVec 32 := 512#32
  let v248 : BitVec 32 := Scalar.muli arg14 c512_i32_85
  let v249 : BitVec 32 := v248
  let v250 : Index := Scalar.indexCast v249
  ![0, 0, 0, v250.toNat]
@[reducible] def k0_t6_loop (v4 : BitVec 32) : Scf.Loop 32 :=
  let c0_i32_42 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v145 : BitVec 32 := Scalar.subi v26 c0_i32_42
  let c1_i32_43 : BitVec 32 := 1#32
  let v147 : BitVec 32 := Scalar.divsi v145 c1_i32_43
  let v148 : BitVec 32 := Scalar.muli v147 c1_i32_43
  let v149 : BitVec 32 := Scalar.addi c0_i32_42 v148
  let v146 : BitVec 32 := Scalar.addi c0_i32_42 v145
  let c1_i32_45 : BitVec 32 := 1#32
  ⟨v149, v146, c1_i32_45⟩
def k0_off16 (v4 : BitVec 32) (k0_t6 : Fin (k0_t6_loop v4).trips) : Fin 2 → Nat :=
  let c0_i32_42 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v145 : BitVec 32 := Scalar.subi v26 c0_i32_42
  let c1_i32_43 : BitVec 32 := 1#32
  let v147 : BitVec 32 := Scalar.divsi v145 c1_i32_43
  let v148 : BitVec 32 := Scalar.muli v147 c1_i32_43
  let v149 : BitVec 32 := Scalar.addi c0_i32_42 v148
  let c1_i32_45 : BitVec 32 := 1#32
  let arg14 : BitVec 32 := Scf.iv v149 c1_i32_45 k0_t6
  let c512_i32_80 : BitVec 32 := 512#32
  let v232 : BitVec 32 := Scalar.muli arg14 c512_i32_80
  let v233 : Index := Scalar.indexCast v232
  let c0_81 : Index := 0#32
  ![v233.toNat, 0]
def k0_mult2 (v4 : BitVec 32) (k0_t6 : Fin (k0_t6_loop v4).trips) : BitVec 32 :=
  let c0_i32_42 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v145 : BitVec 32 := Scalar.subi v26 c0_i32_42
  let c1_i32_43 : BitVec 32 := 1#32
  let v147 : BitVec 32 := Scalar.divsi v145 c1_i32_43
  let v148 : BitVec 32 := Scalar.muli v147 c1_i32_43
  let v149 : BitVec 32 := Scalar.addi c0_i32_42 v148
  let c1_i32_45 : BitVec 32 := 1#32
  let arg14 : BitVec 32 := Scf.iv v149 c1_i32_45 k0_t6
  let c512_i32_85 : BitVec 32 := 512#32
  let v248 : BitVec 32 := Scalar.muli arg14 c512_i32_85
  v248
def k0_off17 (v4 : BitVec 32) (k0_t6 : Fin (k0_t6_loop v4).trips) : Fin 4 → Nat :=
  let c0_86 : Index := 0#32
  let c0_87 : Index := 0#32
  let c0_88 : Index := 0#32
  let c0_i32_42 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v145 : BitVec 32 := Scalar.subi v26 c0_i32_42
  let c1_i32_43 : BitVec 32 := 1#32
  let v147 : BitVec 32 := Scalar.divsi v145 c1_i32_43
  let v148 : BitVec 32 := Scalar.muli v147 c1_i32_43
  let v149 : BitVec 32 := Scalar.addi c0_i32_42 v148
  let c1_i32_45 : BitVec 32 := 1#32
  let arg14 : BitVec 32 := Scf.iv v149 c1_i32_45 k0_t6
  let c512_i32_85 : BitVec 32 := 512#32
  let v248 : BitVec 32 := Scalar.muli arg14 c512_i32_85
  let v249 : BitVec 32 := v248
  let v250 : Index := Scalar.indexCast v249
  ![0, 0, 0, v250.toNat]
def k0_off18 (i : grid0.Coords) : Fin 2 → Nat :=
  let arg0 : BitVec 32 := BitVec.ofNat 32 (i 0).val
  let v155 : Index := Scalar.indexCast arg0
  let c0_49 : Index := 0#32
  ![v155.toNat, 0]
@[reducible] def k0_t7_loop (v4 : BitVec 32) : Scf.Loop 32 :=
  let c0_i32_57 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v186 : BitVec 32 := Scalar.subi v21 c0_i32_57
  let c1_i32_58 : BitVec 32 := 1#32
  let v188 : BitVec 32 := Scalar.divsi v186 c1_i32_58
  let v189 : BitVec 32 := Scalar.muli v188 c1_i32_58
  let v190 : BitVec 32 := Scalar.addi c0_i32_57 v189
  let c1_i32_59 : BitVec 32 := 1#32
  ⟨c0_i32_57, v190, c1_i32_59⟩
def k0_off19 (v4 : BitVec 32) (k0_t7 : Fin (k0_t7_loop v4).trips) : Fin 4 → Nat :=
  let c0_81 : Index := 0#32
  let c1_82 : Index := 1#32
  let c0_i32_57 : BitVec 32 := 0#32
  let c1_i32_59 : BitVec 32 := 1#32
  let arg14 : BitVec 32 := Scf.iv c0_i32_57 c1_i32_59 k0_t7
  let c512_i32_80 : BitVec 32 := 512#32
  let v232 : BitVec 32 := Scalar.muli arg14 c512_i32_80
  let v233 : Index := Scalar.indexCast v232
  let c0_83 : Index := 0#32
  ![0, 1, v233.toNat, 0]
def k0_off20 (v4 : BitVec 32) (k0_t7 : Fin (k0_t7_loop v4).trips) : Fin 3 → Nat :=
  let c1_86 : Index := 1#32
  let c0_i32_57 : BitVec 32 := 0#32
  let c1_i32_59 : BitVec 32 := 1#32
  let arg14 : BitVec 32 := Scf.iv c0_i32_57 c1_i32_59 k0_t7
  let c512_i32_85 : BitVec 32 := 512#32
  let v237 : BitVec 32 := Scalar.muli arg14 c512_i32_85
  let v238 : Index := Scalar.indexCast v237
  let c0_87 : Index := 0#32
  ![1, v238.toNat, 0]
def k0_off21 (v4 : BitVec 32) (k0_t7 : Fin (k0_t7_loop v4).trips) : Fin 2 → Nat :=
  let c0_i32_57 : BitVec 32 := 0#32
  let c1_i32_59 : BitVec 32 := 1#32
  let arg14 : BitVec 32 := Scf.iv c0_i32_57 c1_i32_59 k0_t7
  let c512_i32_88 : BitVec 32 := 512#32
  let v243 : BitVec 32 := Scalar.muli arg14 c512_i32_88
  let v244 : Index := Scalar.indexCast v243
  let c0_89 : Index := 0#32
  ![v244.toNat, 0]
@[reducible] def k0_t8_loop (v4 : BitVec 32) : Scf.Loop 32 :=
  let c0_i32_57 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v186 : BitVec 32 := Scalar.subi v21 c0_i32_57
  let c1_i32_58 : BitVec 32 := 1#32
  let v188 : BitVec 32 := Scalar.divsi v186 c1_i32_58
  let v189 : BitVec 32 := Scalar.muli v188 c1_i32_58
  let v190 : BitVec 32 := Scalar.addi c0_i32_57 v189
  let v187 : BitVec 32 := Scalar.addi c0_i32_57 v186
  let c1_i32_60 : BitVec 32 := 1#32
  ⟨v190, v187, c1_i32_60⟩
def k0_off22 (v4 : BitVec 32) (k0_t8 : Fin (k0_t8_loop v4).trips) : Fin 4 → Nat :=
  let c0_81 : Index := 0#32
  let c1_82 : Index := 1#32
  let c0_i32_57 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v186 : BitVec 32 := Scalar.subi v21 c0_i32_57
  let c1_i32_58 : BitVec 32 := 1#32
  let v188 : BitVec 32 := Scalar.divsi v186 c1_i32_58
  let v189 : BitVec 32 := Scalar.muli v188 c1_i32_58
  let v190 : BitVec 32 := Scalar.addi c0_i32_57 v189
  let c1_i32_60 : BitVec 32 := 1#32
  let arg14 : BitVec 32 := Scf.iv v190 c1_i32_60 k0_t8
  let c512_i32_80 : BitVec 32 := 512#32
  let v232 : BitVec 32 := Scalar.muli arg14 c512_i32_80
  let v233 : Index := Scalar.indexCast v232
  let c0_83 : Index := 0#32
  ![0, 1, v233.toNat, 0]
def k0_off23 (v4 : BitVec 32) (k0_t8 : Fin (k0_t8_loop v4).trips) : Fin 3 → Nat :=
  let c1_86 : Index := 1#32
  let c0_i32_57 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v186 : BitVec 32 := Scalar.subi v21 c0_i32_57
  let c1_i32_58 : BitVec 32 := 1#32
  let v188 : BitVec 32 := Scalar.divsi v186 c1_i32_58
  let v189 : BitVec 32 := Scalar.muli v188 c1_i32_58
  let v190 : BitVec 32 := Scalar.addi c0_i32_57 v189
  let c1_i32_60 : BitVec 32 := 1#32
  let arg14 : BitVec 32 := Scf.iv v190 c1_i32_60 k0_t8
  let c512_i32_85 : BitVec 32 := 512#32
  let v237 : BitVec 32 := Scalar.muli arg14 c512_i32_85
  let v238 : Index := Scalar.indexCast v237
  let c0_87 : Index := 0#32
  ![1, v238.toNat, 0]
def k0_off24 (v4 : BitVec 32) (k0_t8 : Fin (k0_t8_loop v4).trips) : Fin 2 → Nat :=
  let c0_i32_57 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let v186 : BitVec 32 := Scalar.subi v21 c0_i32_57
  let c1_i32_58 : BitVec 32 := 1#32
  let v188 : BitVec 32 := Scalar.divsi v186 c1_i32_58
  let v189 : BitVec 32 := Scalar.muli v188 c1_i32_58
  let v190 : BitVec 32 := Scalar.addi c0_i32_57 v189
  let c1_i32_60 : BitVec 32 := 1#32
  let arg14 : BitVec 32 := Scf.iv v190 c1_i32_60 k0_t8
  let c512_i32_88 : BitVec 32 := 512#32
  let v243 : BitVec 32 := Scalar.muli arg14 c512_i32_88
  let v244 : Index := Scalar.indexCast v243
  let c0_89 : Index := 0#32
  ![v244.toNat, 0]
@[reducible] def k0_t9_loop (v4 : BitVec 32) : Scf.Loop 32 :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v193 : BitVec 32 := Scalar.subi v26 v21
  let c1_i32_61 : BitVec 32 := 1#32
  let v195 : BitVec 32 := Scalar.divsi v193 c1_i32_61
  let v196 : BitVec 32 := Scalar.muli v195 c1_i32_61
  let v197 : BitVec 32 := Scalar.addi v21 v196
  let c1_i32_62 : BitVec 32 := 1#32
  ⟨v21, v197, c1_i32_62⟩
def k0_off25 (v4 : BitVec 32) (k0_t9 : Fin (k0_t9_loop v4).trips) : Fin 4 → Nat :=
  let c0_81 : Index := 0#32
  let c1_82 : Index := 1#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_62 : BitVec 32 := 1#32
  let arg14 : BitVec 32 := Scf.iv v21 c1_i32_62 k0_t9
  let c512_i32_80 : BitVec 32 := 512#32
  let v232 : BitVec 32 := Scalar.muli arg14 c512_i32_80
  let v233 : Index := Scalar.indexCast v232
  let c0_83 : Index := 0#32
  ![0, 1, v233.toNat, 0]
def k0_off26 (v4 : BitVec 32) (k0_t9 : Fin (k0_t9_loop v4).trips) : Fin 3 → Nat :=
  let c1_86 : Index := 1#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_62 : BitVec 32 := 1#32
  let arg14 : BitVec 32 := Scf.iv v21 c1_i32_62 k0_t9
  let c512_i32_85 : BitVec 32 := 512#32
  let v237 : BitVec 32 := Scalar.muli arg14 c512_i32_85
  let v238 : Index := Scalar.indexCast v237
  let c0_87 : Index := 0#32
  ![1, v238.toNat, 0]
def k0_off27 (v4 : BitVec 32) (k0_t9 : Fin (k0_t9_loop v4).trips) : Fin 2 → Nat :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c1_i32_62 : BitVec 32 := 1#32
  let arg14 : BitVec 32 := Scf.iv v21 c1_i32_62 k0_t9
  let c512_i32_90 : BitVec 32 := 512#32
  let v251 : BitVec 32 := Scalar.muli arg14 c512_i32_90
  let v252 : Index := Scalar.indexCast v251
  let c0_91 : Index := 0#32
  ![v252.toNat, 0]
@[reducible] def k0_t10_loop (v4 : BitVec 32) : Scf.Loop 32 :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v193 : BitVec 32 := Scalar.subi v26 v21
  let c1_i32_61 : BitVec 32 := 1#32
  let v195 : BitVec 32 := Scalar.divsi v193 c1_i32_61
  let v196 : BitVec 32 := Scalar.muli v195 c1_i32_61
  let v197 : BitVec 32 := Scalar.addi v21 v196
  let v194 : BitVec 32 := Scalar.addi v21 v193
  let c1_i32_63 : BitVec 32 := 1#32
  ⟨v197, v194, c1_i32_63⟩
def k0_off28 (v4 : BitVec 32) (k0_t10 : Fin (k0_t10_loop v4).trips) : Fin 4 → Nat :=
  let c0_81 : Index := 0#32
  let c1_82 : Index := 1#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v193 : BitVec 32 := Scalar.subi v26 v21
  let c1_i32_61 : BitVec 32 := 1#32
  let v195 : BitVec 32 := Scalar.divsi v193 c1_i32_61
  let v196 : BitVec 32 := Scalar.muli v195 c1_i32_61
  let v197 : BitVec 32 := Scalar.addi v21 v196
  let c1_i32_63 : BitVec 32 := 1#32
  let arg14 : BitVec 32 := Scf.iv v197 c1_i32_63 k0_t10
  let c512_i32_80 : BitVec 32 := 512#32
  let v232 : BitVec 32 := Scalar.muli arg14 c512_i32_80
  let v233 : Index := Scalar.indexCast v232
  let c0_83 : Index := 0#32
  ![0, 1, v233.toNat, 0]
def k0_off29 (v4 : BitVec 32) (k0_t10 : Fin (k0_t10_loop v4).trips) : Fin 3 → Nat :=
  let c1_86 : Index := 1#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v193 : BitVec 32 := Scalar.subi v26 v21
  let c1_i32_61 : BitVec 32 := 1#32
  let v195 : BitVec 32 := Scalar.divsi v193 c1_i32_61
  let v196 : BitVec 32 := Scalar.muli v195 c1_i32_61
  let v197 : BitVec 32 := Scalar.addi v21 v196
  let c1_i32_63 : BitVec 32 := 1#32
  let arg14 : BitVec 32 := Scf.iv v197 c1_i32_63 k0_t10
  let c512_i32_85 : BitVec 32 := 512#32
  let v237 : BitVec 32 := Scalar.muli arg14 c512_i32_85
  let v238 : Index := Scalar.indexCast v237
  let c0_87 : Index := 0#32
  ![1, v238.toNat, 0]
def k0_off30 (v4 : BitVec 32) (k0_t10 : Fin (k0_t10_loop v4).trips) : Fin 2 → Nat :=
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v193 : BitVec 32 := Scalar.subi v26 v21
  let c1_i32_61 : BitVec 32 := 1#32
  let v195 : BitVec 32 := Scalar.divsi v193 c1_i32_61
  let v196 : BitVec 32 := Scalar.muli v195 c1_i32_61
  let v197 : BitVec 32 := Scalar.addi v21 v196
  let c1_i32_63 : BitVec 32 := 1#32
  let arg14 : BitVec 32 := Scf.iv v197 c1_i32_63 k0_t10
  let c512_i32_90 : BitVec 32 := 512#32
  let v251 : BitVec 32 := Scalar.muli arg14 c512_i32_90
  let v252 : Index := Scalar.indexCast v251
  let c0_91 : Index := 0#32
  ![v252.toNat, 0]
@[reducible] def k0_t11_loop (v4 : BitVec 32) : Scf.Loop 32 :=
  let c0_i32_70 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v210 : BitVec 32 := Scalar.subi v26 c0_i32_70
  let c1_i32_71 : BitVec 32 := 1#32
  let v212 : BitVec 32 := Scalar.divsi v210 c1_i32_71
  let v213 : BitVec 32 := Scalar.muli v212 c1_i32_71
  let v214 : BitVec 32 := Scalar.addi c0_i32_70 v213
  let c1_i32_72 : BitVec 32 := 1#32
  ⟨c0_i32_70, v214, c1_i32_72⟩
def k0_off31 (v4 : BitVec 32) (k0_t11 : Fin (k0_t11_loop v4).trips) : Fin 2 → Nat :=
  let c0_i32_70 : BitVec 32 := 0#32
  let c1_i32_72 : BitVec 32 := 1#32
  let arg14 : BitVec 32 := Scf.iv c0_i32_70 c1_i32_72 k0_t11
  let c512_i32_80 : BitVec 32 := 512#32
  let v232 : BitVec 32 := Scalar.muli arg14 c512_i32_80
  let v233 : Index := Scalar.indexCast v232
  let c0_81 : Index := 0#32
  ![v233.toNat, 0]
def k0_mult3 (v4 : BitVec 32) (k0_t11 : Fin (k0_t11_loop v4).trips) : BitVec 32 :=
  let c0_i32_70 : BitVec 32 := 0#32
  let c1_i32_72 : BitVec 32 := 1#32
  let arg14 : BitVec 32 := Scf.iv c0_i32_70 c1_i32_72 k0_t11
  let c512_i32_85 : BitVec 32 := 512#32
  let v248 : BitVec 32 := Scalar.muli arg14 c512_i32_85
  v248
def k0_off32 (v4 : BitVec 32) (k0_t11 : Fin (k0_t11_loop v4).trips) : Fin 4 → Nat :=
  let c0_86 : Index := 0#32
  let c1_87 : Index := 1#32
  let c0_88 : Index := 0#32
  let c0_i32_70 : BitVec 32 := 0#32
  let c1_i32_72 : BitVec 32 := 1#32
  let arg14 : BitVec 32 := Scf.iv c0_i32_70 c1_i32_72 k0_t11
  let c512_i32_85 : BitVec 32 := 512#32
  let v248 : BitVec 32 := Scalar.muli arg14 c512_i32_85
  let v249 : BitVec 32 := v248
  let v250 : Index := Scalar.indexCast v249
  ![0, 1, 0, v250.toNat]
@[reducible] def k0_t12_loop (v4 : BitVec 32) : Scf.Loop 32 :=
  let c0_i32_70 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v210 : BitVec 32 := Scalar.subi v26 c0_i32_70
  let c1_i32_71 : BitVec 32 := 1#32
  let v212 : BitVec 32 := Scalar.divsi v210 c1_i32_71
  let v213 : BitVec 32 := Scalar.muli v212 c1_i32_71
  let v214 : BitVec 32 := Scalar.addi c0_i32_70 v213
  let v211 : BitVec 32 := Scalar.addi c0_i32_70 v210
  let c1_i32_73 : BitVec 32 := 1#32
  ⟨v214, v211, c1_i32_73⟩
def k0_off33 (v4 : BitVec 32) (k0_t12 : Fin (k0_t12_loop v4).trips) : Fin 2 → Nat :=
  let c0_i32_70 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v210 : BitVec 32 := Scalar.subi v26 c0_i32_70
  let c1_i32_71 : BitVec 32 := 1#32
  let v212 : BitVec 32 := Scalar.divsi v210 c1_i32_71
  let v213 : BitVec 32 := Scalar.muli v212 c1_i32_71
  let v214 : BitVec 32 := Scalar.addi c0_i32_70 v213
  let c1_i32_73 : BitVec 32 := 1#32
  let arg14 : BitVec 32 := Scf.iv v214 c1_i32_73 k0_t12
  let c512_i32_80 : BitVec 32 := 512#32
  let v232 : BitVec 32 := Scalar.muli arg14 c512_i32_80
  let v233 : Index := Scalar.indexCast v232
  let c0_81 : Index := 0#32
  ![v233.toNat, 0]
def k0_mult4 (v4 : BitVec 32) (k0_t12 : Fin (k0_t12_loop v4).trips) : BitVec 32 :=
  let c0_i32_70 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v210 : BitVec 32 := Scalar.subi v26 c0_i32_70
  let c1_i32_71 : BitVec 32 := 1#32
  let v212 : BitVec 32 := Scalar.divsi v210 c1_i32_71
  let v213 : BitVec 32 := Scalar.muli v212 c1_i32_71
  let v214 : BitVec 32 := Scalar.addi c0_i32_70 v213
  let c1_i32_73 : BitVec 32 := 1#32
  let arg14 : BitVec 32 := Scf.iv v214 c1_i32_73 k0_t12
  let c512_i32_85 : BitVec 32 := 512#32
  let v248 : BitVec 32 := Scalar.muli arg14 c512_i32_85
  v248
def k0_off34 (v4 : BitVec 32) (k0_t12 : Fin (k0_t12_loop v4).trips) : Fin 4 → Nat :=
  let c0_86 : Index := 0#32
  let c1_87 : Index := 1#32
  let c0_88 : Index := 0#32
  let c0_i32_70 : BitVec 32 := 0#32
  let c0_i32_1 : BitVec 32 := 0#32
  let v6 : BitVec 1 := Scalar.cmpi .sgt v4 c0_i32_1
  let v7 : BitVec 32 := Scalar.extui v6
  let c0_i32_2 : BitVec 32 := 0#32
  let v8 : BitVec 1 := Scalar.cmpi .slt v4 c0_i32_2
  let v9 : BitVec 32 := Scalar.extui v8
  let v10 : BitVec 32 := Scalar.subi v7 v9
  let c512_i32 : BitVec 32 := 512#32
  let c0_i32_3 : BitVec 32 := 0#32
  let v11 : BitVec 1 := Scalar.cmpi .sgt c512_i32 c0_i32_3
  let v12 : BitVec 32 := Scalar.extui v11
  let c0_i32_4 : BitVec 32 := 0#32
  let v13 : BitVec 1 := Scalar.cmpi .slt c512_i32 c0_i32_4
  let v14 : BitVec 32 := Scalar.extui v13
  let v15 : BitVec 32 := Scalar.subi v12 v14
  let v16 : BitVec 1 := Scalar.cmpi .ne v10 v15
  let v17 : BitVec 32 := Scalar.remsi v4 c512_i32
  let c0_i32_5 : BitVec 32 := 0#32
  let v18 : BitVec 1 := Scalar.cmpi .ne v17 c0_i32_5
  let v19 : BitVec 1 := Scalar.andi v16 v18
  let v5 : BitVec 32 := Scalar.divsi v4 c512_i32
  let c1_i32 : BitVec 32 := 1#32
  let v20 : BitVec 32 := Scalar.subi v5 c1_i32
  let v21 : BitVec 32 := Scalar.select v19 v20 v5
  let c512_i32_6 : BitVec 32 := 512#32
  let v22 : BitVec 32 := Scalar.muli v21 c512_i32_6
  let v23 : BitVec 32 := Scalar.subi v4 v22
  let c0_i32_7 : BitVec 32 := 0#32
  let v24 : BitVec 1 := Scalar.cmpi .sgt v23 c0_i32_7
  let v25 : BitVec 32 := Scalar.extui v24
  let v26 : BitVec 32 := Scalar.addi v21 v25
  let v210 : BitVec 32 := Scalar.subi v26 c0_i32_70
  let c1_i32_71 : BitVec 32 := 1#32
  let v212 : BitVec 32 := Scalar.divsi v210 c1_i32_71
  let v213 : BitVec 32 := Scalar.muli v212 c1_i32_71
  let v214 : BitVec 32 := Scalar.addi c0_i32_70 v213
  let c1_i32_73 : BitVec 32 := 1#32
  let arg14 : BitVec 32 := Scf.iv v214 c1_i32_73 k0_t12
  let c512_i32_85 : BitVec 32 := 512#32
  let v248 : BitVec 32 := Scalar.muli arg14 c512_i32_85
  let v249 : BitVec 32 := v248
  let v250 : Index := Scalar.indexCast v249
  ![0, 1, 0, v250.toNat]

def k0_chk1_0 (v4 : BitVec 32) : Prop :=
  ((k0_t1_loop v4).OK) ∧
  (∀ k0_t1 : Fin (k0_t1_loop v4).trips, ∀ a, (k0_off2 v4 k0_t1) a + S1x1x512x128.size a ≤ S1x2x4096x128.size a) ∧
  (∀ k0_t1 : Fin (k0_t1_loop v4).trips, ∀ a, (k0_off3 v4 k0_t1) a + S1x512x128.size a ≤ S2x4096x128.size a) ∧
  (∀ k0_t1 : Fin (k0_t1_loop v4).trips, ∀ a, (k0_off4 v4 k0_t1) a + S512x512.size a ≤ S4096x512.size a) ∧
  ((k0_t2_loop v4).OK) ∧
  (∀ k0_t2 : Fin (k0_t2_loop v4).trips, ∀ a, (k0_off5 v4 k0_t2) a + S1x1x512x128.size a ≤ S1x2x4096x128.size a) ∧
  (∀ k0_t2 : Fin (k0_t2_loop v4).trips, ∀ a, (k0_off6 v4 k0_t2) a + S1x512x128.size a ≤ S2x4096x128.size a) ∧
  (∀ k0_t2 : Fin (k0_t2_loop v4).trips, ∀ a, (k0_off7 v4 k0_t2) a + S512x512.size a ≤ S4096x512.size a) ∧
  ((k0_t3_loop v4).OK) ∧
  (∀ k0_t3 : Fin (k0_t3_loop v4).trips, ∀ a, (k0_off8 v4 k0_t3) a + S1x1x512x128.size a ≤ S1x2x4096x128.size a) ∧
  (∀ k0_t3 : Fin (k0_t3_loop v4).trips, ∀ a, (k0_off9 v4 k0_t3) a + S1x512x128.size a ≤ S2x4096x128.size a) ∧
  (∀ k0_t3 : Fin (k0_t3_loop v4).trips, ∀ a, (k0_off10 v4 k0_t3) a + S512x512.size a ≤ S4096x512.size a) ∧
  ((k0_t4_loop v4).OK) ∧
  (∀ k0_t4 : Fin (k0_t4_loop v4).trips, ∀ a, (k0_off11 v4 k0_t4) a + S1x1x512x128.size a ≤ S1x2x4096x128.size a) ∧
  (∀ k0_t4 : Fin (k0_t4_loop v4).trips, ∀ a, (k0_off12 v4 k0_t4) a + S1x512x128.size a ≤ S2x4096x128.size a) ∧
  (∀ k0_t4 : Fin (k0_t4_loop v4).trips, ∀ a, (k0_off13 v4 k0_t4) a + S512x512.size a ≤ S4096x512.size a) ∧
  ((k0_t5_loop v4).OK) ∧
  (∀ k0_t5 : Fin (k0_t5_loop v4).trips, ∀ a, (k0_off14 v4 k0_t5) a + S512x512.size a ≤ S4096x512.size a) ∧
  (∀ k0_t5 : Fin (k0_t5_loop v4).trips, 512 ∣ (k0_mult1 v4 k0_t5).toNat) ∧
  (∀ k0_t5 : Fin (k0_t5_loop v4).trips, ∀ a, (k0_off15 v4 k0_t5) a + S1x1x128x512.size a ≤ S1x2x128x4096.size a) ∧
  ((k0_t6_loop v4).OK) ∧
  (∀ k0_t6 : Fin (k0_t6_loop v4).trips, ∀ a, (k0_off16 v4 k0_t6) a + S512x512.size a ≤ S4096x512.size a) ∧
  (∀ k0_t6 : Fin (k0_t6_loop v4).trips, 512 ∣ (k0_mult2 v4 k0_t6).toNat) ∧
  (∀ k0_t6 : Fin (k0_t6_loop v4).trips, ∀ a, (k0_off17 v4 k0_t6) a + S1x1x128x512.size a ≤ S1x2x128x4096.size a) ∧
  ((k0_t7_loop v4).OK) ∧
  (∀ k0_t7 : Fin (k0_t7_loop v4).trips, ∀ a, (k0_off19 v4 k0_t7) a + S1x1x512x128.size a ≤ S1x2x4096x128.size a) ∧
  (∀ k0_t7 : Fin (k0_t7_loop v4).trips, ∀ a, (k0_off20 v4 k0_t7) a + S1x512x128.size a ≤ S2x4096x128.size a) ∧
  (∀ k0_t7 : Fin (k0_t7_loop v4).trips, ∀ a, (k0_off21 v4 k0_t7) a + S512x512.size a ≤ S4096x512.size a) ∧
  ((k0_t8_loop v4).OK) ∧
  (∀ k0_t8 : Fin (k0_t8_loop v4).trips, ∀ a, (k0_off22 v4 k0_t8) a + S1x1x512x128.size a ≤ S1x2x4096x128.size a) ∧
  (∀ k0_t8 : Fin (k0_t8_loop v4).trips, ∀ a, (k0_off23 v4 k0_t8) a + S1x512x128.size a ≤ S2x4096x128.size a) ∧
  (∀ k0_t8 : Fin (k0_t8_loop v4).trips, ∀ a, (k0_off24 v4 k0_t8) a + S512x512.size a ≤ S4096x512.size a)
def k0_chk1_1 (v4 : BitVec 32) : Prop :=
  ((k0_t9_loop v4).OK) ∧
  (∀ k0_t9 : Fin (k0_t9_loop v4).trips, ∀ a, (k0_off25 v4 k0_t9) a + S1x1x512x128.size a ≤ S1x2x4096x128.size a) ∧
  (∀ k0_t9 : Fin (k0_t9_loop v4).trips, ∀ a, (k0_off26 v4 k0_t9) a + S1x512x128.size a ≤ S2x4096x128.size a) ∧
  (∀ k0_t9 : Fin (k0_t9_loop v4).trips, ∀ a, (k0_off27 v4 k0_t9) a + S512x512.size a ≤ S4096x512.size a) ∧
  ((k0_t10_loop v4).OK) ∧
  (∀ k0_t10 : Fin (k0_t10_loop v4).trips, ∀ a, (k0_off28 v4 k0_t10) a + S1x1x512x128.size a ≤ S1x2x4096x128.size a) ∧
  (∀ k0_t10 : Fin (k0_t10_loop v4).trips, ∀ a, (k0_off29 v4 k0_t10) a + S1x512x128.size a ≤ S2x4096x128.size a) ∧
  (∀ k0_t10 : Fin (k0_t10_loop v4).trips, ∀ a, (k0_off30 v4 k0_t10) a + S512x512.size a ≤ S4096x512.size a) ∧
  ((k0_t11_loop v4).OK) ∧
  (∀ k0_t11 : Fin (k0_t11_loop v4).trips, ∀ a, (k0_off31 v4 k0_t11) a + S512x512.size a ≤ S4096x512.size a) ∧
  (∀ k0_t11 : Fin (k0_t11_loop v4).trips, 512 ∣ (k0_mult3 v4 k0_t11).toNat) ∧
  (∀ k0_t11 : Fin (k0_t11_loop v4).trips, ∀ a, (k0_off32 v4 k0_t11) a + S1x1x128x512.size a ≤ S1x2x128x4096.size a) ∧
  ((k0_t12_loop v4).OK) ∧
  (∀ k0_t12 : Fin (k0_t12_loop v4).trips, ∀ a, (k0_off33 v4 k0_t12) a + S512x512.size a ≤ S4096x512.size a) ∧
  (∀ k0_t12 : Fin (k0_t12_loop v4).trips, 512 ∣ (k0_mult4 v4 k0_t12).toNat) ∧
  (∀ k0_t12 : Fin (k0_t12_loop v4).trips, ∀ a, (k0_off34 v4 k0_t12) a + S1x1x128x512.size a ≤ S1x2x128x4096.size a)
def k0_chk1 (v4 : BitVec 32) : Prop :=
  k0_chk1_0 v4 ∧
  k0_chk1_1 v4
theorem k0_t1_ok : ∀ (v4 : BitVec 32) (k0_hw1 : k0_chk1 v4), (k0_t1_loop v4).OK := fun v4 k0_hw1 => k0_hw1.1.1
theorem k0_off2_inb : ∀ (v4 : BitVec 32) (k0_hw1 : k0_chk1 v4) (k0_t1 : Fin (k0_t1_loop v4).trips), ∀ a, (k0_off2 v4 k0_t1) a + S1x1x512x128.size a ≤ S1x2x4096x128.size a := fun v4 k0_hw1 k0_t1 => k0_hw1.1.2.1 k0_t1
theorem k0_off3_inb : ∀ (v4 : BitVec 32) (k0_hw1 : k0_chk1 v4) (k0_t1 : Fin (k0_t1_loop v4).trips), ∀ a, (k0_off3 v4 k0_t1) a + S1x512x128.size a ≤ S2x4096x128.size a := fun v4 k0_hw1 k0_t1 => k0_hw1.1.2.2.1 k0_t1
theorem k0_off4_inb : ∀ (v4 : BitVec 32) (k0_hw1 : k0_chk1 v4) (k0_t1 : Fin (k0_t1_loop v4).trips), ∀ a, (k0_off4 v4 k0_t1) a + S512x512.size a ≤ S4096x512.size a := fun v4 k0_hw1 k0_t1 => k0_hw1.1.2.2.2.1 k0_t1
theorem k0_t2_ok : ∀ (v4 : BitVec 32) (k0_hw1 : k0_chk1 v4), (k0_t2_loop v4).OK := fun v4 k0_hw1 => k0_hw1.1.2.2.2.2.1
theorem k0_off5_inb : ∀ (v4 : BitVec 32) (k0_hw1 : k0_chk1 v4) (k0_t2 : Fin (k0_t2_loop v4).trips), ∀ a, (k0_off5 v4 k0_t2) a + S1x1x512x128.size a ≤ S1x2x4096x128.size a := fun v4 k0_hw1 k0_t2 => k0_hw1.1.2.2.2.2.2.1 k0_t2
theorem k0_off6_inb : ∀ (v4 : BitVec 32) (k0_hw1 : k0_chk1 v4) (k0_t2 : Fin (k0_t2_loop v4).trips), ∀ a, (k0_off6 v4 k0_t2) a + S1x512x128.size a ≤ S2x4096x128.size a := fun v4 k0_hw1 k0_t2 => k0_hw1.1.2.2.2.2.2.2.1 k0_t2
theorem k0_off7_inb : ∀ (v4 : BitVec 32) (k0_hw1 : k0_chk1 v4) (k0_t2 : Fin (k0_t2_loop v4).trips), ∀ a, (k0_off7 v4 k0_t2) a + S512x512.size a ≤ S4096x512.size a := fun v4 k0_hw1 k0_t2 => k0_hw1.1.2.2.2.2.2.2.2.1 k0_t2
theorem k0_t3_ok : ∀ (v4 : BitVec 32) (k0_hw1 : k0_chk1 v4), (k0_t3_loop v4).OK := fun v4 k0_hw1 => k0_hw1.1.2.2.2.2.2.2.2.2.1
theorem k0_off8_inb : ∀ (v4 : BitVec 32) (k0_hw1 : k0_chk1 v4) (k0_t3 : Fin (k0_t3_loop v4).trips), ∀ a, (k0_off8 v4 k0_t3) a + S1x1x512x128.size a ≤ S1x2x4096x128.size a := fun v4 k0_hw1 k0_t3 => k0_hw1.1.2.2.2.2.2.2.2.2.2.1 k0_t3
theorem k0_off9_inb : ∀ (v4 : BitVec 32) (k0_hw1 : k0_chk1 v4) (k0_t3 : Fin (k0_t3_loop v4).trips), ∀ a, (k0_off9 v4 k0_t3) a + S1x512x128.size a ≤ S2x4096x128.size a := fun v4 k0_hw1 k0_t3 => k0_hw1.1.2.2.2.2.2.2.2.2.2.2.1 k0_t3
theorem k0_off10_inb : ∀ (v4 : BitVec 32) (k0_hw1 : k0_chk1 v4) (k0_t3 : Fin (k0_t3_loop v4).trips), ∀ a, (k0_off10 v4 k0_t3) a + S512x512.size a ≤ S4096x512.size a := fun v4 k0_hw1 k0_t3 => k0_hw1.1.2.2.2.2.2.2.2.2.2.2.2.1 k0_t3
theorem k0_t4_ok : ∀ (v4 : BitVec 32) (k0_hw1 : k0_chk1 v4), (k0_t4_loop v4).OK := fun v4 k0_hw1 => k0_hw1.1.2.2.2.2.2.2.2.2.2.2.2.2.1
theorem k0_off11_inb : ∀ (v4 : BitVec 32) (k0_hw1 : k0_chk1 v4) (k0_t4 : Fin (k0_t4_loop v4).trips), ∀ a, (k0_off11 v4 k0_t4) a + S1x1x512x128.size a ≤ S1x2x4096x128.size a := fun v4 k0_hw1 k0_t4 => k0_hw1.1.2.2.2.2.2.2.2.2.2.2.2.2.2.1 k0_t4
theorem k0_off12_inb : ∀ (v4 : BitVec 32) (k0_hw1 : k0_chk1 v4) (k0_t4 : Fin (k0_t4_loop v4).trips), ∀ a, (k0_off12 v4 k0_t4) a + S1x512x128.size a ≤ S2x4096x128.size a := fun v4 k0_hw1 k0_t4 => k0_hw1.1.2.2.2.2.2.2.2.2.2.2.2.2.2.2.1 k0_t4
theorem k0_off13_inb : ∀ (v4 : BitVec 32) (k0_hw1 : k0_chk1 v4) (k0_t4 : Fin (k0_t4_loop v4).trips), ∀ a, (k0_off13 v4 k0_t4) a + S512x512.size a ≤ S4096x512.size a := fun v4 k0_hw1 k0_t4 => k0_hw1.1.2.2.2.2.2.2.2.2.2.2.2.2.2.2.2.1 k0_t4
theorem k0_t5_ok : ∀ (v4 : BitVec 32) (k0_hw1 : k0_chk1 v4), (k0_t5_loop v4).OK := fun v4 k0_hw1 => k0_hw1.1.2.2.2.2.2.2.2.2.2.2.2.2.2.2.2.2.1
theorem k0_off14_inb : ∀ (v4 : BitVec 32) (k0_hw1 : k0_chk1 v4) (k0_t5 : Fin (k0_t5_loop v4).trips), ∀ a, (k0_off14 v4 k0_t5) a + S512x512.size a ≤ S4096x512.size a := fun v4 k0_hw1 k0_t5 => k0_hw1.1.2.2.2.2.2.2.2.2.2.2.2.2.2.2.2.2.2.1 k0_t5
theorem k0_mult1_dvd : ∀ (v4 : BitVec 32) (k0_hw1 : k0_chk1 v4) (k0_t5 : Fin (k0_t5_loop v4).trips), 512 ∣ (k0_mult1 v4 k0_t5).toNat := fun v4 k0_hw1 k0_t5 => k0_hw1.1.2.2.2.2.2.2.2.2.2.2.2.2.2.2.2.2.2.2.1 k0_t5
theorem k0_off15_inb : ∀ (v4 : BitVec 32) (k0_hw1 : k0_chk1 v4) (k0_t5 : Fin (k0_t5_loop v4).trips), ∀ a, (k0_off15 v4 k0_t5) a + S1x1x128x512.size a ≤ S1x2x128x4096.size a := fun v4 k0_hw1 k0_t5 => k0_hw1.1.2.2.2.2.2.2.2.2.2.2.2.2.2.2.2.2.2.2.2.1 k0_t5
theorem k0_t6_ok : ∀ (v4 : BitVec 32) (k0_hw1 : k0_chk1 v4), (k0_t6_loop v4).OK := fun v4 k0_hw1 => k0_hw1.1.2.2.2.2.2.2.2.2.2.2.2.2.2.2.2.2.2.2.2.2.1
theorem k0_off16_inb : ∀ (v4 : BitVec 32) (k0_hw1 : k0_chk1 v4) (k0_t6 : Fin (k0_t6_loop v4).trips), ∀ a, (k0_off16 v4 k0_t6) a + S512x512.size a ≤ S4096x512.size a := fun v4 k0_hw1 k0_t6 => k0_hw1.1.2.2.2.2.2.2.2.2.2.2.2.2.2.2.2.2.2.2.2.2.2.1 k0_t6
theorem k0_mult2_dvd : ∀ (v4 : BitVec 32) (k0_hw1 : k0_chk1 v4) (k0_t6 : Fin (k0_t6_loop v4).trips), 512 ∣ (k0_mult2 v4 k0_t6).toNat := fun v4 k0_hw1 k0_t6 => k0_hw1.1.2.2.2.2.2.2.2.2.2.2.2.2.2.2.2.2.2.2.2.2.2.2.1 k0_t6
theorem k0_off17_inb : ∀ (v4 : BitVec 32) (k0_hw1 : k0_chk1 v4) (k0_t6 : Fin (k0_t6_loop v4).trips), ∀ a, (k0_off17 v4 k0_t6) a + S1x1x128x512.size a ≤ S1x2x128x4096.size a := fun v4 k0_hw1 k0_t6 => k0_hw1.1.2.2.2.2.2.2.2.2.2.2.2.2.2.2.2.2.2.2.2.2.2.2.2.1 k0_t6
theorem k0_t7_ok : ∀ (v4 : BitVec 32) (k0_hw1 : k0_chk1 v4), (k0_t7_loop v4).OK := fun v4 k0_hw1 => k0_hw1.1.2.2.2.2.2.2.2.2.2.2.2.2.2.2.2.2.2.2.2.2.2.2.2.2.1
theorem k0_off19_inb : ∀ (v4 : BitVec 32) (k0_hw1 : k0_chk1 v4) (k0_t7 : Fin (k0_t7_loop v4).trips), ∀ a, (k0_off19 v4 k0_t7) a + S1x1x512x128.size a ≤ S1x2x4096x128.size a := fun v4 k0_hw1 k0_t7 => k0_hw1.1.2.2.2.2.2.2.2.2.2.2.2.2.2.2.2.2.2.2.2.2.2.2.2.2.2.1 k0_t7
theorem k0_off20_inb : ∀ (v4 : BitVec 32) (k0_hw1 : k0_chk1 v4) (k0_t7 : Fin (k0_t7_loop v4).trips), ∀ a, (k0_off20 v4 k0_t7) a + S1x512x128.size a ≤ S2x4096x128.size a := fun v4 k0_hw1 k0_t7 => k0_hw1.1.2.2.2.2.2.2.2.2.2.2.2.2.2.2.2.2.2.2.2.2.2.2.2.2.2.2.1 k0_t7
theorem k0_off21_inb : ∀ (v4 : BitVec 32) (k0_hw1 : k0_chk1 v4) (k0_t7 : Fin (k0_t7_loop v4).trips), ∀ a, (k0_off21 v4 k0_t7) a + S512x512.size a ≤ S4096x512.size a := fun v4 k0_hw1 k0_t7 => k0_hw1.1.2.2.2.2.2.2.2.2.2.2.2.2.2.2.2.2.2.2.2.2.2.2.2.2.2.2.2.1 k0_t7
theorem k0_t8_ok : ∀ (v4 : BitVec 32) (k0_hw1 : k0_chk1 v4), (k0_t8_loop v4).OK := fun v4 k0_hw1 => k0_hw1.1.2.2.2.2.2.2.2.2.2.2.2.2.2.2.2.2.2.2.2.2.2.2.2.2.2.2.2.2.1
theorem k0_off22_inb : ∀ (v4 : BitVec 32) (k0_hw1 : k0_chk1 v4) (k0_t8 : Fin (k0_t8_loop v4).trips), ∀ a, (k0_off22 v4 k0_t8) a + S1x1x512x128.size a ≤ S1x2x4096x128.size a := fun v4 k0_hw1 k0_t8 => k0_hw1.1.2.2.2.2.2.2.2.2.2.2.2.2.2.2.2.2.2.2.2.2.2.2.2.2.2.2.2.2.2.1 k0_t8
theorem k0_off23_inb : ∀ (v4 : BitVec 32) (k0_hw1 : k0_chk1 v4) (k0_t8 : Fin (k0_t8_loop v4).trips), ∀ a, (k0_off23 v4 k0_t8) a + S1x512x128.size a ≤ S2x4096x128.size a := fun v4 k0_hw1 k0_t8 => k0_hw1.1.2.2.2.2.2.2.2.2.2.2.2.2.2.2.2.2.2.2.2.2.2.2.2.2.2.2.2.2.2.2.1 k0_t8
theorem k0_off24_inb : ∀ (v4 : BitVec 32) (k0_hw1 : k0_chk1 v4) (k0_t8 : Fin (k0_t8_loop v4).trips), ∀ a, (k0_off24 v4 k0_t8) a + S512x512.size a ≤ S4096x512.size a := fun v4 k0_hw1 k0_t8 => k0_hw1.1.2.2.2.2.2.2.2.2.2.2.2.2.2.2.2.2.2.2.2.2.2.2.2.2.2.2.2.2.2.2.2 k0_t8
theorem k0_t9_ok : ∀ (v4 : BitVec 32) (k0_hw1 : k0_chk1 v4), (k0_t9_loop v4).OK := fun v4 k0_hw1 => k0_hw1.2.1
theorem k0_off25_inb : ∀ (v4 : BitVec 32) (k0_hw1 : k0_chk1 v4) (k0_t9 : Fin (k0_t9_loop v4).trips), ∀ a, (k0_off25 v4 k0_t9) a + S1x1x512x128.size a ≤ S1x2x4096x128.size a := fun v4 k0_hw1 k0_t9 => k0_hw1.2.2.1 k0_t9
theorem k0_off26_inb : ∀ (v4 : BitVec 32) (k0_hw1 : k0_chk1 v4) (k0_t9 : Fin (k0_t9_loop v4).trips), ∀ a, (k0_off26 v4 k0_t9) a + S1x512x128.size a ≤ S2x4096x128.size a := fun v4 k0_hw1 k0_t9 => k0_hw1.2.2.2.1 k0_t9
theorem k0_off27_inb : ∀ (v4 : BitVec 32) (k0_hw1 : k0_chk1 v4) (k0_t9 : Fin (k0_t9_loop v4).trips), ∀ a, (k0_off27 v4 k0_t9) a + S512x512.size a ≤ S4096x512.size a := fun v4 k0_hw1 k0_t9 => k0_hw1.2.2.2.2.1 k0_t9
theorem k0_t10_ok : ∀ (v4 : BitVec 32) (k0_hw1 : k0_chk1 v4), (k0_t10_loop v4).OK := fun v4 k0_hw1 => k0_hw1.2.2.2.2.2.1
theorem k0_off28_inb : ∀ (v4 : BitVec 32) (k0_hw1 : k0_chk1 v4) (k0_t10 : Fin (k0_t10_loop v4).trips), ∀ a, (k0_off28 v4 k0_t10) a + S1x1x512x128.size a ≤ S1x2x4096x128.size a := fun v4 k0_hw1 k0_t10 => k0_hw1.2.2.2.2.2.2.1 k0_t10
theorem k0_off29_inb : ∀ (v4 : BitVec 32) (k0_hw1 : k0_chk1 v4) (k0_t10 : Fin (k0_t10_loop v4).trips), ∀ a, (k0_off29 v4 k0_t10) a + S1x512x128.size a ≤ S2x4096x128.size a := fun v4 k0_hw1 k0_t10 => k0_hw1.2.2.2.2.2.2.2.1 k0_t10
theorem k0_off30_inb : ∀ (v4 : BitVec 32) (k0_hw1 : k0_chk1 v4) (k0_t10 : Fin (k0_t10_loop v4).trips), ∀ a, (k0_off30 v4 k0_t10) a + S512x512.size a ≤ S4096x512.size a := fun v4 k0_hw1 k0_t10 => k0_hw1.2.2.2.2.2.2.2.2.1 k0_t10
theorem k0_t11_ok : ∀ (v4 : BitVec 32) (k0_hw1 : k0_chk1 v4), (k0_t11_loop v4).OK := fun v4 k0_hw1 => k0_hw1.2.2.2.2.2.2.2.2.2.1
theorem k0_off31_inb : ∀ (v4 : BitVec 32) (k0_hw1 : k0_chk1 v4) (k0_t11 : Fin (k0_t11_loop v4).trips), ∀ a, (k0_off31 v4 k0_t11) a + S512x512.size a ≤ S4096x512.size a := fun v4 k0_hw1 k0_t11 => k0_hw1.2.2.2.2.2.2.2.2.2.2.1 k0_t11
theorem k0_mult3_dvd : ∀ (v4 : BitVec 32) (k0_hw1 : k0_chk1 v4) (k0_t11 : Fin (k0_t11_loop v4).trips), 512 ∣ (k0_mult3 v4 k0_t11).toNat := fun v4 k0_hw1 k0_t11 => k0_hw1.2.2.2.2.2.2.2.2.2.2.2.1 k0_t11
theorem k0_off32_inb : ∀ (v4 : BitVec 32) (k0_hw1 : k0_chk1 v4) (k0_t11 : Fin (k0_t11_loop v4).trips), ∀ a, (k0_off32 v4 k0_t11) a + S1x1x128x512.size a ≤ S1x2x128x4096.size a := fun v4 k0_hw1 k0_t11 => k0_hw1.2.2.2.2.2.2.2.2.2.2.2.2.1 k0_t11
theorem k0_t12_ok : ∀ (v4 : BitVec 32) (k0_hw1 : k0_chk1 v4), (k0_t12_loop v4).OK := fun v4 k0_hw1 => k0_hw1.2.2.2.2.2.2.2.2.2.2.2.2.2.1
theorem k0_off33_inb : ∀ (v4 : BitVec 32) (k0_hw1 : k0_chk1 v4) (k0_t12 : Fin (k0_t12_loop v4).trips), ∀ a, (k0_off33 v4 k0_t12) a + S512x512.size a ≤ S4096x512.size a := fun v4 k0_hw1 k0_t12 => k0_hw1.2.2.2.2.2.2.2.2.2.2.2.2.2.2.1 k0_t12
theorem k0_mult4_dvd : ∀ (v4 : BitVec 32) (k0_hw1 : k0_chk1 v4) (k0_t12 : Fin (k0_t12_loop v4).trips), 512 ∣ (k0_mult4 v4 k0_t12).toNat := fun v4 k0_hw1 k0_t12 => k0_hw1.2.2.2.2.2.2.2.2.2.2.2.2.2.2.2.1 k0_t12
theorem k0_off34_inb : ∀ (v4 : BitVec 32) (k0_hw1 : k0_chk1 v4) (k0_t12 : Fin (k0_t12_loop v4).trips), ∀ a, (k0_off34 v4 k0_t12) a + S1x1x128x512.size a ≤ S1x2x128x4096.size a := fun v4 k0_hw1 k0_t12 => k0_hw1.2.2.2.2.2.2.2.2.2.2.2.2.2.2.2.2 k0_t12

def k0_off35 (i : grid0.Coords) : Fin 2 → Nat :=
  let arg0 : BitVec 32 := BitVec.ofNat 32 (i 0).val
  let v220 : Index := Scalar.indexCast arg0
  let c1 : Index := 1#32
  ![v220.toNat, 1]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x4096x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .smem S4x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x16x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "softmax_scale_log2e" => some (((Real.sqrt 128)⁻¹ * (Real.log 2)⁻¹ : ℝ) : EReal)
  | _ => none
-- ==== ReferenceIdeal.lean ====
abbrev S4x16384x16x128 : Shape := ⟨4, ![4, 16384, 16, 128]⟩
abbrev S4x2x4096x128 : Shape := ⟨4, ![4, 2, 4096, 128]⟩
abbrev S4x2x4096 : Shape := ⟨3, ![4, 2, 4096]⟩
abbrev S4x2 : Shape := ⟨2, ![4, 2]⟩
abbrev S4 : Shape := ⟨1, ![4]⟩
abbrev S4x16384x16 : Shape := ⟨3, ![4, 16384, 16]⟩
abbrev S4x16384x16x1 : Shape := ⟨4, ![4, 16384, 16, 1]⟩
abbrev S4x16384x2x8x128 : Shape := ⟨5, ![4, 16384, 2, 8, 128]⟩
abbrev S4x16384x2x8 : Shape := ⟨4, ![4, 16384, 2, 8]⟩
abbrev S4x4096 : Shape := ⟨2, ![4, 4096]⟩
abbrev S4x1 : Shape := ⟨2, ![4, 1]⟩
abbrev S4x1x1x1x4096 : Shape := ⟨5, ![4, 1, 1, 1, 4096]⟩
abbrev S4x1x2x1x4096 : Shape := ⟨5, ![4, 1, 2, 1, 4096]⟩
abbrev S4x1x2x1x1 : Shape := ⟨5, ![4, 1, 2, 1, 1]⟩
abbrev S4x2x4096x16384x8 : Shape := ⟨5, ![4, 2, 4096, 16384, 8]⟩
abbrev S4x16384x2x8x4096 : Shape := ⟨5, ![4, 16384, 2, 8, 4096]⟩
abbrev S4x16384x2x8x1 : Shape := ⟨5, ![4, 16384, 2, 8, 1]⟩
abbrev S4x2x128x16384x8 : Shape := ⟨5, ![4, 2, 128, 16384, 8]⟩

abbrev nBuf : Space → Nat
  | .hbm => 9
  | .vmem => 9
  | .smem => 0
  | _ => 0

abbrev bufTy : (tb : Table) → Fin (tcTables nBuf tb) → BufTy
  | .hbm, ⟨0, _⟩ => ⟨S4x16384x16x128, .bf16⟩
  | .hbm, ⟨1, _⟩ => ⟨S4x2x4096x128, .fp8e4m3⟩
  | .hbm, ⟨2, _⟩ => ⟨S4x2x4096, .f32⟩
  | .hbm, ⟨3, _⟩ => ⟨S4x2x4096x128, .fp8e4m3⟩
  | .hbm, ⟨4, _⟩ => ⟨S4x2, .f32⟩
  | .hbm, ⟨5, _⟩ => ⟨S4, .i32⟩
  | .hbm, ⟨6, _⟩ => ⟨S4x16384x16x128, .bf16⟩
  | .hbm, ⟨7, _⟩ => ⟨S4x16384x16x128, .fp8e4m3⟩
  | .hbm, ⟨8, _⟩ => ⟨S4x16384x16, .f32⟩
  | .local _ .vmem, ⟨0, _⟩ => ⟨S4x16384x16x128, .bf16⟩
  | .local _ .vmem, ⟨1, _⟩ => ⟨S4x2x4096x128, .fp8e4m3⟩
  | .local _ .vmem, ⟨2, _⟩ => ⟨S4x2x4096, .f32⟩
  | .local _ .vmem, ⟨3, _⟩ => ⟨S4x2x4096x128, .fp8e4m3⟩
  | .local _ .vmem, ⟨4, _⟩ => ⟨S4x2, .f32⟩
  | .local _ .vmem, ⟨5, _⟩ => ⟨S4, .i32⟩
  | .local _ .vmem, ⟨6, _⟩ => ⟨S4x16384x16x128, .bf16⟩
  | .local _ .vmem, ⟨7, _⟩ => ⟨S4x16384x16x128, .fp8e4m3⟩
  | .local _ .vmem, ⟨8, _⟩ => ⟨S4x16384x16, .f32⟩
  | _, _ => ⟨S4x16384x16x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "log2_e" => some (((Real.log 2)⁻¹ : ℝ) : EReal)
  | "softmax_scale" => some (((Real.sqrt 128)⁻¹ : ℝ) : EReal)
  | _ => none

abbrev grid0 : Pipeline.Grid := .none

abbrev stage0_0 : Fin 1 → Memref sig .tc .vmem S4x16384x16x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x4096x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x4096x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16384x16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x16384x16x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x16384x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Pre.lean ====
/-
  What the precondition says: every query is at most the largest finite number of its format in absolute value, and every
  length is between zero and the number of keys.
-/
module

public import proofs.«01_k».proof.Pre_pre
public import Idealize.ShloMosaic.Lib.ReduceAll
public import Idealize.ShloMosaic.Lib.WordCmp

@[expose] public section

noncomputable section

namespace Cert.PreFacts

open Idealize.ShloMosaic Cert.Pre_pre Cert.Pre_pre.Facts

variable [Cert.Pre_pre.Facts] {F : FTy → Type} [FloatOps F]

theorem andi_one {a b : BitVec 1} (h : IntOp.andi a b = 1#1) : a = 1#1 ∧ b = 1#1 := by
  revert a b; decide

/-- The precondition, decoded. -/
theorem decode {x0 : FVec F S4x16384x16x128 .bf16} {x1 : FVec F S4x2x4096x128 .fp8e4m3} {x2 : FVec F S4x2x4096 .f32} {x3 : FVec F S4x2x4096x128 .fp8e4m3} {x4 : FVec F S4x2 .f32} {x5 : IVec S4 32}
    (h : Cert.Pre_pre.fn x0 x1 x2 x3 x4 x5 = fun _ => 1#1) :
    (∀ i, cmpf .ole (Host.absf x0) (broadcastInDim S4x16384x16x128 ![] bcast_S_S4x16384x16x128 (constant S_ .bf16 0x7F7F#16)) i = 1#1) ∧ ∀ i, (x5 i).toNat ≤ 4096 := by
  have h0 := congrFun h (fun a => a.elim0)
  obtain ⟨h7, h10⟩ := andi_one h0
  obtain ⟨h3, h6⟩ := andi_one h7
  refine ⟨fun i => Host.reduce_andi_all _ _ _ _ _ h3 i, fun i => ?_⟩
  have a := IntOp.cmpi_sge.1 (Host.reduce_andi_all _ _ _ _ _ h6 i)
  have b := IntOp.cmpi_sle.1 (Host.reduce_andi_all _ _ _ _ _ h10 i)
  have a' : 0 ≤ (x5 i).toInt := a
  have b' : (x5 i).toInt ≤ 4096 := b
  rw [BitVec.toInt_eq_toNat_cond] at a' b'
  split at a' <;> split at b' <;> omega

end Cert.PreFacts

end
-- ==== Proof.Kernel.Words.lean ====
/-
  The words of one block: from a sequence length `n` with `n ≤ 4096`, how many chunks of 512 positions each counted
  loop makes, and where in the arrays its trips read and write.
-/
module

public import proofs.«01_k».proof.Kernel
public import proofs.«01_k».proof.Proof.Gen.Kernel.Launch
public import Idealize.ShloMosaic.Lib.LoopRemainder
public import Idealize.ShloMosaic.Lib.Tactic

@[expose] public section

set_option maxRecDepth 16384

namespace Cert.Kernel.Blk

open Cert.Kernel Cert.Kernel.Gen
open Idealize.ShloMosaic

/-- The number of full chunks, as the kernel computes it (a floor division by 512). -/
def nfw (v4 : BitVec 32) : BitVec 32 :=
  Scalar.select (Scalar.andi (Scalar.cmpi .ne (Scalar.subi (Scalar.extui (Scalar.cmpi .sgt v4 0#32)) (Scalar.extui (Scalar.cmpi .slt v4 0#32)))
      (Scalar.subi (Scalar.extui (Scalar.cmpi .sgt 512#32 0#32)) (Scalar.extui (Scalar.cmpi .slt 512#32 0#32))))
      (Scalar.cmpi .ne (Scalar.remsi v4 512#32) 0#32)) (Scalar.subi (Scalar.divsi v4 512#32) 1#32) (Scalar.divsi v4 512#32)

/-- The number of chunks that hold a position, as the kernel computes it. -/
def ncw (v4 : BitVec 32) : BitVec 32 :=
  Scalar.addi (nfw v4) (Scalar.extui (Scalar.cmpi .sgt (Scalar.subi v4 (Scalar.muli (nfw v4) 512#32)) 0#32))

/-- A sequence length in range, as a word. -/
structure Len (v4 : BitVec 32) (n : ℕ) : Prop where
  eq : v4 = BitVec.ofNat 32 n
  le : n ≤ 4096

theorem words_all : ∀ n : Fin 4097,
    nfw (BitVec.ofNat 32 n.val) = BitVec.ofNat 32 (n.val / 512) ∧ ncw (BitVec.ofNat 32 n.val) = BitVec.ofNat 32 ((n.val + 511) / 512) := by
  decide +kernel

theorem Len.nfw {v4 : BitVec 32} {n : ℕ} (h : Len v4 n) : nfw v4 = BitVec.ofNat 32 (n / 512) := by
  rw [h.eq]; exact (words_all ⟨n, by have := h.le; omega⟩).1

theorem Len.ncw {v4 : BitVec 32} {n : ℕ} (h : Len v4 n) : ncw v4 = BitVec.ofNat 32 ((n + 511) / 512) := by
  rw [h.eq]; exact (words_all ⟨n, by have := h.le; omega⟩).2

/-- A counted loop from `a` over `b - a` steps of 1 (as the kernel spells its upper bound), for small `a ≤ b`. -/
theorem loop_small : ∀ a b : Fin 9, a ≤ b →
    Scf.trips (BitVec.ofNat 32 a.val) (Scalar.addi (BitVec.ofNat 32 a.val) (Scalar.muli (Scalar.divsi (Scalar.subi (BitVec.ofNat 32 b.val) (BitVec.ofNat 32 a.val)) 1#32) 1#32)) 1#32 = b.val - a.val
    ∧ Scf.OK (BitVec.ofNat 32 a.val) (Scalar.addi (BitVec.ofNat 32 a.val) (Scalar.muli (Scalar.divsi (Scalar.subi (BitVec.ofNat 32 b.val) (BitVec.ofNat 32 a.val)) 1#32) 1#32)) 1#32 := by
  decide +kernel

/-- The offset of trip `k` of a loop from `a`: 512 times the chunk's number. -/
theorem off_small : ∀ a k : Fin 9, (Scalar.indexCast (Scalar.muli (Scf.iv (BitVec.ofNat 32 a.val) 1#32 k.val) 512#32) : Index).toNat = 512 * (a.val + k.val) := by
  decide +kernel

section
variable {v4 : BitVec 32} {n : ℕ} (h : Len v4 n)
include h

theorem Len.nf_le : n / 512 ≤ 8 := by have := h.le; omega
theorem Len.nc_le : (n + 511) / 512 ≤ 8 := by have := h.le; omega
theorem Len.nf_le_nc : n / 512 ≤ (n + 511) / 512 := by omega

/-- A loop from 0 to the number of full chunks. -/
theorem Len.full (l : Scf.Loop 32) (hl : l = ⟨0#32, Scalar.addi 0#32 (Scalar.muli (Scalar.divsi (Scalar.subi (Blk.nfw v4) 0#32) 1#32) 1#32), 1#32⟩) :
    l.trips = n / 512 ∧ l.OK := by
  subst hl; rw [h.nfw]
  exact loop_small 0 ⟨n / 512, by have := h.nf_le; omega⟩ (Fin.zero_le _)

/-- A loop from the number of full chunks to the number of chunks. -/
theorem Len.part (l : Scf.Loop 32) (hl : l = ⟨Blk.nfw v4, Scalar.addi (Blk.nfw v4) (Scalar.muli (Scalar.divsi (Scalar.subi (Blk.ncw v4) (Blk.nfw v4)) 1#32) 1#32), 1#32⟩) :
    l.trips = (n + 511) / 512 - n / 512 ∧ l.OK := by
  subst hl; rw [h.nfw, h.ncw]
  exact loop_small ⟨n / 512, by have := h.nf_le; omega⟩ ⟨(n + 511) / 512, by have := h.nc_le; omega⟩ h.nf_le_nc

/-- A loop from 0 to the number of chunks. -/
theorem Len.all (l : Scf.Loop 32) (hl : l = ⟨0#32, Scalar.addi 0#32 (Scalar.muli (Scalar.divsi (Scalar.subi (Blk.ncw v4) 0#32) 1#32) 1#32), 1#32⟩) :
    l.trips = (n + 511) / 512 ∧ l.OK := by
  subst hl; rw [h.ncw]
  exact loop_small 0 ⟨(n + 511) / 512, by have := h.nc_le; omega⟩ (Fin.zero_le _)

theorem Len.t1 : (k0_t1_loop v4).trips = n / 512 ∧ (k0_t1_loop v4).OK := h.full _ rfl
theorem Len.t3 : (k0_t3_loop v4).trips = (n + 511) / 512 - n / 512 ∧ (k0_t3_loop v4).OK := h.part _ rfl
theorem Len.t5 : (k0_t5_loop v4).trips = (n + 511) / 512 ∧ (k0_t5_loop v4).OK := h.all _ rfl
theorem Len.t7 : (k0_t7_loop v4).trips = n / 512 ∧ (k0_t7_loop v4).OK := h.full _ rfl
theorem Len.t9 : (k0_t9_loop v4).trips = (n + 511) / 512 - n / 512 ∧ (k0_t9_loop v4).OK := h.part _ rfl
theorem Len.t11 : (k0_t11_loop v4).trips = (n + 511) / 512 ∧ (k0_t11_loop v4).OK := h.all _ rfl

/-- The offset of trip `k` of a loop from 0. -/
theorem Len.off0 (k : ℕ) (hk : k < 8) : (Scalar.indexCast (Scalar.muli (Scf.iv 0#32 1#32 k) 512#32) : Index).toNat = 512 * k := by
  simpa using off_small 0 ⟨k, by omega⟩

/-- The offset of trip `k` of a loop from the number of full chunks. -/
theorem Len.offn (k : ℕ) (hk : k < 8) : (Scalar.indexCast (Scalar.muli (Scf.iv (Blk.nfw v4) 1#32 k) 512#32) : Index).toNat = 512 * (n / 512 + k) := by
  rw [h.nfw]; exact off_small ⟨n / 512, by have := h.nf_le; omega⟩ ⟨k, by omega⟩

theorem Len.k1 (k : Fin (k0_t1_loop v4).trips) : k.val < n / 512 := lt_of_lt_of_eq k.isLt h.t1.1
theorem Len.k3 (k : Fin (k0_t3_loop v4).trips) : k.val + n / 512 < (n + 511) / 512 := by have := lt_of_lt_of_eq k.isLt h.t3.1; omega
theorem Len.k5 (k : Fin (k0_t5_loop v4).trips) : k.val < (n + 511) / 512 := lt_of_lt_of_eq k.isLt h.t5.1
theorem Len.k7 (k : Fin (k0_t7_loop v4).trips) : k.val < n / 512 := lt_of_lt_of_eq k.isLt h.t7.1
theorem Len.k9 (k : Fin (k0_t9_loop v4).trips) : k.val + n / 512 < (n + 511) / 512 := by have := lt_of_lt_of_eq k.isLt h.t9.1; omega
theorem Len.k11 (k : Fin (k0_t11_loop v4).trips) : k.val < (n + 511) / 512 := lt_of_lt_of_eq k.isLt h.t11.1

theorem Len.off2 (k) : k0_off2 v4 k = ![0, 0, 512 * k.val, 0] := by
  rw [← h.off0 k.val (by have := h.k1 k; have := h.nf_le; omega)]; rfl
theorem Len.off3 (k) : k0_off3 v4 k = ![0, 512 * k.val, 0] := by
  rw [← h.off0 k.val (by have := h.k1 k; have := h.nf_le; omega)]; rfl
theorem Len.off4 (k) : k0_off4 v4 k = ![512 * k.val, 0] := by
  rw [← h.off0 k.val (by have := h.k1 k; have := h.nf_le; omega)]; rfl
theorem Len.off8 (k) : k0_off8 v4 k = ![0, 0, 512 * (n / 512 + k.val), 0] := by
  rw [← h.offn k.val (by have := h.k3 k; have := h.nc_le; omega)]; rfl
theorem Len.off9 (k) : k0_off9 v4 k = ![0, 512 * (n / 512 + k.val), 0] := by
  rw [← h.offn k.val (by have := h.k3 k; have := h.nc_le; omega)]; rfl
theorem Len.off10 (k) : k0_off10 v4 k = ![512 * (n / 512 + k.val), 0] := by
  rw [← h.offn k.val (by have := h.k3 k; have := h.nc_le; omega)]; rfl
theorem Len.off14 (k) : k0_off14 v4 k = ![512 * k.val, 0] := by
  rw [← h.off0 k.val (by have := h.k5 k; have := h.nc_le; omega)]; rfl
theorem Len.off15 (k) : k0_off15 v4 k = ![0, 0, 0, 512 * k.val] := by
  rw [← h.off0 k.val (by have := h.k5 k; have := h.nc_le; omega)]; rfl
theorem Len.off19 (k) : k0_off19 v4 k = ![0, 1, 512 * k.val, 0] := by
  rw [← h.off0 k.val (by have := h.k7 k; have := h.nf_le; omega)]; rfl
theorem Len.off20 (k) : k0_off20 v4 k = ![1, 512 * k.val, 0] := by
  rw [← h.off0 k.val (by have := h.k7 k; have := h.nf_le; omega)]; rfl
theorem Len.off21 (k) : k0_off21 v4 k = ![512 * k.val, 0] := by
  rw [← h.off0 k.val (by have := h.k7 k; have := h.nf_le; omega)]; rfl
theorem Len.off25 (k) : k0_off25 v4 k = ![0, 1, 512 * (n / 512 + k.val), 0] := by
  rw [← h.offn k.val (by have := h.k9 k; have := h.nc_le; omega)]; rfl
theorem Len.off26 (k) : k0_off26 v4 k = ![1, 512 * (n / 512 + k.val), 0] := by
  rw [← h.offn k.val (by have := h.k9 k; have := h.nc_le; omega)]; rfl
theorem Len.off27 (k) : k0_off27 v4 k = ![512 * (n / 512 + k.val), 0] := by
  rw [← h.offn k.val (by have := h.k9 k; have := h.nc_le; omega)]; rfl
theorem Len.off31 (k) : k0_off31 v4 k = ![512 * k.val, 0] := by
  rw [← h.off0 k.val (by have := h.k11 k; have := h.nc_le; omega)]; rfl
theorem Len.off32 (k) : k0_off32 v4 k = ![0, 1, 0, 512 * k.val] := by
  rw [← h.off0 k.val (by have := h.k11 k; have := h.nc_le; omega)]; rfl

/-- The side condition the body states of its length word holds of every length in range. -/
theorem Len.chk : k0_chk1 v4 := by
  have nf := h.nf_le
  have nc := h.nc_le
  have m5 : ∀ k : Fin (k0_t5_loop v4).trips, 512 ∣ (k0_mult1 v4 k).toNat := fun k => by
    rw [show (k0_mult1 v4 k).toNat = 512 * k.val from h.off0 k.val (by have := h.k5 k; omega)]; exact dvd_mul_right _ _
  have m11 : ∀ k : Fin (k0_t11_loop v4).trips, 512 ∣ (k0_mult3 v4 k).toNat := fun k => by
    rw [show (k0_mult3 v4 k).toNat = 512 * k.val from h.off0 k.val (by have := h.k11 k; omega)]; exact dvd_mul_right _ _
  unfold k0_chk1 k0_chk1_0 k0_chk1_1
  refine ⟨⟨h.t1.2, fun k => ?_, fun k => ?_, fun k => ?_, Scf.rem_ok _ _, fun k => (Scf.rem_no_trip _ _ k).elim, fun k => (Scf.rem_no_trip _ _ k).elim,
    fun k => (Scf.rem_no_trip _ _ k).elim, h.t3.2, fun k => ?_, fun k => ?_, fun k => ?_, Scf.rem_ok _ _, fun k => (Scf.rem_no_trip _ _ k).elim,
    fun k => (Scf.rem_no_trip _ _ k).elim, fun k => (Scf.rem_no_trip _ _ k).elim, h.t5.2, fun k => ?_, m5, fun k => ?_, Scf.rem_ok _ _,
    fun k => (Scf.rem_no_trip _ _ k).elim, fun k => (Scf.rem_no_trip _ _ k).elim, fun k => (Scf.rem_no_trip _ _ k).elim,
    h.t7.2, fun k => ?_, fun k => ?_, fun k => ?_, Scf.rem_ok _ _, fun k => (Scf.rem_no_trip _ _ k).elim, fun k => (Scf.rem_no_trip _ _ k).elim,
    fun k => (Scf.rem_no_trip _ _ k).elim⟩, h.t9.2, fun k => ?_, fun k => ?_, fun k => ?_, Scf.rem_ok _ _, fun k => (Scf.rem_no_trip _ _ k).elim,
    fun k => (Scf.rem_no_trip _ _ k).elim, fun k => (Scf.rem_no_trip _ _ k).elim, h.t11.2, fun k => ?_, m11, fun k => ?_, Scf.rem_ok _ _,
    fun k => (Scf.rem_no_trip _ _ k).elim, fun k => (Scf.rem_no_trip _ _ k).elim, fun k => (Scf.rem_no_trip _ _ k).elim⟩
  · rw [h.off2]; have := h.k1 k; intro a; fin_cases a <;> simp <;> omega
  · rw [h.off3]; have := h.k1 k; intro a; fin_cases a <;> simp <;> omega
  · rw [h.off4]; have := h.k1 k; intro a; fin_cases a <;> simp <;> omega
  · rw [h.off8]; have := h.k3 k; intro a; fin_cases a <;> simp <;> omega
  · rw [h.off9]; have := h.k3 k; intro a; fin_cases a <;> simp <;> omega
  · rw [h.off10]; have := h.k3 k; intro a; fin_cases a <;> simp <;> omega
  · rw [h.off14]; have := h.k5 k; intro a; fin_cases a <;> simp <;> omega
  · rw [h.off15]; have := h.k5 k; intro a; fin_cases a <;> simp <;> omega
  · rw [h.off19]; have := h.k7 k; intro a; fin_cases a <;> simp <;> omega
  · rw [h.off20]; have := h.k7 k; intro a; fin_cases a <;> simp <;> omega
  · rw [h.off21]; have := h.k7 k; intro a; fin_cases a <;> simp <;> omega
  · rw [h.off25]; have := h.k9 k; intro a; fin_cases a <;> simp <;> omega
  · rw [h.off26]; have := h.k9 k; intro a; fin_cases a <;> simp <;> omega
  · rw [h.off27]; have := h.k9 k; intro a; fin_cases a <;> simp <;> omega
  · rw [h.off31]; have := h.k11 k; intro a; fin_cases a <;> simp <;> omega
  · rw [h.off32]; have := h.k11 k; intro a; fin_cases a <;> simp <;> omega

end

end Cert.Kernel.Blk
-- ==== Proof.Kernel.Block.lean ====
/-
  What one block of the kernel computes, as plain functions: from the block of queries, the keys, their scales, the
  values, the two value scales and the sequence length, the scores chunk by chunk, their running maximum, the running
  sums of the weights and of the weighted values, and the three results.
-/
module

public import proofs.«01_k».proof.Proof.Kernel.Words
public import proofs.«01_k».proof.Proof.Gen.Kernel.Skeleton
public import Idealize.ShloMosaic.Lib.ValueIdxCore
public import Idealize.ShloMosaic.Lib.Pipeline.Value

@[expose] public section

set_option maxRecDepth 16384

noncomputable section

namespace Cert.Kernel.Blk

open Cert.Kernel Cert.Kernel.Gen
open Idealize.ShloMosaic Idealize.ShloMosaic.ValueIdx

variable {F : FTy → Type} [FloatOps F]

/-! ## The chunks of the inputs -/

/-- The position `x` of chunk `j`. -/
def pos (j : ℕ) (x : Fin 512) : Fin 4096 := ⟨(512 * j + x.val) % 4096, Nat.mod_lt _ (by norm_num)⟩

theorem pos_val {j : ℕ} (hj : j < 8) (x : Fin 512) : (pos j x).val = 512 * j + x.val := Nat.mod_eq_of_lt (by omega)

/-- The key codes of head `a` in chunk `j`. -/
def kch (X : Vec F S1x2x4096x128 .fp8e4m3) (a : Fin 2) (j : ℕ) : Vec F S1x1x512x128 .fp8e4m3 := fun x => X (ix4 (x 0) a (pos j (x 2)) (x 3))

/-- The key scales of head `a` in chunk `j`. -/
def sch (S : Vec F S2x4096x128 .f32) (a : Fin 2) (j : ℕ) : Vec F S1x512x128 .f32 := fun x => S (ix3 a (pos j (x 1)) (x 2))

/-- The value codes of head `a` in chunk `j`. -/
def vch (V : Vec F S1x2x128x4096 .fp8e4m3) (a : Fin 2) (j : ℕ) : Vec F S1x1x128x512 .fp8e4m3 := fun x => V (ix4 (x 0) a (x 2) (pos j (x 3)))

/-- The key scales of head `a`. -/
def sh (S : Vec F S1x2x4096x128 .f32) (a : Fin 2) : Vec F S1x1x4096x128 .f32 := fun x => S (ix4 (x 0) a (x 2) (x 3))

/-- The key scales as the first block of a sequence leaves them for the others: times the softmax factor. -/
def ksv (S : Vec F S1x2x4096x128 .f32) : Vec F S2x4096x128 .f32 := fun y =>
  if (y 0).val = 0 then k0_pay9 (sh S 0) (ix3 0 (y 1) (y 2)) else k0_pay10 (sh S 1) (ix3 0 (y 1) (y 2))

/-! ## The quantised queries -/

/-- The scale of each query, as it is found and as it is stored; and the mark of the queries that have none. -/
def sc (X : Vec F S1x64x16x128 .bf16) : FVec F S64x16x1 .f32 := k0_pay18 (k0_pay12 X) k0_pay13 k0_pay14
def isc (X : Vec F S1x64x16x128 .bf16) : FVec F S64x16x1 .f32 := k0_pay16 (k0_pay12 X) k0_pay13 k0_pay14
def zer (X : Vec F S1x64x16x128 .bf16) : IVec S64x16x1 1 := k0_pay17 (k0_pay12 X) k0_pay13 k0_pay14

/-- The query codes, and the query scales: the second and the third result's block. -/
def qc (X : Vec F S1x64x16x128 .bf16) : FVec F S1x64x16x128 .fp8e4m3 := k0_pay20 (k0_pay11 X) (isc X) (zer X)
def qs (X : Vec F S1x64x16x128 .bf16) : FVec F S1x64x16 .f32 := k0_pay21 (sc X)

/-- The query codes and scales of each key head's group of query heads. -/
def qh0 (X : Vec F S1x64x16x128 .bf16) : FVec F S512x128 .fp8e4m3 := k0_pay22 (k0_pay11 X) (isc X) (zer X)
def qh1 (X : Vec F S1x64x16x128 .bf16) : FVec F S512x128 .fp8e4m3 := k0_pay48 (k0_pay11 X) (k0_pay19 (isc X) (zer X))
def qr0 (X : Vec F S1x64x16x128 .bf16) : FVec F S1x512 .f32 := k0_pay23 (sc X)
def qr1 (X : Vec F S1x64x16x128 .bf16) : FVec F S1x512 .f32 := k0_pay49 (sc X)

/-! ## The scores and the two passes over them -/

/-- A chunk's scores where the position is below the length, and -∞ where it is not; `b` is the chunk's number. -/
def cut (v4 b : BitVec 32) (t : FVec F S512x512 .f32) : FVec F S512x512 .f32 :=
  select (cmpi .slt (addi (iota .tc S512x512 32 [0] iota_S512x512_d0_w32) (broadcast S512x512 (Scalar.muli b 512#32))) (broadcast S512x512 v4))
    t (broadcast S512x512 (Scalar.ofBits (F := F) .f32 0xFF800000#32))

section
variable (v4 : BitVec 32) (n : ℕ) (q : FVec F S512x128 .fp8e4m3) (K : Vec F S1x2x4096x128 .fp8e4m3) (S : Vec F S2x4096x128 .f32) (a : Fin 2)

/-- Chunk `j` of the scores: as they are in a full chunk, cut at the length in the last one. -/
def T (j : ℕ) : FVec F S512x512 .f32 :=
  if j < n / 512 then k0_pay28 q (kch K a j) (sch S a j) else cut v4 (BitVec.ofNat 32 j) (k0_pay28 q (kch K a j) (sch S a j))

end

/-- One step of the running maximum, over the scores of one chunk. -/
def mstep (acc : FVec F S8x512 .f32) (t : FVec F S512x512 .f32) : FVec F S8x512 .f32 :=
  maximumf acc (multiReduction .maximumf [0] S8x512 (shapeCast S64x8x512 t shapeCasts_S512x512_S64x8x512) 0xFF800000#32 reduces_S64x8x512_S8x512 (.inl rfl) rfl)

/-- The running maximum after `j` chunks. -/
def mx (t : ℕ → FVec F S512x512 .f32) : ℕ → FVec F S8x512 .f32
  | 0 => k0_pay24
  | j + 1 => mstep (mx t j) (t j)

/-- The running sum of the weights after `j` chunks. -/
def ls (qr sb : FVec F S1x512 .f32) (t : ℕ → FVec F S512x512 .f32) : ℕ → FVec F S8x512 .f32
  | 0 => k0_pay1
  | j + 1 => k0_pay3 qr sb (ls qr sb t j) (t j)

/-- The running sum of the weighted values after `j` chunks. -/
def os (qr sb : FVec F S1x512 .f32) (t : ℕ → FVec F S512x512 .f32) (V : Vec F S1x2x128x4096 .fp8e4m3) (a : Fin 2) : ℕ → FVec F S128x512 .f32
  | 0 => k0_pay64
  | j + 1 => k0_pay4 qr sb (t j) (vch V a j) (os qr sb t V a j)

/-- The result of one key head's group, from its scores, its query scales, the values and their scale. -/
def oh (nc : ℕ) (qr : FVec F S1x512 .f32) (t : ℕ → FVec F S512x512 .f32) (V : Vec F S1x2x128x4096 .fp8e4m3) (a : Fin 2) (vs : Elt F .f32) : FVec F S1x64x8x128 .bf16 :=
  k0_pay8 (ls qr (k0_pay37 qr (mx t nc)) t nc) (os qr (k0_pay37 qr (mx t nc)) t V a nc) vs

section
variable (v4 : BitVec 32) (n : ℕ) (X : Vec F S1x64x16x128 .bf16) (K : Vec F S1x2x4096x128 .fp8e4m3) (S : Vec F S2x4096x128 .f32)
  (V : Vec F S1x2x128x4096 .fp8e4m3)

/-- The scores of the two key heads. -/
def T0 (j : ℕ) : FVec F S512x512 .f32 := T v4 n (qh0 X) K S 0 j
def T1 (j : ℕ) : FVec F S512x512 .f32 := T v4 n (qh1 X) K S 1 j

/-- The results of the two key heads. -/
def o0 (vs : Elt F .f32) : FVec F S1x64x8x128 .bf16 := oh ((n + 511) / 512) (qr0 X) (T0 v4 n X K S) V 0 vs
def o1 (vs : Elt F .f32) : FVec F S1x64x8x128 .bf16 := oh ((n + 511) / 512) (qr1 X) (T1 v4 n X K S) V 1 vs

/-- The first result's block: the two key heads' groups side by side. -/
def ob (vs0 vs1 : Elt F .f32) : FVec F S1x64x16x128 .bf16 := fun y =>
  if h : (y 2).val < 8 then o0 v4 n X K S V vs0 (ix4 (y 0) (y 1) ⟨(y 2).val, h⟩ (y 3))
  else o1 v4 n X K S V vs1 (ix4 (y 0) (y 1) ⟨(y 2).val - 8, by have : (y 2).val < 16 := (y 2).isLt; omega⟩ (y 3))

end

/-! ## How the kernel's own payloads read in these words -/

section
variable {v4 : BitVec 32} {n : ℕ} (h : Len v4 n)
include h

theorem Len.iv (k : ℕ) : Scf.iv (Blk.nfw v4) 1#32 k = BitVec.ofNat 32 (n / 512 + k) := by
  rw [h.nfw]; simp [Scf.iv, BitVec.ofNat_add]

theorem Len.T_part (q : FVec F S512x128 .fp8e4m3) (K : Vec F S1x2x4096x128 .fp8e4m3) (S : Vec F S2x4096x128 .f32) (a : Fin 2) (k : ℕ) :
    T v4 n q K S a (n / 512 + k) = cut v4 (Scf.iv (Blk.nfw v4) 1#32 k) (k0_pay28 q (kch K a (n / 512 + k)) (sch S a (n / 512 + k))) := by
  rw [h.iv]; exact if_neg (by omega)

end

theorem T_full {v4 : BitVec 32} {n : ℕ} (q : FVec F S512x128 .fp8e4m3) (K : Vec F S1x2x4096x128 .fp8e4m3) (S : Vec F S2x4096x128 .f32) (a : Fin 2) {k : ℕ} (hk : k < n / 512) :
    T v4 n q K S a k = k0_pay28 q (kch K a k) (sch S a k) := if_pos hk

theorem pay26_eq (v29 : FVec F S64x16x128 .f32) (v81 : FVec F S64x16x1 .f32) (v83 : IVec S64x16x1 1) (k : Vec F S1x1x512x128 .fp8e4m3) (s : Vec F S1x512x128 .f32) :
    k0_pay26 v29 v81 v83 k s = k0_pay28 (k0_pay22 v29 v81 v83) k s := shapeCast_self _ _
theorem pay27_eq (v29 : FVec F S64x16x128 .f32) (v81 : FVec F S64x16x1 .f32) (v83 : IVec S64x16x1 1) (acc : FVec F S8x512 .f32) (k : Vec F S1x1x512x128 .fp8e4m3) (s : Vec F S1x512x128 .f32) :
    k0_pay27 v29 v81 v83 acc k s = mstep acc (k0_pay28 (k0_pay22 v29 v81 v83) k s) := rfl
theorem pay32_eq (v4 : BitVec 32) (q : FVec F S512x128 .fp8e4m3) (j) (k : Vec F S1x1x512x128 .fp8e4m3) (s : Vec F S1x512x128 .f32) :
    k0_pay32 v4 (nfw v4) q j k s = cut v4 (Scf.iv (nfw v4) 1#32 j) (k0_pay28 q k s) := shapeCast_self _ _
theorem pay33_eq (v4 : BitVec 32) (q : FVec F S512x128 .fp8e4m3) (j) (acc : FVec F S8x512 .f32) (k : Vec F S1x1x512x128 .fp8e4m3) (s : Vec F S1x512x128 .f32) :
    k0_pay33 v4 (nfw v4) q j acc k s = mstep acc (cut v4 (Scf.iv (nfw v4) 1#32 j) (k0_pay28 q k s)) := rfl
theorem pay52_eq (v29 : FVec F S64x16x128 .f32) (v87 : FVec F S64x16x1 .f32) (k : Vec F S1x1x512x128 .fp8e4m3) (s : Vec F S1x512x128 .f32) :
    k0_pay52 v29 v87 k s = k0_pay28 (k0_pay48 v29 v87) k s := shapeCast_self _ _
theorem pay53_eq (v29 : FVec F S64x16x128 .f32) (v87 : FVec F S64x16x1 .f32) (acc : FVec F S8x512 .f32) (k : Vec F S1x1x512x128 .fp8e4m3) (s : Vec F S1x512x128 .f32) :
    k0_pay53 v29 v87 acc k s = mstep acc (k0_pay28 (k0_pay48 v29 v87) k s) := rfl
theorem pay58_eq (v4 : BitVec 32) (v29 : FVec F S64x16x128 .f32) (v87 : FVec F S64x16x1 .f32) (j) (k : Vec F S1x1x512x128 .fp8e4m3) (s : Vec F S1x512x128 .f32) :
    k0_pay58 v4 (nfw v4) v29 v87 j k s = cut v4 (Scf.iv (nfw v4) 1#32 j) (k0_pay28 (k0_pay48 v29 v87) k s) := shapeCast_self _ _
theorem pay59_eq (v4 : BitVec 32) (v29 : FVec F S64x16x128 .f32) (v87 : FVec F S64x16x1 .f32) (j) (acc : FVec F S8x512 .f32) (k : Vec F S1x1x512x128 .fp8e4m3) (s : Vec F S1x512x128 .f32) :
    k0_pay59 v4 (nfw v4) v29 v87 j acc k s = mstep acc (cut v4 (Scf.iv (nfw v4) 1#32 j) (k0_pay28 (k0_pay48 v29 v87) k s)) := rfl
theorem pay41_eq (qr : FVec F S1x512 .f32) (m acc : FVec F S8x512 .f32) (t : Vec F S512x512 .f32) :
    k0_pay41 qr m acc t = k0_pay3 qr (k0_pay37 qr m) acc t := rfl
theorem pay42_eq (qr : FVec F S1x512 .f32) (m : FVec F S8x512 .f32) (t : Vec F S512x512 .f32) (v : Vec F S1x1x128x512 .fp8e4m3) (o : Vec F S128x512 .f32) :
    k0_pay42 qr m t v o = k0_pay4 qr (k0_pay37 qr m) t v o := rfl
theorem pay63_eq (s : FVec F S64x16x1 .f32) (m : FVec F S8x512 .f32) : k0_pay63 s m = k0_pay37 (k0_pay49 s) m := rfl
theorem pay47_eq (l : FVec F S8x512 .f32) (o : Vec F S128x512 .f32) (vs : Elt F .f32) : k0_pay47 (k0_pay46 l o vs) = k0_pay8 l o vs := rfl

end Cert.Kernel.Blk

end
-- ==== Proof.Kernel.Points.lean ====
/-
  The schedule of the windows: at which grid points each is fetched and written back, in closed form; the memrefs of a point
  and the kernel body there.
-/
module

public import proofs.«01_k».proof.Proof.Gen.Kernel
public import Idealize.ShloMosaic.Lib.Pipeline.Kit

@[expose] public section

noncomputable section

namespace Cert.Kernel.Blk

open Cert.Kernel Cert.Kernel.Gen
open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 256), at any contents of the tables (its index map reads none). -/
theorem fetch0_1 (a : (pcfg0 (F := F)).Adm) : ∀ t : Fin (cfg0 a).N, ((cfg0 a).win 1).fetch t = true ↔ t.val % 256 = 0 :=
  (fun t => Pipeline.Window.fetchOf_reads cc0_transform_1 reads0_1 hreads0_1 0 (by decide) (by decide) (Pipeline.Window.sep_of_coord cc0_transform_1 0 0 (fun _ => rfl) (by decide)) (P := 256) (by decide) t : ∀ t : Fin grid0.N, Pipeline.Window.fetchOf grid0 false cc0_transform_1 t = true ↔ t.val % 256 = 0)
/-- Window 2 (operand 3 (%2)) is fetched at the points ≡ 0 (mod 256), at any contents of the tables (its index map reads none). -/
theorem fetch0_2 (a : (pcfg0 (F := F)).Adm) : ∀ t : Fin (cfg0 a).N, ((cfg0 a).win 2).fetch t = true ↔ t.val % 256 = 0 :=
  (fun t => Pipeline.Window.fetchOf_reads cc0_transform_2 reads0_2 hreads0_2 0 (by decide) (by decide) (Pipeline.Window.sep_of_coord cc0_transform_2 0 0 (fun _ => rfl) (by decide)) (P := 256) (by decide) t : ∀ t : Fin grid0.N, Pipeline.Window.fetchOf grid0 false cc0_transform_2 t = true ↔ t.val % 256 = 0)
/-- Window 3 (operand 4 (%0)) is fetched at the points ≡ 0 (mod 256), at any contents of the tables (its index map reads none). -/
theorem fetch0_3 (a : (pcfg0 (F := F)).Adm) : ∀ t : Fin (cfg0 a).N, ((cfg0 a).win 3).fetch t = true ↔ t.val % 256 = 0 :=
  (fun t => Pipeline.Window.fetchOf_reads cc0_transform_3 reads0_3 hreads0_3 0 (by decide) (by decide) (Pipeline.Window.sep_of_coord cc0_transform_3 0 0 (fun _ => rfl) (by decide)) (P := 256) (by decide) t : ∀ t : Fin grid0.N, Pipeline.Window.fetchOf grid0 false cc0_transform_3 t = true ↔ t.val % 256 = 0)
/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 1024 = 0 :=
  (fun t => Pipeline.Window.fetchOf_const cc0_transform_4 (fun _ _ => rfl) (n := 1024) (by decide) t : ∀ t : Fin grid0.N, Pipeline.Window.fetchOf grid0 false cc0_transform_4 t = true ↔ t.val % 1024 = 0)
/-- Window 5 (result 0 (%3#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 1 (%3#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 2 (%3#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gqa_fp8 (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

end Cert.Kernel.Blk

end
-- ==== Proof.Kernel.Runs.lean ====
/-
  What the runs of the body share: the buffers when the pipeline is entered, the table of lengths, the blocks of the
  inputs, the body's one branch condition over the points, and the memrefs of a point.
-/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Blk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 4).trans (((dats 0 c).arrAt_in 4 rfl _).trans ((hA c 4).trans (V_main_arg4 m c))),
      ((h c).2 main_arg5 (by decide : main_arg5 ∈ Pipeline.restRefs sig spec0)).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 256) — by arithmetic of the point. -/
theorem hcond0_0 : ∀ t : Fin grid0.N, cond0_0 (grid0.coords t) ↔ t.val % 256 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 1 % 256 := Pipeline.Grid.coords_val t 1 (by decide) rfl
    simp only [cond0_0, e0, e1]
    word_cmp
   : ∀ t : Fin grid0.N, cond0_0 (grid0.coords t) ↔ t.val % 256 = 0)

/-! ## The kernel body on any staging memrefs: a subtype the run finds -/

/-- One staging buffer of output window 5, through which its contents are stated (`View.read_writes_of_cover`: the
    choice does not matter). -/
abbrev VO0_5 : View sig .tc .vmem S1x64x16x128 .bf16 := (Memref.whole cc0_stg5_0 : Memref sig .tc .vmem S1x64x16x128 .bf16).view
/-- One staging buffer of output window 6, through which its contents are stated (`View.read_writes_of_cover`: the
    choice does not matter). -/
abbrev VO0_6 : View sig .tc .vmem S1x64x16x128 .fp8e4m3 := (Memref.whole cc0_stg6_0 : Memref sig .tc .vmem S1x64x16x128 .fp8e4m3).view
/-- One staging buffer of output window 7, through which its contents are stated (`View.read_writes_of_cover`: the
    choice does not matter). -/
abbrev VO0_7 : View sig .tc .vmem S1x64x16 .f32 := (Memref.whole cc0_stg7_0 : Memref sig .tc .vmem S1x64x16 .f32).view
/-- Each window's current staging memref at point `t`, spelled as the pipeline passes it (`bodyAt0`), and its wholeness. -/
abbrev ms0_0 (hO : Ok m) (t : Fin (cfgM m hO).N) : Memref sig .tc .vmem S1x64x16x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x4096x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x4096x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x128x4096 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .smem S4x2 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x16x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x16x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x16 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S2x4096x128 .f32 := Memref.whole cc0_scratch0
abbrev scM0_1 : Memref sig .tc .vmem S4096x512 .f32 := Memref.whole cc0_scratch1
abbrev scM0_2 : Memref sig .tc .vmem S128x512 .f32 := Memref.whole cc0_scratch2
/-- The scratch `arg11` the kernel carries between points, as a view: what it holds is stated through it. -/
abbrev VS0_0 : View sig .tc .vmem S2x4096x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Blk

end
-- ==== Proof.Kernel.Trips.lean ====
/-
  One trip of each counted loop of the body: the two loops over the chunks that fill the scores and keep their running
  maximum (one for the full chunks, one for the chunk the length cuts), and the loop that sums the weights.
-/
module

public import proofs.«01_k».proof.Proof.Kernel.Block
public import proofs.«01_k».proof.Proof.Kernel.Runs
public import Idealize.ShloMosaic.Lib.VecWindow
public import Idealize.ShloMosaic.Lib.WholeRead
public import Idealize.ShloMosaic.Lib.LoopRemainder

@[expose] public section

set_option maxRecDepth 16384

noncomputable section

namespace Cert.Kernel.Blk

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Reads of the chunks -/

/-- A load of chunk `j` of the keys' head `a`. -/
theorem read_k {m : Memref sig .tc .vmem S1x2x4096x128 .fp8e4m3} (h : m.IsWhole) (X : Vec F S1x2x4096x128 .fp8e4m3) {off : Fin 4 → ℕ} {a : Fin 2} {j : ℕ} (hj : j < 8)
    (inb : ∀ i, off i + S1x1x512x128.size i ≤ S1x2x4096x128.size i) (ho : off = ![0, a.val, 512 * j, 0]) :
    m.view.readAt (Elt F) (Rect.unit (s := S1x2x4096x128) off S1x1x512x128.size inb).toLoadRect (h.unread X) = kch X a j := by
  subst ho
  funext x
  rw [h.readAt_unread]
  refine congrArg X (funext fun i => Fin.ext ?_)
  have e := pos_val hj (x 2)
  fin_cases i
  · show 0 + 1 * (x 0).val = (x 0).val; omega
  · show a.val + 1 * (x 1).val = a.val
    have : (x 1).val < 1 := (x 1).isLt
    omega
  · show 512 * j + 1 * (x 2).val = (pos j (x 2)).val; omega
  · show 0 + 1 * (x 3).val = (x 3).val; omega

/-- A load of chunk `j` of the key scales' head `a`. -/
theorem read_s {m : Memref sig .tc .vmem S2x4096x128 .f32} (h : m.IsWhole) (X : Vec F S2x4096x128 .f32) {off : Fin 3 → ℕ} {a : Fin 2} {j : ℕ} (hj : j < 8)
    (inb : ∀ i, off i + S1x512x128.size i ≤ S2x4096x128.size i) (ho : off = ![a.val, 512 * j, 0]) :
    m.view.readAt (Elt F) (Rect.unit (s := S2x4096x128) off S1x512x128.size inb).toLoadRect (h.unread X) = sch X a j := by
  subst ho
  funext x
  rw [h.readAt_unread]
  refine congrArg X (funext fun i => Fin.ext ?_)
  have e := pos_val hj (x 1)
  fin_cases i
  · show a.val + 1 * (x 0).val = a.val
    have : (x 0).val < 1 := (x 0).isLt
    omega
  · show 512 * j + 1 * (x 1).val = (pos j (x 1)).val; omega
  · show 0 + 1 * (x 2).val = (x 2).val; omega

/-- A load of chunk `j` of the values' head `a`. -/
theorem read_v {m : Memref sig .tc .vmem S1x2x128x4096 .fp8e4m3} (h : m.IsWhole) (X : Vec F S1x2x128x4096 .fp8e4m3) {off : Fin 4 → ℕ} {a : Fin 2} {j : ℕ} (hj : j < 8)
    (inb : ∀ i, off i + S1x1x128x512.size i ≤ S1x2x128x4096.size i) (ho : off = ![0, a.val, 0, 512 * j]) :
    m.view.readAt (Elt F) (Rect.unit (s := S1x2x128x4096) off S1x1x128x512.size inb).toLoadRect (h.unread X) = vch X a j := by
  subst ho
  funext x
  rw [h.readAt_unread]
  refine congrArg X (funext fun i => Fin.ext ?_)
  have e := pos_val hj (x 3)
  fin_cases i
  · show 0 + 1 * (x 0).val = (x 0).val; omega
  · show a.val + 1 * (x 1).val = a.val
    have : (x 1).val < 1 := (x 1).isLt
    omega
  · show 0 + 1 * (x 2).val = (x 2).val; omega
  · show 512 * j + 1 * (x 3).val = (pos j (x 3)).val; omega

/-! ## The buffer of the scores -/

/-- The first `b` chunks of the scores' buffer hold `t`. -/
def Held (m : Memref sig .tc .vmem S4096x512 .f32) (f : m.view.ty.Contents (Elt F)) (t : ℕ → FVec F S512x512 .f32) (b : ℕ) : Prop :=
  ∀ j < b, ∀ x : S512x512.Idx, m.view.read (Elt F) f (ix2 (pos j (x 0)) (x 1)) = t j x

theorem Held.zero (m : Memref sig .tc .vmem S4096x512 .f32) (f) (t : ℕ → FVec F S512x512 .f32) : Held m f t 0 := fun _ h => absurd h (by omega)

/-- Storing chunk `b` over a buffer that holds those before it. -/
theorem Held.step {m : Memref sig .tc .vmem S4096x512 .f32} {f} {t : ℕ → FVec F S512x512 .f32} {b : ℕ} (H : Held m f t b) (hb : b < 8) {off : Fin 2 → ℕ}
    (inb : ∀ i, off i + S512x512.size i ≤ S4096x512.size i) (ho : off = ![512 * b, 0]) (w : Vec F S512x512 .f32) (hw : w = t b) :
    Held m (m.view.writes (Elt F) f [⟨Rect.unit (s := S4096x512) off S512x512.size inb, w⟩]) t (b + 1) := by
  intro j hj x
  by_cases e : j = b
  · subst e; subst hw
    refine View.read_writes_cons_unit_of_mem m.view f inb (t j) [] _ x ho fun i => ?_
    have e := pos_val hb (x 0)
    fin_cases i
    · exact e
    · show (x 1).val = 0 + (x 1).val; omega
  · have hx : (x 0).val < 512 := (x 0).isLt
    have e := pos_val (show j < 8 by omega) (x 0)
    refine (View.read_writes_cons_unit_of_not_mem m.view f inb w [] _ ho 0 (.inl ?_)).trans (H j (by omega) x)
    show (pos j (x 0)).val < 512 * b
    omega

/-- A load of a chunk the buffer holds. -/
theorem Held.read {m : Memref sig .tc .vmem S4096x512 .f32} {f} {t : ℕ → FVec F S512x512 .f32} {b j : ℕ} (H : Held m f t b) (hb : b ≤ 8) (hj : j < b) {off : Fin 2 → ℕ}
    (inb : ∀ i, off i + S512x512.size i ≤ S4096x512.size i) (ho : off = ![512 * j, 0]) :
    m.view.readAt (Elt F) (Rect.unit (s := S4096x512) off S512x512.size inb).toLoadRect f = t j := by
  subst ho
  funext x
  refine (congrArg (m.view.read (Elt F) f) (funext fun i => Fin.ext ?_)).trans (H j hj x)
  have e := pos_val (show j < 8 by omega) (x 0)
  fin_cases i
  · show 512 * j + 1 * (x 0).val = (pos j (x 0)).val; omega
  · show 0 + 1 * (x 1).val = (x 1).val; omega

/-! ## The invariants -/

/-- Before trip `k` of a loop that fills the scores from chunk `b` on: the keys and their scales as they were, the
    chunks before `b + k` of the scores stored, and the running maximum over them. -/
def InvM (c : Dev nD) {m4 : Memref sig .tc .vmem S1x2x4096x128 .fp8e4m3} (h4 : m4.IsWhole) {m11 : Memref sig .tc .vmem S2x4096x128 .f32} (h11 : m11.IsWhole)
    (m12 : Memref sig .tc .vmem S4096x512 .f32) (K : Vec F S1x2x4096x128 .fp8e4m3) (S : Vec F S2x4096x128 .f32) (t : ℕ → FVec F S512x512 .f32) (b k : ℕ)
    (acc : FVec F S8x512 .f32) : sProp 𝕄 :=
  iprop((m4.view.loc (c : Thread nD τ) ↦[m4.view.set]{fullShare} h4.unread K) ∗ (m11.view.loc (c : Thread nD τ) ↦[m11.view.set]{fullShare} h11.unread S)
    ∗ (∃ f, ⌜Held m12 f t (b + k)⌝ ∗ (m12.view.loc (c : Thread nD τ) ↦[m12.view.set]{fullShare} f)) ∗ ⌜acc = mx t (b + k)⌝)

/-- Before trip `k` of a loop that sums: the values and the scores as they were, the sum of the weighted values of the
    first `k` chunks stored, and the sum of their weights. -/
def InvS (c : Dev nD) {m6 : Memref sig .tc .vmem S1x2x128x4096 .fp8e4m3} (h6 : m6.IsWhole) (m12 : Memref sig .tc .vmem S4096x512 .f32)
    (m13 : Memref sig .tc .vmem S128x512 .f32) (V : Vec F S1x2x128x4096 .fp8e4m3) (f : m12.view.ty.Contents (Elt F)) (qr sb : FVec F S1x512 .f32) (t : ℕ → FVec F S512x512 .f32) (a : Fin 2) (k : ℕ)
    (acc : FVec F S8x512 .f32) : sProp 𝕄 :=
  iprop((m6.view.loc (c : Thread nD τ) ↦[m6.view.set]{fullShare} h6.unread V) ∗ (m12.view.loc (c : Thread nD τ) ↦[m12.view.set]{fullShare} f)
    ∗ (∃ g, ⌜m13.view.read (Elt F) g = os qr sb t V a k⌝ ∗ (m13.view.loc (c : Thread nD τ) ↦[m13.view.set]{fullShare} g)) ∗ ⌜acc = ls qr sb t k⌝)

/-! ## One trip of each loop -/

set_option maxHeartbeats 1000000 in
/-- One trip of a loop over the full chunks, for key head 0. -/
theorem trip1 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v29 : FVec F S64x16x128 .f32) (v81 : FVec F S64x16x1 .f32) (v83 : IVec S64x16x1 1) (v85 : FVec F S64x16x1 .f32)
    (K : Vec F S1x2x4096x128 .fp8e4m3) (S : Vec F S2x4096x128 .f32) (k : Fin (k0_t1_loop v4).trips) (acc : FVec F S8x512 .f32) (E : Set ℕ) :
    InvM c harg4 harg11 arg12 K S (T v4 n (k0_pay22 v29 v81 v83) K S 0) 0 k.val acc
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 v4 k0_hw1 (nfw v4) v29 v81 v83 v85 k acc)
          (InvM c harg4 harg11 arg12 K S (T v4 n (k0_pay22 v29 v81 v83) K S 0) 0 (k.val + 1)) := by
  have hk := hl.k1 k; have hb := hl.nf_le
  unfold k0_t1_body InvM
  iintro ⟨H4, H11, ⟨%f, %hf, H12⟩, %hacc⟩
  subst hacc
  sl_exec (disch := exact k0_hw1)
  sl_step
  rw [read_k harg4 K (a := 0) (j := 0 + k.val) (by omega) _ (by rw [hl.off2, Nat.zero_add]; rfl),
    read_s harg11 S (a := 0) (j := 0 + k.val) (by omega) _ (by rw [hl.off3, Nat.zero_add]; rfl)]
  isplitl [H4]; · iexact H4
  isplitl [H11]; · iexact H11
  isplitl [H12]
  · iexists _; isplitr; swap; · iexact H12
    ipureintro
    exact hf.step (by omega) _ (by rw [hl.off4, Nat.zero_add]) _ (by rw [pay26_eq]; rw [Nat.zero_add]; exact (T_full (k0_pay22 v29 v81 v83) K S 0 (hl.k1 k)).symm)
  · ipureintro
    rw [pay27_eq, Nat.zero_add, Nat.zero_add]
    exact congrArg (mstep _) (T_full (k0_pay22 v29 v81 v83) K S 0 (hl.k1 k)).symm

set_option maxHeartbeats 1000000 in
/-- One trip of the loop over the chunk that the length cuts, for key head 0. -/
theorem trip3 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (arg0 : BitVec 32) (v114 : FVec F S512x128 .fp8e4m3) (v119 : FVec F S1x512 .f32) (v125 : BitVec 32) (v126 : FVec F S8x512 .f32) (c1_i32_32 : BitVec 32)
    (K : Vec F S1x2x4096x128 .fp8e4m3) (S : Vec F S2x4096x128 .f32) (k : Fin (k0_t3_loop v4).trips) (acc : FVec F S8x512 .f32) (E : Set ℕ) :
    InvM c harg4 harg11 arg12 K S (T v4 n v114 K S 0) (n / 512) k.val acc
      ⊢ wp frame (wpE (defs₀ (F := F)) Variants.none c none) E (k0_t3_body (F := F) i arg2 harg2 arg3 harg3 arg4 harg4 arg5 harg5 arg6 harg6 arg7 harg7 arg8 harg8 arg9 harg9 arg10 harg10 arg11 harg11 arg12 harg12 arg13 harg13 arg0 v4 k0_hw1 (nfw v4) (ncw v4) v114 v119 v125 v126 c1_i32_32 k acc)
          (InvM c harg4 harg11 arg12 K S (T v4 n v114 K S 0) (n / 512) (k.val + 1)) := by
  have hk := hl.k3 k; have hb := hl.nc_le
  unfold k0_t3_body InvM
  iintro ⟨H4, H11, ⟨%f, %hf, H12⟩, %hacc⟩
  subst hacc
  sl_exec (disch := exact k0_hw1)
  sl_step
  rw [read_k harg4 K (a := 0) (j := (n / 512) + k.val) (by omega) _ (hl.off8 k),
    read_s harg11 S (a := 0) (j := (n / 512) + k.val) (by omega) _ (hl.off9 k)]
  isplitl [H4]; · iexact H4
  isplitl [H11]; · iexact H11
  isplitl [H12]
  · iexists _; isplitr; swap; · iexact H12
    ipureintro
    exact hf.step (by omega) _ (hl.off10 k) _ (by rw [pay32_eq]; exact (hl.T_part v114 K S 0 k.val).symm)
  · ipureintro
    rw [pay33_eq]
    exact congrArg (mstep _) (hl.T_part v114 K S 0 k.val).symm

set_option maxHeartbeats 1000000 in
/-- One trip of the loop that sums, for key head 0. -/
theorem trip5 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (arg0 : BitVec 32) (v114 : FVec F S512x128 .fp8e4m3) (v119 : FVec F S1x512 .f32) (v125 : BitVec 32) (v126 : FVec F S8x512 .f32) (c1_i32_32 : BitVec 32) (v134 : FVec F S8x512 .f32)
    (V : Vec F S1x2x128x4096 .fp8e4m3) (f : arg12.view.ty.Contents (Elt F)) (t : ℕ → FVec F S512x512 .f32) (hf : Held arg12 f t ((n + 511) / 512)) (k : Fin (k0_t5_loop v4).trips) (acc : FVec F S8x512 .f32) (E : Set ℕ) :
    InvS c harg6 arg12 arg13 V f v119 (k0_pay37 v119 v134) t 0 k.val acc
      ⊢ wp frame (wpE (defs₀ (F := F)) Variants.none c none) E (k0_t5_body (F := F) i arg2 harg2 arg3 harg3 arg4 harg4 arg5 harg5 arg6 harg6 arg7 harg7 arg8 harg8 arg9 harg9 arg10 harg10 arg11 harg11 arg12 harg12 arg13 harg13 arg0 v4 k0_hw1 (nfw v4) (ncw v4) v114 v119 v125 v126 c1_i32_32 v134 k acc)
          (InvS c harg6 arg12 arg13 V f v119 (k0_pay37 v119 v134) t 0 (k.val + 1)) := by
  have hk := hl.k5 k; have hb := hl.nc_le
  unfold k0_t5_body InvS
  iintro ⟨H6, H12, ⟨%g, %hg, H13⟩, %hacc⟩
  subst hacc
  sl_exec (disch := exact k0_hw1)
  sl_step
  rw [read_v harg6 V (a := 0) (j := k.val) (by omega) _ (hl.off15 k), hf.read hb hk _ (hl.off14 k), View.readAt_full, hg]
  isplitl [H6]; · iexact H6
  isplitl [H12]; · iexact H12
  isplitl [H13]
  · iexists _; isplitr; swap; · iexact H13
    ipureintro
    exact View.read_writes_full _ _ _ _ _
  · ipureintro; rfl

set_option maxHeartbeats 1000000 in
/-- One trip of a loop over the full chunks, for key head 1. -/
theorem trip7 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v29 : FVec F S64x16x128 .f32) (v85 : FVec F S64x16x1 .f32) (v87 : FVec F S64x16x1 .f32) (v163 : FVec F S64x8x128 .bf16) (v164 : Vec F S1x64x8x128 .bf16)
    (K : Vec F S1x2x4096x128 .fp8e4m3) (S : Vec F S2x4096x128 .f32) (k : Fin (k0_t7_loop v4).trips) (acc : FVec F S8x512 .f32) (E : Set ℕ) :
    InvM c harg4 harg11 arg12 K S (T v4 n (k0_pay48 v29 v87) K S 1) 0 k.val acc
      ⊢ wp frame (wpE (defs₀ (F := F)) Variants.none c none) E (k0_t7_body (F := F) i arg2 harg2 arg3 harg3 arg4 harg4 arg5 harg5 arg6 harg6 arg7 harg7 arg8 harg8 arg9 harg9 arg10 harg10 arg11 harg11 arg12 harg12 arg13 harg13 v4 k0_hw1 (nfw v4) (ncw v4) v29 v85 v87 v163 v164 k acc)
          (InvM c harg4 harg11 arg12 K S (T v4 n (k0_pay48 v29 v87) K S 1) 0 (k.val + 1)) := by
  have hk := hl.k7 k; have hb := hl.nf_le
  unfold k0_t7_body InvM
  iintro ⟨H4, H11, ⟨%f, %hf, H12⟩, %hacc⟩
  subst hacc
  sl_exec (disch := exact k0_hw1)
  sl_step
  rw [read_k harg4 K (a := 1) (j := 0 + k.val) (by omega) _ (by rw [hl.off19, Nat.zero_add]; rfl),
    read_s harg11 S (a := 1) (j := 0 + k.val) (by omega) _ (by rw [hl.off20, Nat.zero_add]; rfl)]
  isplitl [H4]; · iexact H4
  isplitl [H11]; · iexact H11
  isplitl [H12]
  · iexists _; isplitr; swap; · iexact H12
    ipureintro
    exact hf.step (by omega) _ (by rw [hl.off21, Nat.zero_add]) _ (by rw [pay52_eq]; rw [Nat.zero_add]; exact (T_full (k0_pay48 v29 v87) K S 1 (hl.k7 k)).symm)
  · ipureintro
    rw [pay53_eq, Nat.zero_add, Nat.zero_add]
    exact congrArg (mstep _) (T_full (k0_pay48 v29 v87) K S 1 (hl.k7 k)).symm

set_option maxHeartbeats 1000000 in
/-- One trip of the loop over the chunk that the length cuts, for key head 1. -/
theorem trip9 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v29 : FVec F S64x16x128 .f32) (v85 : FVec F S64x16x1 .f32) (v87 : FVec F S64x16x1 .f32) (v163 : FVec F S64x8x128 .bf16) (v164 : Vec F S1x64x8x128 .bf16)
    (K : Vec F S1x2x4096x128 .fp8e4m3) (S : Vec F S2x4096x128 .f32) (k : Fin (k0_t9_loop v4).trips) (acc : FVec F S8x512 .f32) (E : Set ℕ) :
    InvM c harg4 harg11 arg12 K S (T v4 n (k0_pay48 v29 v87) K S 1) (n / 512) k.val acc
      ⊢ wp frame (wpE (defs₀ (F := F)) Variants.none c none) E (k0_t9_body (F := F) i arg2 harg2 arg3 harg3 arg4 harg4 arg5 harg5 arg6 harg6 arg7 harg7 arg8 harg8 arg9 harg9 arg10 harg10 arg11 harg11 arg12 harg12 arg13 harg13 v4 k0_hw1 (nfw v4) (ncw v4) v29 v85 v87 v163 v164 k acc)
          (InvM c harg4 harg11 arg12 K S (T v4 n (k0_pay48 v29 v87) K S 1) (n / 512) (k.val + 1)) := by
  have hk := hl.k9 k; have hb := hl.nc_le
  unfold k0_t9_body InvM
  iintro ⟨H4, H11, ⟨%f, %hf, H12⟩, %hacc⟩
  subst hacc
  sl_exec (disch := exact k0_hw1)
  sl_step
  rw [read_k harg4 K (a := 1) (j := (n / 512) + k.val) (by omega) _ (hl.off25 k),
    read_s harg11 S (a := 1) (j := (n / 512) + k.val) (by omega) _ (hl.off26 k)]
  isplitl [H4]; · iexact H4
  isplitl [H11]; · iexact H11
  isplitl [H12]
  · iexists _; isplitr; swap; · iexact H12
    ipureintro
    exact hf.step (by omega) _ (hl.off27 k) _ (by rw [pay58_eq]; exact (hl.T_part (k0_pay48 v29 v87) K S 1 k.val).symm)
  · ipureintro
    rw [pay59_eq]
    exact congrArg (mstep _) (hl.T_part (k0_pay48 v29 v87) K S 1 k.val).symm

set_option maxHeartbeats 1000000 in
/-- One trip of the loop that sums, for key head 1. -/
theorem trip11 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v184 : FVec F S1x512 .f32) (v204 : FVec F S1x512 .f32)
    (V : Vec F S1x2x128x4096 .fp8e4m3) (f : arg12.view.ty.Contents (Elt F)) (t : ℕ → FVec F S512x512 .f32) (hf : Held arg12 f t ((n + 511) / 512)) (k : Fin (k0_t11_loop v4).trips) (acc : FVec F S8x512 .f32) (E : Set ℕ) :
    InvS c harg6 arg12 arg13 V f v184 v204 t 1 k.val acc
      ⊢ wp frame (wpE (defs₀ (F := F)) Variants.none c none) E (k0_t11_body (F := F) i arg2 harg2 arg3 harg3 arg4 harg4 arg5 harg5 arg6 harg6 arg7 harg7 arg8 harg8 arg9 harg9 arg10 harg10 arg11 harg11 arg12 harg12 arg13 harg13 v4 k0_hw1 v184 v204 k acc)
          (InvS c harg6 arg12 arg13 V f v184 v204 t 1 (k.val + 1)) := by
  have hk := hl.k11 k; have hb := hl.nc_le
  unfold k0_t11_body InvS
  iintro ⟨H6, H12, ⟨%g, %hg, H13⟩, %hacc⟩
  subst hacc
  sl_exec (disch := exact k0_hw1)
  sl_step
  rw [read_v harg6 V (a := 1) (j := k.val) (by omega) _ (hl.off32 k), hf.read hb hk _ (hl.off31 k), View.readAt_full, hg]
  isplitl [H6]; · iexact H6
  isplitl [H12]; · iexact H12
  isplitl [H13]
  · iexists _; isplitr; swap; · iexact H13
    ipureintro
    exact View.read_writes_full _ _ _ _ _
  · ipureintro; rfl

end Cert.Kernel.Blk

end
-- ==== Proof.Kernel.Parts.lean ====
/-
  The run of the body's parts, one by one, on any staging memrefs.
-/
module

public import proofs.«01_k».proof.Proof.Kernel.Trips
public import Idealize.ShloMosaic.Lib.VecWindow
public import Idealize.ShloMosaic.Lib.WholeRead
public import Idealize.ShloMosaic.Lib.LoopRemainder

@[expose] public section

set_option maxRecDepth 16384

noncomputable section

namespace Cert.Kernel.Blk

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The length word the body reads from the table. -/
def wd (c : Dev nD) (i : grid0.Coords) (xt : TbBuf0 (F := F) c tbM0_0) : BitVec 32 :=
  tbM0_0.view.readAt (Elt F) (Rect.unit (s := S4) (k0_off1 i) S1.size (k0_off1_inb i)).toLoadRect xt (Shape.Idx.first (numel1_S1.symm ▸ Nat.one_pos))

/-- The two value scales the body reads. -/
def vs0 (i : grid0.Coords) (x : Vec F S4x2 .f32) : Elt F .f32 :=
  x ((Rect.unit (s := S4x2) (k0_off18 i) S1x1.size (k0_off18_inb i)).toLoadRect.idx (Shape.Idx.first (numel1_S1x1.symm ▸ Nat.one_pos)))
def vs1 (i : grid0.Coords) (x : Vec F S4x2 .f32) : Elt F .f32 :=
  x ((Rect.unit (s := S4x2) (k0_off35 i) S1x1.size (k0_off35_inb i)).toLoadRect.idx (Shape.Idx.first (numel1_S1x1.symm ▸ Nat.one_pos)))

/-- A load of one head's key scales. -/
theorem read_sh {m : Memref sig .tc .vmem S1x2x4096x128 .f32} (h : m.IsWhole) (X : Vec F S1x2x4096x128 .f32) {off : Fin 4 → ℕ} {a : Fin 2}
    (inb : ∀ i, off i + S1x1x4096x128.size i ≤ S1x2x4096x128.size i) (ho : off = ![0, a.val, 0, 0]) :
    m.view.readAt (Elt F) (Rect.unit (s := S1x2x4096x128) off S1x1x4096x128.size inb).toLoadRect (h.unread X) = sh X a := by
  subst ho
  funext x
  rw [h.readAt_unread]
  refine congrArg X (funext fun i => Fin.ext ?_)
  fin_cases i
  · show 0 + 1 * (x 0).val = (x 0).val; omega
  · show a.val + 1 * (x 1).val = a.val
    have : (x 1).val < 1 := (x 1).isLt
    omega
  · show 0 + 1 * (x 2).val = (x 2).val; omega
  · show 0 + 1 * (x 3).val = (x 3).val; omega

/-- What the two stores of the key scales leave. -/
theorem writes_ks (m : Memref sig .tc .vmem S2x4096x128 .f32) (f : m.view.ty.Contents (Elt F)) (X : Vec F S1x2x4096x128 .f32) :
    m.view.read (Elt F) (m.view.writes (Elt F) f [⟨Rect.unit (s := S2x4096x128) ![1, 0, 0] S1x4096x128.size inb_S2x4096x128_S1x4096x128_1_0_0, k0_pay10 (sh X 1)⟩,
      ⟨Rect.unit (s := S2x4096x128) ![0, 0, 0] S1x4096x128.size inb_S2x4096x128_S1x4096x128_0_0_0, k0_pay9 (sh X 0)⟩]) = ksv X := by
  funext y
  have h0 : (y 0).val < 2 := (y 0).isLt
  by_cases e : (y 0).val = 0
  · rw [View.read_writes_cons_unit_of_not_mem m.view f _ _ _ y rfl 0 (.inl (by show (y 0).val < 1; omega))]
    refine (View.read_writes_cons_unit_of_mem m.view f _ _ [] y (ix3 0 (y 1) (y 2)) rfl fun i => ?_).trans (if_pos e).symm
    fin_cases i
    · exact e
    · show (y 1).val = 0 + (y 1).val; omega
    · show (y 2).val = 0 + (y 2).val; omega
  · refine (View.read_writes_cons_unit_of_mem m.view f _ _ _ y (ix3 0 (y 1) (y 2)) rfl fun i => ?_).trans (if_neg e).symm
    fin_cases i
    · show (y 0).val = 1 + 0; omega
    · show (y 1).val = 0 + (y 1).val; omega
    · show (y 2).val = 0 + (y 2).val; omega

/-- The first store of the first result leaves the first group's half. -/
theorem writes_lo (m : Memref sig .tc .vmem S1x64x16x128 .bf16) (f : m.view.ty.Contents (Elt F)) (A : FVec F S1x64x8x128 .bf16)
    (y : S1x64x16x128.Idx) (h : (y 2).val < 8) :
    m.view.read (Elt F) (m.view.writes (Elt F) f [⟨Rect.unit (s := S1x64x16x128) ![0, 0, 0, 0] S1x64x8x128.size inb_S1x64x16x128_S1x64x8x128_0_0_0_0, A⟩]) y
      = A (ix4 (y 0) (y 1) ⟨(y 2).val, h⟩ (y 3)) := by
  refine View.read_writes_cons_unit_of_mem m.view f _ _ [] y (ix4 (y 0) (y 1) ⟨(y 2).val, h⟩ (y 3)) rfl fun i => ?_
  fin_cases i
  · show (y 0).val = 0 + (y 0).val; omega
  · show (y 1).val = 0 + (y 1).val; omega
  · show (y 2).val = 0 + (y 2).val; omega
  · show (y 3).val = 0 + (y 3).val; omega

/-- The second store of the first result completes it. -/
theorem writes_hi (m : Memref sig .tc .vmem S1x64x16x128 .bf16) (f : m.view.ty.Contents (Elt F)) (A B : FVec F S1x64x8x128 .bf16) (Y : FVec F S1x64x16x128 .bf16)
    (h8 : ∀ (y : S1x64x16x128.Idx) (h : (y 2).val < 8), m.view.read (Elt F) f y = A (ix4 (y 0) (y 1) ⟨(y 2).val, h⟩ (y 3)))
    (hA : ∀ (y : S1x64x16x128.Idx) (h : (y 2).val < 8), Y y = A (ix4 (y 0) (y 1) ⟨(y 2).val, h⟩ (y 3)))
    (hB : ∀ (y : S1x64x16x128.Idx) (h : ¬ (y 2).val < 8), Y y = B (ix4 (y 0) (y 1) ⟨(y 2).val - 8, by have : (y 2).val < 16 := (y 2).isLt; omega⟩ (y 3))) :
    m.view.read (Elt F) (m.view.writes (Elt F) f [⟨Rect.unit (s := S1x64x16x128) ![0, 0, 8, 0] S1x64x8x128.size inb_S1x64x16x128_S1x64x8x128_0_0_8_0, B⟩]) = Y := by
  funext y
  by_cases e : (y 2).val < 8
  · rw [View.read_writes_cons_unit_of_not_mem m.view f _ _ _ y rfl 2 (.inl e)]
    exact (h8 y e).trans (hA y e).symm
  · refine (View.read_writes_cons_unit_of_mem m.view f _ _ [] y (ix4 (y 0) (y 1) ⟨(y 2).val - 8, by have : (y 2).val < 16 := (y 2).isLt; omega⟩ (y 3)) rfl fun i => ?_).trans (hB y e).symm
    fin_cases i
    · show (y 0).val = 0 + (y 0).val; omega
    · show (y 1).val = 0 + (y 1).val; omega
    · show (y 2).val = 8 + ((y 2).val - 8); omega
    · show (y 3).val = 0 + (y 3).val; omega

set_option maxHeartbeats 1000000 in
/-- The first part: at a sequence's first block it stores the key scales; it reads the length and the queries. -/
theorem part1_run (c : Dev nD) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole)
    (x0 : Vec F S1x64x16x128 .bf16) (x2 : Vec F S1x2x4096x128 .f32) (xt0 : TbBuf0 (F := F) c tbM0_0) (hw : k0_chk1 (wd c i xt0)) (P : sProp 𝕄)
    (hP : (cond0_0 i ∧ P = iprop(∃ f, (arg11.view.loc (c : Thread nD τ) ↦[arg11.view.set]{fullShare} f))) ∨ (¬ cond0_0 i ∧ P = (arg11.view.loc (c : Thread nD τ) ↦[arg11.view.set]{fullShare} harg11.unread (ksv x2))))
    (E : Set ℕ) (K) :
    iprop((arg3.view.loc (c : Thread nD τ) ↦[arg3.view.set]{fullShare} harg3.unread x0) ∗ (arg5.view.loc (c : Thread nD τ) ↦[arg5.view.set]{fullShare} harg5.unread x2) ∗ P ∗ tbPt0 c tbM0_0 xt0
        ∗ (∀ z, iprop(⌜z = ⟨BitVec.ofNat 32 (i 0).val, wd c i xt0, hw, nfw (wd c i xt0), ncw (wd c i xt0), k0_pay11 x0, k0_pay12 x0, k0_pay13, k0_pay14⟩⌝
            ∗ (arg3.view.loc (c : Thread nD τ) ↦[arg3.view.set]{fullShare} harg3.unread x0) ∗ (arg5.view.loc (c : Thread nD τ) ↦[arg5.view.set]{fullShare} harg5.unread x2) ∗ (arg11.view.loc (c : Thread nD τ) ↦[arg11.view.set]{fullShare} harg11.unread (ksv x2)) ∗ tbPt0 c tbM0_0 xt0) -∗ K z))
      ⊢ wp frame (wpE (defs₀ (F := F)) Variants.none c none) E (k0_part1 (F := F) i tbM0_0 htbM0_0 arg3 harg3 arg4 harg4 arg5 harg5 arg6 harg6 arg7 harg7 arg8 harg8 arg9 harg9 arg10 harg10 arg11 harg11 arg12 harg12 arg13 harg13) K := by
  rw [k0_part1_eq_skeleton]; unfold k0_part1_skel
  unfold wd at hw
  rcases hP with ⟨hc0, rfl⟩ | ⟨hc0, rfl⟩
  · iintro ⟨H0, H2, ⟨%f, HS0⟩, HT0, Hk⟩
    sl_exec (disch := first | sl_exact hc0 | sl_exact hw)
    sl_step
    have e0 : arg3.view.readAt (Elt F) (Rect.unit (s := S1x64x16x128) ![0, 0, 0, 0] S1x64x16x128.size inb_S1x64x16x128_S1x64x16x128_0_0_0_0).toLoadRect (harg3.unread x0) = x0 :=
      (View.readAt_full _ _ _).trans (harg3.read_unread x0)
    have eA := harg11.eq_unread (writes_ks arg11 f x2)
    simp only [e0, read_sh harg5 x2 (a := 0) inb_S1x2x4096x128_S1x1x4096x128_0_0_0_0 rfl, read_sh harg5 x2 (a := 1) inb_S1x2x4096x128_S1x1x4096x128_0_1_0_0 rfl]
    rw [eA]
    iapply Hk
    isplitr; · ipureintro; rfl
    isplitl [H0]; · iexact H0
    isplitl [H2]; · iexact H2
    isplitl [HS0]; · iexact HS0
    iexact HT0
  · iintro ⟨H0, H2, HS0, HT0, Hk⟩
    sl_exec (disch := first | sl_exact hc0 | sl_exact hw)
    sl_step
    have e0 : arg3.view.readAt (Elt F) (Rect.unit (s := S1x64x16x128) ![0, 0, 0, 0] S1x64x16x128.size inb_S1x64x16x128_S1x64x16x128_0_0_0_0).toLoadRect (harg3.unread x0) = x0 :=
      (View.readAt_full _ _ _).trans (harg3.read_unread x0)
    simp only [e0]
    iapply Hk
    isplitr; · ipureintro; rfl
    isplitl [H0]; · iexact H0
    isplitl [H2]; · iexact H2
    isplitl [HS0]; · iexact HS0
    iexact HT0

set_option maxHeartbeats 1000000 in
/-- The third part: it stores the query codes and scales, and runs over the full chunks of the first key head. -/
theorem part3_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (v29 : FVec F S64x16x128 .f32) (v81 : FVec F S64x16x1 .f32) (v83 : IVec S64x16x1 1) (v85 : FVec F S64x16x1 .f32)
    (K : Vec F S1x2x4096x128 .fp8e4m3) (S : Vec F S2x4096x128 .f32) (E : Set ℕ) (Φ : _ → sProp 𝕄) :
    iprop((arg4.view.loc (c : Thread nD τ) ↦[arg4.view.set]{fullShare} harg4.unread K) ∗ (arg11.view.loc (c : Thread nD τ) ↦[arg11.view.set]{fullShare} harg11.unread S) ∗ (∃ f, (arg9.view.loc (c : Thread nD τ) ↦[arg9.view.set]{fullShare} f)) ∗ (∃ f, (arg10.view.loc (c : Thread nD τ) ↦[arg10.view.set]{fullShare} f)) ∗ (∃ f, (arg12.view.loc (c : Thread nD τ) ↦[arg12.view.set]{fullShare} f))
        ∗ (∀ w, iprop((arg4.view.loc (c : Thread nD τ) ↦[arg4.view.set]{fullShare} harg4.unread K) ∗ (arg11.view.loc (c : Thread nD τ) ↦[arg11.view.set]{fullShare} harg11.unread S) ∗ (∃ f, ⌜arg9.view.read (Elt F) f = k0_pay20 v29 v81 v83⌝ ∗ (arg9.view.loc (c : Thread nD τ) ↦[arg9.view.set]{fullShare} f)) ∗ (∃ f, ⌜arg10.view.read (Elt F) f = k0_pay21 v85⌝ ∗ (arg10.view.loc (c : Thread nD τ) ↦[arg10.view.set]{fullShare} f)) ∗ (∃ f, ⌜Held arg12 f (T v4 n (k0_pay22 v29 v81 v83) K S 0) (n / 512)⌝ ∗ (arg12.view.loc (c : Thread nD τ) ↦[arg12.view.set]{fullShare} f)))
            -∗ Φ ⟨k0_pay19 v81 v83, k0_pay22 v29 v81 v83, k0_pay23 v85, w, mx (T v4 n (k0_pay22 v29 v81 v83) K S 0) (n / 512), 1#32⟩))
      ⊢ wp frame (wpE (defs₀ (F := F)) Variants.none c none) E (k0_part3 (F := F) i tbM0_0 htbM0_0 arg3 harg3 arg4 harg4 arg5 harg5 arg6 harg6 arg7 harg7 arg8 harg8 arg9 harg9 arg10 harg10 arg11 harg11 arg12 harg12 arg13 harg13 v4 k0_hw1 (nfw v4) v29 v81 v83 v85) Φ := by
  have e1 := hl.t1.1
  rw [k0_part3_eq_skeleton]; unfold k0_part3_skel
  iintro ⟨H4, H11, ⟨%f9, H9⟩, ⟨%f10, H10⟩, ⟨%f12, H12⟩, Hk⟩
  sl_exec (disch := exact k0_hw1)
  sl_for (InvM c harg4 harg11 arg12 K S (T v4 n (k0_pay22 v29 v81 v83) K S 0) 0) $$ [H4 H11 H12]
  case region => intro k acc; exact trip1 c hl i _ _ _ _ _ _ _ _ _ _ _ _ _ _ _ _ _ _ _ _ _ _ _ _ k0_hw1 v29 v81 v83 v85 K S k acc E
  · unfold InvM
    isplitl [H4]; · iexact H4
    isplitl [H11]; · iexact H11
    isplitl [H12]
    · iexists _; isplitr; swap; · iexact H12
      ipureintro; exact Held.zero _ _ _
    · ipureintro; rfl
  iintro %acc HI
  unfold InvM
  icases HI with ⟨H4, H11, ⟨%f, %hf, H12⟩, %ha⟩
  have e1' : 0 + Scf.trips (k0_t1_loop v4).lb (k0_t1_loop v4).ub (k0_t1_loop v4).st = n / 512 := (Nat.zero_add _).trans e1
  rw [e1'] at hf ha
  subst ha
  sl_exec
  sl_step
  iapply Hk
  isplitl [H4]; · iexact H4
  isplitl [H11]; · iexact H11
  isplitl [H9]
  · iexists _; isplitr; swap; · iexact H9
    ipureintro; exact View.read_writes_full _ _ _ _ _
  isplitl [H10]
  · iexists _; isplitr; swap; · iexact H10
    ipureintro; exact View.read_writes_full _ _ _ _ _
  · iexists _; isplitr; swap; · iexact H12
    ipureintro; exact hf

set_option maxHeartbeats 1000000 in
/-- The fourth part: the last chunk of the first key head, and the sums over its chunks. -/
theorem part4_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (arg0 : BitVec 32) (v114 : FVec F S512x128 .fp8e4m3) (v119 : FVec F S1x512 .f32) (v125 : BitVec 32) (c1 : BitVec 32)
    (K : Vec F S1x2x4096x128 .fp8e4m3) (S : Vec F S2x4096x128 .f32) (V : Vec F S1x2x128x4096 .fp8e4m3) (x4 : Vec F S4x2 .f32) (f8) (E : Set ℕ) (Φ : _ → sProp 𝕄) :
    iprop((arg4.view.loc (c : Thread nD τ) ↦[arg4.view.set]{fullShare} harg4.unread K) ∗ (arg11.view.loc (c : Thread nD τ) ↦[arg11.view.set]{fullShare} harg11.unread S) ∗ (arg6.view.loc (c : Thread nD τ) ↦[arg6.view.set]{fullShare} harg6.unread V) ∗ (arg7.view.loc (c : Thread nD τ) ↦[arg7.view.set]{fullShare} harg7.unread x4) ∗ (arg8.view.loc (c : Thread nD τ) ↦[arg8.view.set]{fullShare} f8) ∗ (∃ f, ⌜Held arg12 f (T v4 n v114 K S 0) (n / 512)⌝ ∗ (arg12.view.loc (c : Thread nD τ) ↦[arg12.view.set]{fullShare} f)) ∗ (∃ g, (arg13.view.loc (c : Thread nD τ) ↦[arg13.view.set]{fullShare} g))
        ∗ (iprop((arg4.view.loc (c : Thread nD τ) ↦[arg4.view.set]{fullShare} harg4.unread K) ∗ (arg11.view.loc (c : Thread nD τ) ↦[arg11.view.set]{fullShare} harg11.unread S) ∗ (arg6.view.loc (c : Thread nD τ) ↦[arg6.view.set]{fullShare} harg6.unread V) ∗ (arg7.view.loc (c : Thread nD τ) ↦[arg7.view.set]{fullShare} harg7.unread x4) ∗ (arg8.view.loc (c : Thread nD τ) ↦[arg8.view.set]{fullShare} f8) ∗ (∃ f, (arg12.view.loc (c : Thread nD τ) ↦[arg12.view.set]{fullShare} f)) ∗ (∃ g, (arg13.view.loc (c : Thread nD τ) ↦[arg13.view.set]{fullShare} g)))
            -∗ ∀ z, ⌜z.1 = k0_pay46 (ls v119 (k0_pay37 v119 (mx (T v4 n v114 K S 0) ((n + 511) / 512))) (T v4 n v114 K S 0) ((n + 511) / 512)) (os v119 (k0_pay37 v119 (mx (T v4 n v114 K S 0) ((n + 511) / 512))) (T v4 n v114 K S 0) V 0 ((n + 511) / 512)) (vs0 i x4)⌝ -∗ Φ z))
      ⊢ wp frame (wpE (defs₀ (F := F)) Variants.none c none) E (k0_part4 (F := F) i tbM0_0 htbM0_0 arg3 harg3 arg4 harg4 arg5 harg5 arg6 harg6 arg7 harg7 arg8 harg8 arg9 harg9 arg10 harg10 arg11 harg11 arg12 harg12 arg13 harg13 arg0 v4 k0_hw1 (nfw v4) (ncw v4) v114 v119 v125 (mx (T v4 n v114 K S 0) (n / 512)) c1) Φ := by
  have e3 := hl.t3.1; have e5 := hl.t5.1
  have enc : n / 512 + ((n + 511) / 512 - n / 512) = (n + 511) / 512 := by have := hl.nf_le_nc; omega
  rw [k0_part4_eq_skeleton]; unfold k0_part4_skel
  iintro ⟨H4, H11, H6, H7, H8, ⟨%f, %hf, H12⟩, ⟨%g0, H13⟩, Hk⟩
  sl_exec (disch := exact k0_hw1)
  sl_for (InvM c harg4 harg11 arg12 K S (T v4 n v114 K S 0) (n / 512)) $$ [H4 H11 H12]
  case region => intro k acc; exact trip3 c hl i _ _ _ _ _ _ _ _ _ _ _ _ _ _ _ _ _ _ _ _ _ _ _ _ k0_hw1 arg0 v114 v119 v125 (mx (T v4 n v114 K S 0) (n / 512)) c1 K S k acc E
  · unfold InvM
    isplitl [H4]; · iexact H4
    isplitl [H11]; · iexact H11
    isplitl [H12]
    · iexists _; isplitr; swap; · iexact H12
      ipureintro; exact hf
    · ipureintro; rfl
  iintro %acc HI
  unfold InvM
  icases HI with ⟨H4, H11, ⟨%f', %hf', H12⟩, %ha⟩
  rw [show Scf.trips (k0_t3_loop v4).lb (k0_t3_loop v4).ub (k0_t3_loop v4).st = (n + 511) / 512 - n / 512 from e3, enc] at hf' ha
  subst ha
  sl_exec (disch := exact k0_hw1)
  sl_for (InvS c harg6 arg12 arg13 V f' v119 (k0_pay37 v119 (mx (T v4 n v114 K S 0) ((n + 511) / 512))) (T v4 n v114 K S 0) 0) $$ [H6 H12 H13]
  case region => intro k acc; exact trip5 c hl i _ _ _ _ _ _ _ _ _ _ _ _ _ _ _ _ _ _ _ _ _ _ _ _ k0_hw1 arg0 v114 v119 v125 (mx (T v4 n v114 K S 0) (n / 512)) c1 (mx (T v4 n v114 K S 0) ((n + 511) / 512)) V f' (T v4 n v114 K S 0) hf' k acc E
  · unfold InvS
    isplitl [H6]; · iexact H6
    isplitl [H12]; · iexact H12
    isplitl [H13]
    · iexists _; isplitr; swap; · iexact H13
      ipureintro; exact View.read_writes_full _ _ _ _ _
    · ipureintro; rfl
  iintro %acc HI
  unfold InvS
  icases HI with ⟨H6, H12, ⟨%g, %hg, H13⟩, %ha⟩
  rw [show Scf.trips (k0_t5_loop v4).lb (k0_t5_loop v4).ub (k0_t5_loop v4).st = (n + 511) / 512 from e5] at hg ha
  subst ha
  sl_exec (disch := exact k0_hw1)
  sl_step
  have eg : arg13.view.readAt (Elt F) (Rect.unit (s := S128x512) ![0, 0] S128x512.size inb_S128x512_S128x512_0_0).toLoadRect g = _ := (View.readAt_full _ _ _).trans hg
  have e7 : arg7.view.readAt (Elt F) (Rect.unit (s := S4x2) (k0_off18 i) S1x1.size (k0_off18_inb i)).toLoadRect (harg7.unread x4) (Shape.Idx.first (numel1_S1x1.symm ▸ Nat.one_pos)) = vs0 i x4 := harg7.readAt_unread _ _ _
  iapply Hk $$ [H4 H11 H6 H7 H8 H12 H13]
  · isplitl [H4]; · iexact H4
    isplitl [H11]; · iexact H11
    isplitl [H6]; · iexact H6
    isplitl [H7]; · iexact H7
    isplitl [H8]; · iexact H8
    isplitl [H12]; · iexists _; iexact H12
    iexists _; iexact H13
  · ipureintro
    exact congrArg₂ (k0_pay46 _) eg e7

set_option maxHeartbeats 1000000 in
/-- The fifth part: it stores the first group's half of the result, and runs over the chunks of the second key head. -/
theorem part5_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (v29 : FVec F S64x16x128 .f32) (v85 : FVec F S64x16x1 .f32) (v87 : FVec F S64x16x1 .f32) (v163 : FVec F S64x8x128 .bf16) (v164 : Vec F S1x64x8x128 .bf16)
    (K : Vec F S1x2x4096x128 .fp8e4m3) (S : Vec F S2x4096x128 .f32) (f8) (E : Set ℕ) (Φ : _ → sProp 𝕄) :
    iprop((arg4.view.loc (c : Thread nD τ) ↦[arg4.view.set]{fullShare} harg4.unread K) ∗ (arg11.view.loc (c : Thread nD τ) ↦[arg11.view.set]{fullShare} harg11.unread S) ∗ (arg8.view.loc (c : Thread nD τ) ↦[arg8.view.set]{fullShare} f8) ∗ (∃ f, (arg12.view.loc (c : Thread nD τ) ↦[arg12.view.set]{fullShare} f)) ∗ (∃ g, (arg13.view.loc (c : Thread nD τ) ↦[arg13.view.set]{fullShare} g))
        ∗ (iprop((arg4.view.loc (c : Thread nD τ) ↦[arg4.view.set]{fullShare} harg4.unread K) ∗ (arg11.view.loc (c : Thread nD τ) ↦[arg11.view.set]{fullShare} harg11.unread S) ∗ (∃ f, ⌜∀ (y : S1x64x16x128.Idx) (h : (y 2).val < 8), arg8.view.read (Elt F) f y = k0_pay47 v163 (ix4 (y 0) (y 1) ⟨(y 2).val, h⟩ (y 3))⌝ ∗ (arg8.view.loc (c : Thread nD τ) ↦[arg8.view.set]{fullShare} f)) ∗ (∃ f, ⌜Held arg12 f (T v4 n (k0_pay48 v29 v87) K S 1) ((n + 511) / 512)⌝ ∗ (arg12.view.loc (c : Thread nD τ) ↦[arg12.view.set]{fullShare} f)) ∗ (∃ g, (arg13.view.loc (c : Thread nD τ) ↦[arg13.view.set]{fullShare} g)))
            -∗ Φ ⟨k0_pay49 v85, k0_pay63 v85 (mx (T v4 n (k0_pay48 v29 v87) K S 1) ((n + 511) / 512)), k0_pay64 (F := F)⟩))
      ⊢ wp frame (wpE (defs₀ (F := F)) Variants.none c none) E (k0_part5 (F := F) i tbM0_0 htbM0_0 arg3 harg3 arg4 harg4 arg5 harg5 arg6 harg6 arg7 harg7 arg8 harg8 arg9 harg9 arg10 harg10 arg11 harg11 arg12 harg12 arg13 harg13 v4 k0_hw1 (nfw v4) (ncw v4) v29 v85 v87 v163 v164) Φ := by
  have e7 := hl.t7.1; have e9 := hl.t9.1
  have enc : n / 512 + ((n + 511) / 512 - n / 512) = (n + 511) / 512 := by have := hl.nf_le_nc; omega
  rw [k0_part5_eq_skeleton]; unfold k0_part5_skel
  iintro ⟨H4, H11, H8, ⟨%f0, H12⟩, ⟨%g0, H13⟩, Hk⟩
  sl_exec (disch := exact k0_hw1)
  sl_for (InvM c harg4 harg11 arg12 K S (T v4 n (k0_pay48 v29 v87) K S 1) 0) $$ [H4 H11 H12]
  case region => intro k acc; exact trip7 c hl i _ _ _ _ _ _ _ _ _ _ _ _ _ _ _ _ _ _ _ _ _ _ _ _ k0_hw1 v29 v85 v87 v163 v164 K S k acc E
  · unfold InvM
    isplitl [H4]; · iexact H4
    isplitl [H11]; · iexact H11
    isplitl [H12]
    · iexists _; isplitr; swap; · iexact H12
      ipureintro; exact Held.zero _ _ _
    · ipureintro; rfl
  iintro %acc HI
  unfold InvM
  icases HI with ⟨H4, H11, ⟨%f, %hf, H12⟩, %ha⟩
  have e7' : 0 + Scf.trips (k0_t7_loop v4).lb (k0_t7_loop v4).ub (k0_t7_loop v4).st = n / 512 := (Nat.zero_add _).trans e7
  rw [e7'] at hf ha
  subst ha
  sl_exec (disch := exact k0_hw1)
  sl_for (InvM c harg4 harg11 arg12 K S (T v4 n (k0_pay48 v29 v87) K S 1) (n / 512)) $$ [H4 H11 H12]
  case region => intro k acc; exact trip9 c hl i _ _ _ _ _ _ _ _ _ _ _ _ _ _ _ _ _ _ _ _ _ _ _ _ k0_hw1 v29 v85 v87 v163 v164 K S k acc E
  · unfold InvM
    isplitl [H4]; · iexact H4
    isplitl [H11]; · iexact H11
    isplitl [H12]
    · iexists _; isplitr; swap; · iexact H12
      ipureintro; exact hf
    · ipureintro; rfl
  iintro %acc HI
  unfold InvM
  icases HI with ⟨H4, H11, ⟨%f', %hf', H12⟩, %ha⟩
  rw [show Scf.trips (k0_t9_loop v4).lb (k0_t9_loop v4).ub (k0_t9_loop v4).st = (n + 511) / 512 - n / 512 from e9, enc] at hf' ha
  subst ha
  sl_exec (disch := exact k0_hw1)
  sl_step
  iapply Hk
  isplitl [H4]; · iexact H4
  isplitl [H11]; · iexact H11
  isplitl [H8]
  · iexists _; isplitr; swap; · iexact H8
    ipureintro; exact writes_lo arg8 f8 _
  isplitl [H12]
  · iexists _; isplitr; swap; · iexact H12
    ipureintro; exact hf'
  · iexists _; iexact H13

/-- What is left of the body after its parts. -/
def rest (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (v4 : BitVec 32) (k0_hw1 : k0_chk1 v4) (v184 : FVec F S1x512 .f32) (v204 : FVec F S1x512 .f32) (v208 : FVec F S128x512 .f32) :
    Prog (TpuEff nD τ sig (Elt F) Λ₀ .tc) PUnit := do
    Prog.lift (.store arg13 (Rect.unit (s := S128x512) ![0, 0] S128x512.size inb_S128x512_S128x512_0_0) v208 Finset.univ (View.stores_vmem_bits_univ h_S128x512 rfl) (.inl rfl))

    let v215 : FVec F S8x512 .f32 ← Scf.Loop.for (k0_t11_loop v4) (k0_t11_ok v4 k0_hw1) (k0_pay1 (F := F)) (k0_t11_body i tbM0_0 htbM0_0 arg3 harg3 arg4 harg4 arg5 harg5 arg6 harg6 arg7 harg7 arg8 harg8 arg9 harg9 arg10 harg10 arg11 harg11 arg12 harg12 arg13 harg13 v4 k0_hw1 v184 v204)
    let v216 : FVec F S8x512 .f32 ← Scf.Loop.for (k0_t12_loop v4) (k0_t12_ok v4 k0_hw1) v215 (k0_t12_body i tbM0_0 htbM0_0 arg3 harg3 arg4 harg4 arg5 harg5 arg6 harg6 arg7 harg7 arg8 harg8 arg9 harg9 arg10 harg10 arg11 harg11 arg12 harg12 arg13 harg13 v4 k0_hw1 v184 v204)

    let v219 : Vec F S128x512 .f32 ← Prog.lift (.load arg13 (Rect.unit (s := S128x512) ![0, 0] S128x512.size inb_S128x512_S128x512_0_0).toLoadRect (View.loadsAt_vmem h_S128x512))

    let v221 : Elt F .f32 ← smemLoad arg7 (Rect.unit (s := S4x2) (k0_off35 i) S1x1.size (k0_off35_inb i)) numel1_S1x1 rfl
    let v229 : Vec F S1x64x8x128 .bf16 ← Prog.lift (.load arg8 (Rect.unit (s := S1x64x16x128) ![0, 0, 8, 0] S1x64x8x128.size inb_S1x64x16x128_S1x64x8x128_0_0_8_0).toLoadRect (View.loadsAt_vmem h_S1x64x8x128))

    Prog.lift (.store arg8 (Rect.unit (s := S1x64x16x128) ![0, 0, 8, 0] S1x64x8x128.size inb_S1x64x16x128_S1x64x8x128_0_0_8_0) (k0_pay8 v216 v219 v221) Finset.univ (View.stores_vmem h_S1x64x8x128 (harg8.storeExact_slice rfl _ packedbf16_S1x64x16x128_S1x64x8x128_0_0_8_0) (fun _ => rfl)) (.inl rfl))
    pure ⟨⟩

set_option maxHeartbeats 1000000 in
/-- The rest of the body: the sums over the chunks of the second key head, and the second group's half of the result. -/
theorem rest_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (v184 : FVec F S1x512 .f32) (v204 : FVec F S1x512 .f32) (t : ℕ → FVec F S512x512 .f32)
    (V : Vec F S1x2x128x4096 .fp8e4m3) (x4 : Vec F S4x2 .f32) (A : FVec F S1x64x8x128 .bf16) (Y : FVec F S1x64x16x128 .bf16)
    (f8 : arg8.view.ty.Contents (Elt F)) (h8 : ∀ (y : S1x64x16x128.Idx) (h : (y 2).val < 8), arg8.view.read (Elt F) f8 y = A (ix4 (y 0) (y 1) ⟨(y 2).val, h⟩ (y 3)))
    (hA : ∀ (y : S1x64x16x128.Idx) (h : (y 2).val < 8), Y y = A (ix4 (y 0) (y 1) ⟨(y 2).val, h⟩ (y 3)))
    (hB : ∀ (y : S1x64x16x128.Idx) (h : ¬ (y 2).val < 8), Y y = k0_pay8 (ls v184 v204 t ((n + 511) / 512)) (os v184 v204 t V 1 ((n + 511) / 512)) (vs1 i x4) (ix4 (y 0) (y 1) ⟨(y 2).val - 8, by have : (y 2).val < 16 := (y 2).isLt; omega⟩ (y 3)))
    (E : Set ℕ) (Φ : _ → sProp 𝕄) :
    iprop((arg6.view.loc (c : Thread nD τ) ↦[arg6.view.set]{fullShare} harg6.unread V) ∗ (arg7.view.loc (c : Thread nD τ) ↦[arg7.view.set]{fullShare} harg7.unread x4) ∗ (arg8.view.loc (c : Thread nD τ) ↦[arg8.view.set]{fullShare} f8) ∗ (∃ f, ⌜Held arg12 f t ((n + 511) / 512)⌝ ∗ (arg12.view.loc (c : Thread nD τ) ↦[arg12.view.set]{fullShare} f)) ∗ (∃ g, (arg13.view.loc (c : Thread nD τ) ↦[arg13.view.set]{fullShare} g))
        ∗ (iprop((arg6.view.loc (c : Thread nD τ) ↦[arg6.view.set]{fullShare} harg6.unread V) ∗ (arg7.view.loc (c : Thread nD τ) ↦[arg7.view.set]{fullShare} harg7.unread x4) ∗ (∃ f, ⌜arg8.view.read (Elt F) f = Y⌝ ∗ (arg8.view.loc (c : Thread nD τ) ↦[arg8.view.set]{fullShare} f)) ∗ (∃ f, (arg12.view.loc (c : Thread nD τ) ↦[arg12.view.set]{fullShare} f)) ∗ (∃ g, (arg13.view.loc (c : Thread nD τ) ↦[arg13.view.set]{fullShare} g)))
            -∗ Φ PUnit.unit))
      ⊢ wp frame (wpE (defs₀ (F := F)) Variants.none c none) E (rest (F := F) i arg3 harg3 arg4 harg4 arg5 harg5 arg6 harg6 arg7 harg7 arg8 harg8 arg9 harg9 arg10 harg10 arg11 harg11 arg12 harg12 arg13 harg13 v4 k0_hw1 v184 v204 (k0_pay64 (F := F))) Φ := by
  have e11 := hl.t11.1
  unfold rest
  iintro ⟨H6, H7, H8, ⟨%f', %hf', H12⟩, ⟨%g0, H13⟩, Hk⟩
  sl_exec (disch := exact k0_hw1)
  sl_for (InvS c harg6 arg12 arg13 V f' v184 v204 t 1) $$ [H6 H12 H13]
  case region => intro k acc; exact trip11 c hl i _ _ _ _ _ _ _ _ _ _ _ _ _ _ _ _ _ _ _ _ _ _ _ _ k0_hw1 v184 v204 V f' t hf' k acc E
  · unfold InvS
    isplitl [H6]; · iexact H6
    isplitl [H12]; · iexact H12
    isplitl [H13]
    · iexists _; isplitr; swap; · iexact H13
      ipureintro; exact View.read_writes_full _ _ _ _ _
    · ipureintro; rfl
  iintro %acc HI
  unfold InvS
  icases HI with ⟨H6, H12, ⟨%g, %hg, H13⟩, %ha⟩
  rw [show Scf.trips (k0_t11_loop v4).lb (k0_t11_loop v4).ub (k0_t11_loop v4).st = (n + 511) / 512 from e11] at hg ha
  subst ha
  sl_exec (disch := exact k0_hw1)
  sl_step
  have eg : arg13.view.readAt (Elt F) (Rect.unit (s := S128x512) ![0, 0] S128x512.size inb_S128x512_S128x512_0_0).toLoadRect g = _ := (View.readAt_full _ _ _).trans hg
  have e7 : arg7.view.readAt (Elt F) (Rect.unit (s := S4x2) (k0_off35 i) S1x1.size (k0_off35_inb i)).toLoadRect (harg7.unread x4) (Shape.Idx.first (numel1_S1x1.symm ▸ Nat.one_pos)) = vs1 i x4 := harg7.readAt_unread _ _ _
  iapply Hk
  isplitl [H6]; · iexact H6
  isplitl [H7]; · iexact H7
  isplitl [H8]
  · iexists _; isplitr; swap; · iexact H8
    ipureintro
    refine writes_hi arg8 f8 A _ Y h8 hA fun y h => ?_
    rw [hB y h]
    exact (congrFun (congrArg₂ (k0_pay8 _) eg e7) _).symm
  isplitl [H12]; · iexists _; iexact H12
  iexists _; iexact H13

end Cert.Kernel.Blk

end
-- ==== Proof.Kernel.Body.lean ====
/-
  The run of the whole body: what it leaves in the staging buffers of the three results and in the key scales.
-/
module

public import proofs.«01_k».proof.Proof.Kernel.Parts
public import Idealize.ShloMosaic.Lib.VecWindow
public import Idealize.ShloMosaic.Lib.WholeRead
public import Idealize.ShloMosaic.Lib.LoopRemainder

@[expose] public section

set_option maxRecDepth 16384

noncomputable section

namespace Cert.Kernel.Blk

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem part2_run (c : Dev nD) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (v34 : FVec F S64x16x1 .f32) (v35 v36 : IVec S64x16x1 32) (E : Set ℕ) (Φ : _ → sProp 𝕄) :
    Φ ⟨k0_pay16 v34 v35 v36, k0_pay17 v34 v35 v36, k0_pay18 v34 v35 v36⟩
      ⊢ wp frame (wpE (defs₀ (F := F)) Variants.none c none) E (k0_part2 (F := F) i tbM0_0 htbM0_0 arg3 harg3 arg4 harg4 arg5 harg5 arg6 harg6 arg7 harg7 arg8 harg8 arg9 harg9 arg10 harg10 arg11 harg11 arg12 harg12 arg13 harg13 v34 v35 v36) Φ := by
  rw [k0_part2_eq_skeleton]; unfold k0_part2_skel
  iintro H
  sl_step
  iexact H

set_option maxHeartbeats 1000000 in
/-- One run of the body, from any staging buffers. -/
theorem body_run (c : Dev nD) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole)
    (x0 : Vec F S1x64x16x128 .bf16) (x1 : Vec F S1x2x4096x128 .fp8e4m3) (x2 : Vec F S1x2x4096x128 .f32) (x3 : Vec F S1x2x128x4096 .fp8e4m3) (x4 : Vec F S4x2 .f32) (xt0 : TbBuf0 (F := F) c tbM0_0)
    {n : ℕ} (hl : Len (wd c i xt0) n) (P : sProp 𝕄)
    (hP : (cond0_0 i ∧ P = iprop(∃ f, (arg11.view.loc (c : Thread nD τ) ↦[arg11.view.set]{fullShare} f))) ∨ (¬ cond0_0 i ∧ P = (arg11.view.loc (c : Thread nD τ) ↦[arg11.view.set]{fullShare} harg11.unread (ksv x2))))
    (E : Set ℕ) (Φ : _ → sProp 𝕄) :
    iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ P ∗ (∃ f, (arg12.view.loc (c : Thread nD τ) ↦[arg12.view.set]{fullShare} f)) ∗ (∃ f, (arg13.view.loc (c : Thread nD τ) ↦[arg13.view.set]{fullShare} f)) ∗ tbPt0 c tbM0_0 xt0
        ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (∃ f, ⌜arg8.view.read (Elt F) f = ob (wd c i xt0) n x0 x1 (ksv x2) x3 (vs0 i x4) (vs1 i x4)⌝ ∗ (arg8.view.loc (c : Thread nD τ) ↦[arg8.view.set]{fullShare} f)) ∗ (∃ f, ⌜arg9.view.read (Elt F) f = qc x0⌝ ∗ (arg9.view.loc (c : Thread nD τ) ↦[arg9.view.set]{fullShare} f)) ∗ (∃ f, ⌜arg10.view.read (Elt F) f = qs x0⌝ ∗ (arg10.view.loc (c : Thread nD τ) ↦[arg10.view.set]{fullShare} f)) ∗ (arg11.view.loc (c : Thread nD τ) ↦[arg11.view.set]{fullShare} harg11.unread (ksv x2)) ∗ (∃ f, (arg12.view.loc (c : Thread nD τ) ↦[arg12.view.set]{fullShare} f)) ∗ (∃ f, (arg13.view.loc (c : Thread nD τ) ↦[arg13.view.set]{fullShare} f)) ∗ tbPt0 c tbM0_0 xt0)
            -∗ Φ PUnit.unit))
      ⊢ wp frame (wpE (defs₀ (F := F)) Variants.none c none) E (cc0_gqa_fp8 (F := F) i tbM0_0 htbM0_0 arg3 harg3 arg4 harg4 arg5 harg5 arg6 harg6 arg7 harg7 arg8 harg8 arg9 harg9 arg10 harg10 arg11 harg11 arg12 harg12 arg13 harg13) Φ := by
  rw [cc0_gqa_fp8_eq_skeleton]; unfold cc0_gqa_fp8_skel
  rw [wp_bind]
  iintro ⟨H3, H4, H5, H6, H7, ⟨%f8, H8⟩, H9, H10, HP, H12, H13, HT, Hk⟩
  iapply (part1_run c i arg3 harg3 arg4 harg4 arg5 harg5 arg6 harg6 arg7 harg7 arg8 harg8 arg9 harg9 arg10 harg10 arg11 harg11 arg12 harg12 arg13 harg13 x0 x2 xt0 hl.chk P hP E)
  isplitl [H3]; · iexact H3
  isplitl [H5]; · iexact H5
  isplitl [HP]; · iexact HP
  isplitl [HT]; · iexact HT
  iintro %z ⟨%hz, H3, H5, H11, HT⟩
  subst hz
  dsimp only
  rw [wp_bind]
  iapply (part2_run c i arg3 harg3 arg4 harg4 arg5 harg5 arg6 harg6 arg7 harg7 arg8 harg8 arg9 harg9 arg10 harg10 arg11 harg11 arg12 harg12 arg13 harg13 (k0_pay12 x0) k0_pay13 k0_pay14 E)
  dsimp only
  rw [wp_bind]
  iapply (part3_run c hl i arg3 harg3 arg4 harg4 arg5 harg5 arg6 harg6 arg7 harg7 arg8 harg8 arg9 harg9 arg10 harg10 arg11 harg11 arg12 harg12 arg13 harg13 hl.chk (k0_pay11 x0) (isc x0) (zer x0) (sc x0) x1 (ksv x2) E)
  isplitl [H4]; · iexact H4
  isplitl [H11]; · iexact H11
  isplitl [H9]; · iexact H9
  isplitl [H10]; · iexact H10
  isplitl [H12]; · iexact H12
  iintro %w ⟨H4, H11, H9, H10, H12⟩
  dsimp only
  rw [wp_bind]
  iapply (part4_run c hl i arg3 harg3 arg4 harg4 arg5 harg5 arg6 harg6 arg7 harg7 arg8 harg8 arg9 harg9 arg10 harg10 arg11 harg11 arg12 harg12 arg13 harg13 hl.chk (BitVec.ofNat 32 (i 0).val) (qh0 x0) (qr0 x0) w 1#32 x1 (ksv x2) x3 x4 f8 E)
  isplitl [H4]; · iexact H4
  isplitl [H11]; · iexact H11
  isplitl [H6]; · iexact H6
  isplitl [H7]; · iexact H7
  isplitl [H8]; · iexact H8
  isplitl [H12]; · iexact H12
  isplitl [H13]; · iexact H13
  iintro ⟨H4, H11, H6, H7, H8, H12, H13⟩ %z %hz
  obtain ⟨z1, z2⟩ := z
  obtain rfl : z1 = _ := hz
  dsimp only
  rw [wp_bind]
  iapply (part5_run c hl i arg3 harg3 arg4 harg4 arg5 harg5 arg6 harg6 arg7 harg7 arg8 harg8 arg9 harg9 arg10 harg10 arg11 harg11 arg12 harg12 arg13 harg13 hl.chk (k0_pay11 x0) (sc x0) (k0_pay19 (isc x0) (zer x0)) _ z2 x1 (ksv x2) f8 E)
  isplitl [H4]; · iexact H4
  isplitl [H11]; · iexact H11
  isplitl [H8]; · iexact H8
  isplitl [H12]; · iexact H12
  isplitl [H13]; · iexact H13
  iintro ⟨H4, H11, ⟨%g8, %h8, H8⟩, H12, H13⟩
  dsimp only
  iapply (rest_run c hl i arg3 harg3 arg4 harg4 arg5 harg5 arg6 harg6 arg7 harg7 arg8 harg8 arg9 harg9 arg10 harg10 arg11 harg11 arg12 harg12 arg13 harg13 hl.chk (qr1 x0) (k0_pay37 (qr1 x0) (mx (T1 (wd c i xt0) n x0 x1 (ksv x2)) ((n + 511) / 512))) (T1 (wd c i xt0) n x0 x1 (ksv x2)) x3 x4 _ (ob (wd c i xt0) n x0 x1 (ksv x2) x3 (vs0 i x4) (vs1 i x4)) g8 h8 (fun y h => dif_pos h) (fun y h => dif_neg h) E)
  isplitl [H6]; · iexact H6
  isplitl [H7]; · iexact H7
  isplitl [H8]; · iexact H8
  isplitl [H12]; · iexact H12
  isplitl [H13]; · iexact H13
  iintro ⟨H6, H7, H8, H12, H13⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HT

end Cert.Kernel.Blk

end
-- ==== Proof.Kernel.Blocks.lean ====
/-
  The blocks of the inputs, read at an index of their arrays.
-/
module

public import proofs.«01_k».proof.Proof.Kernel.Runs
public import Idealize.ShloMosaic.Lib.ValueIdx

@[expose] public section

set_option maxRecDepth 16384

noncomputable section

namespace Cert.Kernel.Blk

open Cert.Kernel Cert.Kernel.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The two grid coordinates of a point. -/
theorem coord0 : ∀ t : Fin grid0.N, (grid0.coords t 0).val = t.val / 256 := by decide +kernel
theorem coord1 : ∀ t : Fin grid0.N, (grid0.coords t 1).val = t.val % 256 := by decide +kernel

theorem tr0 : ∀ t : Fin grid0.N, cc0_transform_0 (grid0.coords t) = ![t.val / 256, t.val % 256, 0, 0] := by decide +kernel
theorem tr1 : ∀ t : Fin grid0.N, cc0_transform_1 (grid0.coords t) = ![t.val / 256, 0, 0, 0] := by decide +kernel
theorem tr2 : ∀ t : Fin grid0.N, cc0_transform_2 (grid0.coords t) = ![t.val / 256, 0, 0, 0] := by decide +kernel
theorem tr3 : ∀ t : Fin grid0.N, cc0_transform_3 (grid0.coords t) = ![t.val / 256, 0, 0, 0] := by decide +kernel
theorem tr5 : ∀ t : Fin grid0.N, cc0_transform_5 (grid0.coords t) = ![t.val / 256, t.val % 256, 0, 0] := by decide +kernel
theorem tr6 : ∀ t : Fin grid0.N, cc0_transform_6 (grid0.coords t) = ![t.val / 256, t.val % 256, 0, 0] := by decide +kernel
theorem tr7 : ∀ t : Fin grid0.N, cc0_transform_7 (grid0.coords t) = ![t.val / 256, t.val % 256, 0] := by decide +kernel

theorem lt_N {t : ℕ} (h : t < grid0.N) : t < 1024 := lt_of_lt_of_eq h (by decide)

/-- The sequence a point works on, and the token its row is. -/
def bt (t : Fin grid0.N) : Fin 4 := ⟨t.val / 256, by have := lt_N t.isLt; omega⟩
def tok (t : Fin grid0.N) (r : Fin 64) : Fin 16384 := ⟨t.val % 256 * 64 + r.val, by have := r.isLt; omega⟩

theorem iblk_0 (hO : Ok m) (c : Dev nD) (t : Fin (cfgM m hO).N) (y : S1x64x16x128.Idx) :
    iblk m hO c 0 t y = V m c main_arg0 (ix4 (bt t) (tok t (y 1)) (y 2) (y 3)) := by
  refine congrArg (V m c main_arg0) (funext fun a => Fin.ext ?_)
  have e := tr0 t
  fin_cases a
  · show cc0_transform_0 (grid0.coords t) 0 * 1 + 1 * (y 0).val = t.val / 256
    have : (y 0).val < 1 := (y 0).isLt
    rw [e]; show t.val / 256 * 1 + 1 * (y 0).val = t.val / 256; omega
  · show cc0_transform_0 (grid0.coords t) 1 * 64 + 1 * (y 1).val = _
    rw [e]; show t.val % 256 * 64 + 1 * (y 1).val = t.val % 256 * 64 + (y 1).val; omega
  · show cc0_transform_0 (grid0.coords t) 2 * 16 + 1 * (y 2).val = (y 2).val
    rw [e]; show 0 * 16 + 1 * (y 2).val = (y 2).val; omega
  · show cc0_transform_0 (grid0.coords t) 3 * 128 + 1 * (y 3).val = (y 3).val
    rw [e]; show 0 * 128 + 1 * (y 3).val = (y 3).val; omega

theorem iblk_1 (hO : Ok m) (c : Dev nD) (t : Fin (cfgM m hO).N) (y : S1x2x4096x128.Idx) :
    iblk m hO c 1 t y = V m c main_arg1 (ix4 (bt t) (y 1) (y 2) (y 3)) := by
  refine congrArg (V m c main_arg1) (funext fun a => Fin.ext ?_)
  have e := tr1 t
  fin_cases a
  · show cc0_transform_1 (grid0.coords t) 0 * 1 + 1 * (y 0).val = t.val / 256
    have : (y 0).val < 1 := (y 0).isLt
    rw [e]; show t.val / 256 * 1 + 1 * (y 0).val = t.val / 256; omega
  · show cc0_transform_1 (grid0.coords t) 1 * 2 + 1 * (y 1).val = _
    rw [e]; show 0 * 2 + 1 * (y 1).val = (y 1).val; omega
  · show cc0_transform_1 (grid0.coords t) 2 * 4096 + 1 * (y 2).val = (y 2).val
    rw [e]; show 0 * 4096 + 1 * (y 2).val = (y 2).val; omega
  · show cc0_transform_1 (grid0.coords t) 3 * 128 + 1 * (y 3).val = (y 3).val
    rw [e]; show 0 * 128 + 1 * (y 3).val = (y 3).val; omega

theorem iblk_2 (hO : Ok m) (c : Dev nD) (t : Fin (cfgM m hO).N) (y : S1x2x4096x128.Idx) :
    iblk m hO c 2 t y = V m c main_v2 (ix4 (bt t) (y 1) (y 2) (y 3)) := by
  refine congrArg (V m c main_v2) (funext fun a => Fin.ext ?_)
  have e := tr2 t
  fin_cases a
  · show cc0_transform_2 (grid0.coords t) 0 * 1 + 1 * (y 0).val = t.val / 256
    have : (y 0).val < 1 := (y 0).isLt
    rw [e]; show t.val / 256 * 1 + 1 * (y 0).val = t.val / 256; omega
  · show cc0_transform_2 (grid0.coords t) 1 * 2 + 1 * (y 1).val = _
    rw [e]; show 0 * 2 + 1 * (y 1).val = (y 1).val; omega
  · show cc0_transform_2 (grid0.coords t) 2 * 4096 + 1 * (y 2).val = (y 2).val
    rw [e]; show 0 * 4096 + 1 * (y 2).val = (y 2).val; omega
  · show cc0_transform_2 (grid0.coords t) 3 * 128 + 1 * (y 3).val = (y 3).val
    rw [e]; show 0 * 128 + 1 * (y 3).val = (y 3).val; omega

theorem iblk_3 (hO : Ok m) (c : Dev nD) (t : Fin (cfgM m hO).N) (y : S1x2x128x4096.Idx) :
    iblk m hO c 3 t y = V m c main_v0 (ix4 (bt t) (y 1) (y 2) (y 3)) := by
  refine congrArg (V m c main_v0) (funext fun a => Fin.ext ?_)
  have e := tr3 t
  fin_cases a
  · show cc0_transform_3 (grid0.coords t) 0 * 1 + 1 * (y 0).val = t.val / 256
    have : (y 0).val < 1 := (y 0).isLt
    rw [e]; show t.val / 256 * 1 + 1 * (y 0).val = t.val / 256; omega
  · show cc0_transform_3 (grid0.coords t) 1 * 2 + 1 * (y 1).val = _
    rw [e]; show 0 * 2 + 1 * (y 1).val = (y 1).val; omega
  · show cc0_transform_3 (grid0.coords t) 2 * 128 + 1 * (y 2).val = (y 2).val
    rw [e]; show 0 * 128 + 1 * (y 2).val = (y 2).val; omega
  · show cc0_transform_3 (grid0.coords t) 3 * 4096 + 1 * (y 3).val = (y 3).val
    rw [e]; show 0 * 4096 + 1 * (y 3).val = (y 3).val; omega

theorem iblk_4 (hO : Ok m) (c : Dev nD) (t : Fin (cfgM m hO).N) (y : S4x2.Idx) : iblk m hO c 4 t y = V m c main_arg4 y := by
  refine congrArg (V m c main_arg4) (funext fun a => Fin.ext ?_)
  fin_cases a
  · show 0 * 4 + 1 * (y 0).val = (y 0).val; omega
  · show 0 * 2 + 1 * (y 1).val = (y 1).val; omega

/-- Inside a sequence the block of the key scales stays. -/
theorem iblk_2_pred (hO : Ok m) (c : Dev nD) (t t' : Fin (cfgM m hO).N) (h : t'.val / 256 = t.val / 256) : iblk m hO c 2 t' = iblk m hO c 2 t := by
  have e : bt t' = bt t := Fin.ext h
  funext (y : S1x2x4096x128.Idx)
  have h1 := iblk_2 m hO c t' y
  rw [e] at h1
  exact h1.trans (iblk_2 m hO c t y).symm

end Cert.Kernel.Blk

end
-- ==== Proof.Kernel.Frame.lean ====
/-
  The whole run: what each point leaves in the results' staging buffers and in the key scales, the run of the program
  over all points, and that it leaves its arguments as they were.
-/
module

public import proofs.«01_k».proof.Proof.Kernel.Body
public import proofs.«01_k».proof.Proof.Kernel.Blocks
public import Idealize.ShloMosaic.Lib.Claim
public import Idealize.ShloMosaic.Lib.VecWindow
public import Idealize.ShloMosaic.Lib.WholeRead
public import Idealize.ShloMosaic.Lib.LoopRemainder

@[expose] public section

set_option maxRecDepth 16384

noncomputable section

namespace Cert.Kernel.Blk

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The length a point's body reads, as a word and as a number. -/
def wdAt (c : Dev nD) (t : Fin grid0.N) : BitVec 32 := wd c (grid0.coords t) (tbl m 0)
def lenAt (c : Dev nD) (t : Fin grid0.N) : ℕ := (wdAt m c t).toNat

/-- Every length is at most the number of keys. -/
def Lens : Prop := ∀ (c : Dev nD) (t : Fin grid0.N), Len (wdAt m c t) (lenAt m c t)

/-- What a point leaves in the staging buffers of the three results. -/
def outO (hO : Ok m) (c : Dev nD) (t : Fin (cfgM m hO).N) : Vec F S1x64x16x128 .bf16 :=
  ob (wdAt m c t) (lenAt m c t) (iblk m hO c 0 t) (iblk m hO c 1 t) (ksv (iblk m hO c 2 t)) (iblk m hO c 3 t) (vs0 (grid0.coords t) (iblk m hO c 4 t)) (vs1 (grid0.coords t) (iblk m hO c 4 t))
def outC (hO : Ok m) (c : Dev nD) (t : Fin (cfgM m hO).N) : Vec F S1x64x16x128 .fp8e4m3 := qc (iblk m hO c 0 t)
def outS (hO : Ok m) (c : Dev nD) (t : Fin (cfgM m hO).N) : Vec F S1x64x16 .f32 := qs (iblk m hO c 0 t)
/-- What it leaves in the key scales. -/
def keyS (hO : Ok m) (c : Dev nD) (t : Fin (cfgM m hO).N) : Vec F S2x4096x128 .f32 := ksv (iblk m hO c 2 t)

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (keyS m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (keyS m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (keyS m hO c ⟨n - 1, by omega⟩) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outO m hO c t
    | ⟨6, _⟩ => outC m hO c t
    | ⟨7, _⟩ => outS m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outO m hO c t := by dsimp only [dats]; try rfl
theorem after0_6 (hO : Ok m) (c : Dev nD) (t : Fin (cfgM m hO).N) : (dats m hO 0 c).after 6 t = outC m hO c t := by dsimp only [dats]; try rfl
theorem after0_7 (hO : Ok m) (c : Dev nD) (t : Fin (cfgM m hO).N) : (dats m hO 0 c).after 7 t = outS m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

theorem owns_any (c : Dev nD) (M : Memref sig .tc .vmem S2x4096x128 .f32) (X : Vec F S2x4096x128 .f32) :
    owns (c : Thread nD τ) M fullShare X ⊢ (iprop(∃ f, (M.view.loc (c : Thread nD τ) ↦[M.view.set]{fullShare} f)) : sProp 𝕄) := by
  unfold owns
  iintro ⟨%f, %hf, H⟩
  iexists _; iexact H

theorem owns_whole_unread (c : Dev nD) (M : Memref sig .tc .vmem S2x4096x128 .f32) (h : M.IsWhole) (X : Vec F S2x4096x128 .f32) :
    owns (c : Thread nD τ) M fullShare X ⊢ ((M.view.loc (c : Thread nD τ) ↦[M.view.set]{fullShare} h.unread X) : sProp 𝕄) := by
  unfold owns
  iintro ⟨%f, %hf, H⟩
  obtain rfl := h.eq_unread hf
  iexact H

set_option maxHeartbeats 1600000 in
/-- The body at any point. -/
theorem sound_body (hL : Lens m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hN : t.val < 1024 := lt_N t.isLt
  suffices h : ∀ P : sProp 𝕄, ((cond0_0 (grid0.coords t) ∧ P = iprop(∃ f, (scM0_0.view.loc (c : Thread nD τ) ↦[scM0_0.view.set]{fullShare} f))) ∨ (¬ cond0_0 (grid0.coords t) ∧ P = (scM0_0.view.loc (c : Thread nD τ) ↦[scM0_0.view.set]{fullShare} (Memref.isWhole_whole cc0_scratch0 : scM0_0.IsWhole).unread (ksv (iblk m hO c 2 t))))) →
      iprop(P ∗ (∃ d, owns (c : Thread nD τ) scM0_1 fullShare d) ∗ (∃ d, owns (c : Thread nD τ) scM0_2 fullShare d) ∗ (∃ r, prngReg c r) ∗ tbPt0 c tbM0_0 (tbl m 0) ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))
      ⊢ wp frame (wpE (defs₀ (F := F)) Variants.none c none) Set.univ (bodyAt0 (adm m hO) t) (fun _ => bodyPost m hO c t) by
    unfold bodyPre
    by_cases hz : t.val = 0
    · rw [PhiS_castSucc m hO c t, PhiS_zero m hO c _ _ hz, PhiT0_eq, PhiA0_eq]
      iintro ⟨⟨⟨⟨⟨%d, HS0⟩, HS1, HS2⟩, Hg⟩, HT0⟩, Hr⟩
      iapply (h _ (.inl ⟨(hcond0_0 t).mpr (by omega), rfl⟩))
      isplitl [HS0]; · iapply (owns_any c _ _); iexact HS0
      isplitl [HS1]; · iexact HS1
      isplitl [HS2]; · iexact HS2
      isplitl [Hg]; · iexact Hg
      isplitl [HT0]; · iexact HT0
      iexact Hr
    · rw [PhiS_castSucc m hO c t, PhiS_pos m hO c _ _ hz, PhiT0_eq]
      iintro ⟨⟨⟨⟨HS0, HS1, HS2⟩, Hg⟩, HT0⟩, Hr⟩
      by_cases h0 : t.val % 256 = 0
      · iapply (h _ (.inl ⟨(hcond0_0 t).mpr h0, rfl⟩))
        isplitl [HS0]; · iapply (owns_any c _ _); iexact HS0
        isplitl [HS1]; · iexact HS1
        isplitl [HS2]; · iexact HS2
        isplitl [Hg]; · iexact Hg
        isplitl [HT0]; · iexact HT0
        iexact Hr
      · iapply (h _ (.inr ⟨fun e => h0 ((hcond0_0 t).mp e), rfl⟩))
        unfold keyS
        rw [iblk_2_pred m hO c t ⟨t.val - 1, by omega⟩ (by show (t.val - 1) / 256 = t.val / 256; omega)]
        isplitl [HS0]; · iapply (owns_whole_unread c _ _ _); iexact HS0
        isplitl [HS1]; · iexact HS1
        isplitl [HS2]; · iexact HS2
        isplitl [Hg]; · iexact Hg
        isplitl [HT0]; · iexact HT0
        iexact Hr
  intro P hP
  unfold bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5, after0_6, after0_7]
  rw [show (dats m hO 0 c).Φ t.succ = PhiS m hO c (t.val + 1) t.isLt from rfl, PhiS_succ, PhiT0_eq]
  unfold owns
  iintro ⟨HP, ⟨%s1, ⟨%e1, -, HS1⟩⟩, ⟨%s2, ⟨%e2, -, HS2⟩⟩, Hg, HT0, Ho, ⟨%d0, ⟨%f0, %h0, H0⟩⟩, ⟨%d1, ⟨%f1, %h1, H1⟩⟩, ⟨%d2, ⟨%f2, %h2, H2⟩⟩, ⟨%d3, ⟨%f3, %h3, H3⟩⟩, ⟨%d4, ⟨%f4, %h4, H4⟩⟩, ⟨%d5, ⟨%f5, -, H5⟩⟩, ⟨%d6, ⟨%f6, -, H6⟩⟩, ⟨%d7, ⟨%f7, -, H7⟩⟩⟩
  obtain rfl := (hs0_0 m hO t).eq_unread h0
  obtain rfl := (hs0_1 m hO t).eq_unread h1
  obtain rfl := (hs0_2 m hO t).eq_unread h2
  obtain rfl := (hs0_3 m hO t).eq_unread h3
  obtain rfl := (hs0_4 m hO t).eq_unread h4
  iapply (body_run c (grid0.coords t) _ (hs0_0 m hO t) _ (hs0_1 m hO t) _ (hs0_2 m hO t) _ (hs0_3 m hO t) _ (hs0_4 m hO t) _ (hs0_5 m hO t) _ (hs0_6 m hO t) _ (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (hL c t) P hP Set.univ)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HP]; · iexact HP
  isplitl [HS1]; · iexists _; iexact HS1
  isplitl [HS2]; · iexists _; iexact HS2
  isplitl [HT0]; · iexact HT0
  iintro ⟨H0, H1, H2, H3, H4, H5, H6, H7, HS0, ⟨%e1, HS1⟩, ⟨%e2, HS2⟩, HT0⟩
  isplitl [HS0 HS1 HS2 Hg HT0]
  · isplitl [HS0 HS1 HS2 Hg]
    · isplitl [HS0 HS1 HS2]
      · isplitl [HS0]
        · iexists _; isplitr; swap; · iexact HS0
          ipureintro; exact (Memref.isWhole_whole cc0_scratch0 : scM0_0.IsWhole).read_unread _
        isplitl [HS1]
        · iexists _; iexists _; isplitr; swap; · iexact HS1
          ipureintro; rfl
        · iexists _; iexists _; isplitr; swap; · iexact HS2
          ipureintro; rfl
      iexact Hg
    iexact HT0
  isplitl [Ho]; · iexact Ho
  isplitl [H0]
  · iexists _; isplitr; swap; · iexact H0
    ipureintro; exact (hs0_0 m hO t).read_unread _
  isplitl [H1]
  · iexists _; isplitr; swap; · iexact H1
    ipureintro; exact (hs0_1 m hO t).read_unread _
  isplitl [H2]
  · iexists _; isplitr; swap; · iexact H2
    ipureintro; exact (hs0_2 m hO t).read_unread _
  isplitl [H3]
  · iexists _; isplitr; swap; · iexact H3
    ipureintro; exact (hs0_3 m hO t).read_unread _
  isplitl [H4]
  · iexists _; isplitr; swap; · iexact H4
    ipureintro; exact (hs0_4 m hO t).read_unread _
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hL : Lens m) (hO : Ok m) (c : Dev nD) : BodyObligation (dats (F := F) m hO 0 c) (defs₀ (F := F)) Variants.none () Set.univ := fun t => by
  rw [bigSep_W0, bigSep_W0, defs₀_row m hO]
  exact triple_restated (sound_body m hL hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1024 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hL : Lens m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hL hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hL : Lens m) (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hL hO)

/-- `frame` without the counters: the argument arrays end unchanged. -/
theorem unchanged (hL : Lens m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hL hO)

/-- The program ends, with its arguments as they were. -/
theorem frame (hL : Lens m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hL hO) ((θ_run defs _ _).mono (fun _ h => h.2) (run_main_quiescent m ρ hL hO))

end Cert.Kernel.Blk

end
-- ==== Proof.Kernel.Lens.lean ====
/-
  The body's side condition, from the precondition: the length a point reads is one of the lengths.
-/
module

public import proofs.«01_k».proof.Proof.Kernel.Frame

@[expose] public section

set_option maxRecDepth 16384

noncomputable section

namespace Cert.Kernel.Blk

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No block is taken from where a table says, so the tables meet no condition. -/
theorem ok : Ok m := trivial

/-- The word a point reads is the length of its batch. -/
theorem wdAt_eq (c : Dev nD) (t : Fin grid0.N) : wdAt m c t = m ((c : Thread nD τ).loc main_arg5) (ix1 (bt t)) := by
  obtain rfl : c = 0 := Subsingleton.elim _ _
  rw [← V_main_arg5 m 0]
  show V m 0 main_arg5 _ = _
  congr 1
  funext a
  apply Fin.ext
  obtain rfl : a = (0 : Fin 1) := Subsingleton.elim (α := Fin 1) _ _
  show (k0_off1 (grid0.coords t)) 0 + 1 * 0 = _
  have h : ∀ t : Fin grid0.N, (k0_off1 (grid0.coords t)) 0 + 1 * 0 = t.val / 256 := by decide +kernel
  exact h t

/-- Lengths of at most the number of keys are such at every point. -/
theorem lens (h : ∀ (c : Dev nD) i, (m ((c : Thread nD τ).loc main_arg5) i).toNat ≤ 4096) : Lens m := fun c t => by
  have := wdAt_eq m c t
  refine ⟨?_, ?_⟩
  · rw [lenAt]; simp
  · rw [lenAt, this]; exact h c _

end Cert.Kernel.Blk

end
-- ==== Proof.KernelIdeal.Words.lean ====
/-
  The words of one block: from a sequence length `n` with `n ≤ 4096`, how many chunks of 512 positions each counted
  loop makes, and where in the arrays its trips read and write.
-/
module

public import proofs.«01_k».proof.KernelIdeal
public import proofs.«01_k».proof.Proof.Gen.KernelIdeal.Launch
public import Idealize.ShloMosaic.Lib.LoopRemainder
public import Idealize.ShloMosaic.Lib.Tactic

@[expose] public section

set_option maxRecDepth 16384

namespace Cert.KernelIdeal.Blk

open Cert.KernelIdeal Cert.KernelIdeal.Gen
open Idealize.ShloMosaic

/-- The number of full chunks, as the kernel computes it (a floor division by 512). -/
def nfw (v4 : BitVec 32) : BitVec 32 :=
  Scalar.select (Scalar.andi (Scalar.cmpi .ne (Scalar.subi (Scalar.extui (Scalar.cmpi .sgt v4 0#32)) (Scalar.extui (Scalar.cmpi .slt v4 0#32)))
      (Scalar.subi (Scalar.extui (Scalar.cmpi .sgt 512#32 0#32)) (Scalar.extui (Scalar.cmpi .slt 512#32 0#32))))
      (Scalar.cmpi .ne (Scalar.remsi v4 512#32) 0#32)) (Scalar.subi (Scalar.divsi v4 512#32) 1#32) (Scalar.divsi v4 512#32)

/-- The number of chunks that hold a position, as the kernel computes it. -/
def ncw (v4 : BitVec 32) : BitVec 32 :=
  Scalar.addi (nfw v4) (Scalar.extui (Scalar.cmpi .sgt (Scalar.subi v4 (Scalar.muli (nfw v4) 512#32)) 0#32))

/-- A sequence length in range, as a word. -/
structure Len (v4 : BitVec 32) (n : ℕ) : Prop where
  eq : v4 = BitVec.ofNat 32 n
  le : n ≤ 4096

theorem words_all : ∀ n : Fin 4097,
    nfw (BitVec.ofNat 32 n.val) = BitVec.ofNat 32 (n.val / 512) ∧ ncw (BitVec.ofNat 32 n.val) = BitVec.ofNat 32 ((n.val + 511) / 512) := by
  decide +kernel

theorem Len.nfw {v4 : BitVec 32} {n : ℕ} (h : Len v4 n) : nfw v4 = BitVec.ofNat 32 (n / 512) := by
  rw [h.eq]; exact (words_all ⟨n, by have := h.le; omega⟩).1

theorem Len.ncw {v4 : BitVec 32} {n : ℕ} (h : Len v4 n) : ncw v4 = BitVec.ofNat 32 ((n + 511) / 512) := by
  rw [h.eq]; exact (words_all ⟨n, by have := h.le; omega⟩).2

/-- A counted loop from `a` over `b - a` steps of 1 (as the kernel spells its upper bound), for small `a ≤ b`. -/
theorem loop_small : ∀ a b : Fin 9, a ≤ b →
    Scf.trips (BitVec.ofNat 32 a.val) (Scalar.addi (BitVec.ofNat 32 a.val) (Scalar.muli (Scalar.divsi (Scalar.subi (BitVec.ofNat 32 b.val) (BitVec.ofNat 32 a.val)) 1#32) 1#32)) 1#32 = b.val - a.val
    ∧ Scf.OK (BitVec.ofNat 32 a.val) (Scalar.addi (BitVec.ofNat 32 a.val) (Scalar.muli (Scalar.divsi (Scalar.subi (BitVec.ofNat 32 b.val) (BitVec.ofNat 32 a.val)) 1#32) 1#32)) 1#32 := by
  decide +kernel

/-- The offset of trip `k` of a loop from `a`: 512 times the chunk's number. -/
theorem off_small : ∀ a k : Fin 9, (Scalar.indexCast (Scalar.muli (Scf.iv (BitVec.ofNat 32 a.val) 1#32 k.val) 512#32) : Index).toNat = 512 * (a.val + k.val) := by
  decide +kernel

section
variable {v4 : BitVec 32} {n : ℕ} (h : Len v4 n)
include h

theorem Len.nf_le : n / 512 ≤ 8 := by have := h.le; omega
theorem Len.nc_le : (n + 511) / 512 ≤ 8 := by have := h.le; omega
theorem Len.nf_le_nc : n / 512 ≤ (n + 511) / 512 := by omega

/-- A loop from 0 to the number of full chunks. -/
theorem Len.full (l : Scf.Loop 32) (hl : l = ⟨0#32, Scalar.addi 0#32 (Scalar.muli (Scalar.divsi (Scalar.subi (Blk.nfw v4) 0#32) 1#32) 1#32), 1#32⟩) :
    l.trips = n / 512 ∧ l.OK := by
  subst hl; rw [h.nfw]
  exact loop_small 0 ⟨n / 512, by have := h.nf_le; omega⟩ (Fin.zero_le _)

/-- A loop from the number of full chunks to the number of chunks. -/
theorem Len.part (l : Scf.Loop 32) (hl : l = ⟨Blk.nfw v4, Scalar.addi (Blk.nfw v4) (Scalar.muli (Scalar.divsi (Scalar.subi (Blk.ncw v4) (Blk.nfw v4)) 1#32) 1#32), 1#32⟩) :
    l.trips = (n + 511) / 512 - n / 512 ∧ l.OK := by
  subst hl; rw [h.nfw, h.ncw]
  exact loop_small ⟨n / 512, by have := h.nf_le; omega⟩ ⟨(n + 511) / 512, by have := h.nc_le; omega⟩ h.nf_le_nc

/-- A loop from 0 to the number of chunks. -/
theorem Len.all (l : Scf.Loop 32) (hl : l = ⟨0#32, Scalar.addi 0#32 (Scalar.muli (Scalar.divsi (Scalar.subi (Blk.ncw v4) 0#32) 1#32) 1#32), 1#32⟩) :
    l.trips = (n + 511) / 512 ∧ l.OK := by
  subst hl; rw [h.ncw]
  exact loop_small 0 ⟨(n + 511) / 512, by have := h.nc_le; omega⟩ (Fin.zero_le _)

theorem Len.t1 : (k0_t1_loop v4).trips = n / 512 ∧ (k0_t1_loop v4).OK := h.full _ rfl
theorem Len.t3 : (k0_t3_loop v4).trips = (n + 511) / 512 - n / 512 ∧ (k0_t3_loop v4).OK := h.part _ rfl
theorem Len.t5 : (k0_t5_loop v4).trips = (n + 511) / 512 ∧ (k0_t5_loop v4).OK := h.all _ rfl
theorem Len.t7 : (k0_t7_loop v4).trips = n / 512 ∧ (k0_t7_loop v4).OK := h.full _ rfl
theorem Len.t9 : (k0_t9_loop v4).trips = (n + 511) / 512 - n / 512 ∧ (k0_t9_loop v4).OK := h.part _ rfl
theorem Len.t11 : (k0_t11_loop v4).trips = (n + 511) / 512 ∧ (k0_t11_loop v4).OK := h.all _ rfl

/-- The offset of trip `k` of a loop from 0. -/
theorem Len.off0 (k : ℕ) (hk : k < 8) : (Scalar.indexCast (Scalar.muli (Scf.iv 0#32 1#32 k) 512#32) : Index).toNat = 512 * k := by
  simpa using off_small 0 ⟨k, by omega⟩

/-- The offset of trip `k` of a loop from the number of full chunks. -/
theorem Len.offn (k : ℕ) (hk : k < 8) : (Scalar.indexCast (Scalar.muli (Scf.iv (Blk.nfw v4) 1#32 k) 512#32) : Index).toNat = 512 * (n / 512 + k) := by
  rw [h.nfw]; exact off_small ⟨n / 512, by have := h.nf_le; omega⟩ ⟨k, by omega⟩

theorem Len.k1 (k : Fin (k0_t1_loop v4).trips) : k.val < n / 512 := lt_of_lt_of_eq k.isLt h.t1.1
theorem Len.k3 (k : Fin (k0_t3_loop v4).trips) : k.val + n / 512 < (n + 511) / 512 := by have := lt_of_lt_of_eq k.isLt h.t3.1; omega
theorem Len.k5 (k : Fin (k0_t5_loop v4).trips) : k.val < (n + 511) / 512 := lt_of_lt_of_eq k.isLt h.t5.1
theorem Len.k7 (k : Fin (k0_t7_loop v4).trips) : k.val < n / 512 := lt_of_lt_of_eq k.isLt h.t7.1
theorem Len.k9 (k : Fin (k0_t9_loop v4).trips) : k.val + n / 512 < (n + 511) / 512 := by have := lt_of_lt_of_eq k.isLt h.t9.1; omega
theorem Len.k11 (k : Fin (k0_t11_loop v4).trips) : k.val < (n + 511) / 512 := lt_of_lt_of_eq k.isLt h.t11.1

theorem Len.off2 (k) : k0_off2 v4 k = ![0, 0, 512 * k.val, 0] := by
  rw [← h.off0 k.val (by have := h.k1 k; have := h.nf_le; omega)]; rfl
theorem Len.off3 (k) : k0_off3 v4 k = ![0, 512 * k.val, 0] := by
  rw [← h.off0 k.val (by have := h.k1 k; have := h.nf_le; omega)]; rfl
theorem Len.off4 (k) : k0_off4 v4 k = ![512 * k.val, 0] := by
  rw [← h.off0 k.val (by have := h.k1 k; have := h.nf_le; omega)]; rfl
theorem Len.off8 (k) : k0_off8 v4 k = ![0, 0, 512 * (n / 512 + k.val), 0] := by
  rw [← h.offn k.val (by have := h.k3 k; have := h.nc_le; omega)]; rfl
theorem Len.off9 (k) : k0_off9 v4 k = ![0, 512 * (n / 512 + k.val), 0] := by
  rw [← h.offn k.val (by have := h.k3 k; have := h.nc_le; omega)]; rfl
theorem Len.off10 (k) : k0_off10 v4 k = ![512 * (n / 512 + k.val), 0] := by
  rw [← h.offn k.val (by have := h.k3 k; have := h.nc_le; omega)]; rfl
theorem Len.off14 (k) : k0_off14 v4 k = ![512 * k.val, 0] := by
  rw [← h.off0 k.val (by have := h.k5 k; have := h.nc_le; omega)]; rfl
theorem Len.off15 (k) : k0_off15 v4 k = ![0, 0, 0, 512 * k.val] := by
  rw [← h.off0 k.val (by have := h.k5 k; have := h.nc_le; omega)]; rfl
theorem Len.off19 (k) : k0_off19 v4 k = ![0, 1, 512 * k.val, 0] := by
  rw [← h.off0 k.val (by have := h.k7 k; have := h.nf_le; omega)]; rfl
theorem Len.off20 (k) : k0_off20 v4 k = ![1, 512 * k.val, 0] := by
  rw [← h.off0 k.val (by have := h.k7 k; have := h.nf_le; omega)]; rfl
theorem Len.off21 (k) : k0_off21 v4 k = ![512 * k.val, 0] := by
  rw [← h.off0 k.val (by have := h.k7 k; have := h.nf_le; omega)]; rfl
theorem Len.off25 (k) : k0_off25 v4 k = ![0, 1, 512 * (n / 512 + k.val), 0] := by
  rw [← h.offn k.val (by have := h.k9 k; have := h.nc_le; omega)]; rfl
theorem Len.off26 (k) : k0_off26 v4 k = ![1, 512 * (n / 512 + k.val), 0] := by
  rw [← h.offn k.val (by have := h.k9 k; have := h.nc_le; omega)]; rfl
theorem Len.off27 (k) : k0_off27 v4 k = ![512 * (n / 512 + k.val), 0] := by
  rw [← h.offn k.val (by have := h.k9 k; have := h.nc_le; omega)]; rfl
theorem Len.off31 (k) : k0_off31 v4 k = ![512 * k.val, 0] := by
  rw [← h.off0 k.val (by have := h.k11 k; have := h.nc_le; omega)]; rfl
theorem Len.off32 (k) : k0_off32 v4 k = ![0, 1, 0, 512 * k.val] := by
  rw [← h.off0 k.val (by have := h.k11 k; have := h.nc_le; omega)]; rfl

/-- The side condition the body states of its length word holds of every length in range. -/
theorem Len.chk : k0_chk1 v4 := by
  have nf := h.nf_le
  have nc := h.nc_le
  have m5 : ∀ k : Fin (k0_t5_loop v4).trips, 512 ∣ (k0_mult1 v4 k).toNat := fun k => by
    rw [show (k0_mult1 v4 k).toNat = 512 * k.val from h.off0 k.val (by have := h.k5 k; omega)]; exact dvd_mul_right _ _
  have m11 : ∀ k : Fin (k0_t11_loop v4).trips, 512 ∣ (k0_mult3 v4 k).toNat := fun k => by
    rw [show (k0_mult3 v4 k).toNat = 512 * k.val from h.off0 k.val (by have := h.k11 k; omega)]; exact dvd_mul_right _ _
  unfold k0_chk1 k0_chk1_0 k0_chk1_1
  refine ⟨⟨h.t1.2, fun k => ?_, fun k => ?_, fun k => ?_, Scf.rem_ok _ _, fun k => (Scf.rem_no_trip _ _ k).elim, fun k => (Scf.rem_no_trip _ _ k).elim,
    fun k => (Scf.rem_no_trip _ _ k).elim, h.t3.2, fun k => ?_, fun k => ?_, fun k => ?_, Scf.rem_ok _ _, fun k => (Scf.rem_no_trip _ _ k).elim,
    fun k => (Scf.rem_no_trip _ _ k).elim, fun k => (Scf.rem_no_trip _ _ k).elim, h.t5.2, fun k => ?_, m5, fun k => ?_, Scf.rem_ok _ _,
    fun k => (Scf.rem_no_trip _ _ k).elim, fun k => (Scf.rem_no_trip _ _ k).elim, fun k => (Scf.rem_no_trip _ _ k).elim,
    h.t7.2, fun k => ?_, fun k => ?_, fun k => ?_, Scf.rem_ok _ _, fun k => (Scf.rem_no_trip _ _ k).elim, fun k => (Scf.rem_no_trip _ _ k).elim,
    fun k => (Scf.rem_no_trip _ _ k).elim⟩, h.t9.2, fun k => ?_, fun k => ?_, fun k => ?_, Scf.rem_ok _ _, fun k => (Scf.rem_no_trip _ _ k).elim,
    fun k => (Scf.rem_no_trip _ _ k).elim, fun k => (Scf.rem_no_trip _ _ k).elim, h.t11.2, fun k => ?_, m11, fun k => ?_, Scf.rem_ok _ _,
    fun k => (Scf.rem_no_trip _ _ k).elim, fun k => (Scf.rem_no_trip _ _ k).elim, fun k => (Scf.rem_no_trip _ _ k).elim⟩
  · rw [h.off2]; have := h.k1 k; intro a; fin_cases a <;> simp <;> omega
  · rw [h.off3]; have := h.k1 k; intro a; fin_cases a <;> simp <;> omega
  · rw [h.off4]; have := h.k1 k; intro a; fin_cases a <;> simp <;> omega
  · rw [h.off8]; have := h.k3 k; intro a; fin_cases a <;> simp <;> omega
  · rw [h.off9]; have := h.k3 k; intro a; fin_cases a <;> simp <;> omega
  · rw [h.off10]; have := h.k3 k; intro a; fin_cases a <;> simp <;> omega
  · rw [h.off14]; have := h.k5 k; intro a; fin_cases a <;> simp <;> omega
  · rw [h.off15]; have := h.k5 k; intro a; fin_cases a <;> simp <;> omega
  · rw [h.off19]; have := h.k7 k; intro a; fin_cases a <;> simp <;> omega
  · rw [h.off20]; have := h.k7 k; intro a; fin_cases a <;> simp <;> omega
  · rw [h.off21]; have := h.k7 k; intro a; fin_cases a <;> simp <;> omega
  · rw [h.off25]; have := h.k9 k; intro a; fin_cases a <;> simp <;> omega
  · rw [h.off26]; have := h.k9 k; intro a; fin_cases a <;> simp <;> omega
  · rw [h.off27]; have := h.k9 k; intro a; fin_cases a <;> simp <;> omega
  · rw [h.off31]; have := h.k11 k; intro a; fin_cases a <;> simp <;> omega
  · rw [h.off32]; have := h.k11 k; intro a; fin_cases a <;> simp <;> omega

end

end Cert.KernelIdeal.Blk
-- ==== Proof.KernelIdeal.Block.lean ====
/-
  What one block of the kernel computes, as plain functions: from the block of queries, the keys, their scales, the
  values, the two value scales and the sequence length, the scores chunk by chunk, their running maximum, the running
  sums of the weights and of the weighted values, and the three results.
-/
module

public import proofs.«01_k».proof.Proof.KernelIdeal.Words
public import proofs.«01_k».proof.Proof.Gen.KernelIdeal.Skeleton
public import Idealize.ShloMosaic.Lib.ValueIdxCore
public import Idealize.ShloMosaic.Lib.Pipeline.Value

@[expose] public section

set_option maxRecDepth 16384

noncomputable section

namespace Cert.KernelIdeal.Blk

open Cert.KernelIdeal Cert.KernelIdeal.Gen
open Idealize.ShloMosaic Idealize.ShloMosaic.ValueIdx

variable {F : FTy → Type} [FloatOps F] [Named F]

/-! ## The chunks of the inputs -/

/-- The position `x` of chunk `j`. -/
def pos (j : ℕ) (x : Fin 512) : Fin 4096 := ⟨(512 * j + x.val) % 4096, Nat.mod_lt _ (by norm_num)⟩

theorem pos_val {j : ℕ} (hj : j < 8) (x : Fin 512) : (pos j x).val = 512 * j + x.val := Nat.mod_eq_of_lt (by omega)

/-- The key codes of head `a` in chunk `j`. -/
def kch (X : Vec F S1x2x4096x128 .fp8e4m3) (a : Fin 2) (j : ℕ) : Vec F S1x1x512x128 .fp8e4m3 := fun x => X (ix4 (x 0) a (pos j (x 2)) (x 3))

/-- The key scales of head `a` in chunk `j`. -/
def sch (S : Vec F S2x4096x128 .f32) (a : Fin 2) (j : ℕ) : Vec F S1x512x128 .f32 := fun x => S (ix3 a (pos j (x 1)) (x 2))

/-- The value codes of head `a` in chunk `j`. -/
def vch (V : Vec F S1x2x128x4096 .fp8e4m3) (a : Fin 2) (j : ℕ) : Vec F S1x1x128x512 .fp8e4m3 := fun x => V (ix4 (x 0) a (x 2) (pos j (x 3)))

/-- The key scales of head `a`. -/
def sh (S : Vec F S1x2x4096x128 .f32) (a : Fin 2) : Vec F S1x1x4096x128 .f32 := fun x => S (ix4 (x 0) a (x 2) (x 3))

/-- The key scales as the first block of a sequence leaves them for the others: times the softmax factor. -/
def ksv (S : Vec F S1x2x4096x128 .f32) : Vec F S2x4096x128 .f32 := fun y =>
  if (y 0).val = 0 then k0_pay9 (sh S 0) (ix3 0 (y 1) (y 2)) else k0_pay10 (sh S 1) (ix3 0 (y 1) (y 2))

/-! ## The quantised queries -/

/-- The scale of each query, as it is found and as it is stored; and the mark of the queries that have none. -/
def sc (X : Vec F S1x64x16x128 .bf16) : FVec F S64x16x1 .f32 := k0_pay18 (k0_pay12 X) k0_pay13 k0_pay14
def isc (X : Vec F S1x64x16x128 .bf16) : FVec F S64x16x1 .f32 := k0_pay16 (k0_pay12 X) k0_pay13 k0_pay14
def zer (X : Vec F S1x64x16x128 .bf16) : IVec S64x16x1 1 := k0_pay17 (k0_pay12 X) k0_pay13 k0_pay14

/-- The query codes, and the query scales: the second and the third result's block. -/
def qc (X : Vec F S1x64x16x128 .bf16) : FVec F S1x64x16x128 .fp8e4m3 := k0_pay20 (k0_pay11 X) (isc X) (zer X)
def qs (X : Vec F S1x64x16x128 .bf16) : FVec F S1x64x16 .f32 := k0_pay21 (sc X)

/-- The query codes and scales of each key head's group of query heads. -/
def qh0 (X : Vec F S1x64x16x128 .bf16) : FVec F S512x128 .fp8e4m3 := k0_pay22 (k0_pay11 X) (isc X) (zer X)
def qh1 (X : Vec F S1x64x16x128 .bf16) : FVec F S512x128 .fp8e4m3 := k0_pay48 (k0_pay11 X) (k0_pay19 (isc X) (zer X))
def qr0 (X : Vec F S1x64x16x128 .bf16) : FVec F S1x512 .f32 := k0_pay23 (sc X)
def qr1 (X : Vec F S1x64x16x128 .bf16) : FVec F S1x512 .f32 := k0_pay49 (sc X)

/-! ## The scores and the two passes over them -/

/-- A chunk's scores where the position is below the length, and -∞ where it is not; `b` is the chunk's number. -/
def cut (v4 b : BitVec 32) (t : FVec F S512x512 .f32) : FVec F S512x512 .f32 :=
  select (cmpi .slt (addi (iota .tc S512x512 32 [0] iota_S512x512_d0_w32) (broadcast S512x512 (Scalar.muli b 512#32))) (broadcast S512x512 v4))
    t (broadcast S512x512 (Scalar.ofBits (F := F) .f32 0xFF800000#32))

section
variable (v4 : BitVec 32) (n : ℕ) (q : FVec F S512x128 .fp8e4m3) (K : Vec F S1x2x4096x128 .fp8e4m3) (S : Vec F S2x4096x128 .f32) (a : Fin 2)

/-- Chunk `j` of the scores: as they are in a full chunk, cut at the length in the last one. -/
def T (j : ℕ) : FVec F S512x512 .f32 :=
  if j < n / 512 then k0_pay28 q (kch K a j) (sch S a j) else cut v4 (BitVec.ofNat 32 j) (k0_pay28 q (kch K a j) (sch S a j))

end

/-- One step of the running maximum, over the scores of one chunk. -/
def mstep (acc : FVec F S8x512 .f32) (t : FVec F S512x512 .f32) : FVec F S8x512 .f32 :=
  maximumf acc (multiReduction .maximumf [0] S8x512 (shapeCast S64x8x512 t shapeCasts_S512x512_S64x8x512) 0xFF800000#32 reduces_S64x8x512_S8x512 (.inl rfl) rfl)

/-- The running maximum after `j` chunks. -/
def mx (t : ℕ → FVec F S512x512 .f32) : ℕ → FVec F S8x512 .f32
  | 0 => k0_pay24
  | j + 1 => mstep (mx t j) (t j)

/-- The running sum of the weights after `j` chunks. -/
def ls (qr sb : FVec F S1x512 .f32) (t : ℕ → FVec F S512x512 .f32) : ℕ → FVec F S8x512 .f32
  | 0 => k0_pay1
  | j + 1 => k0_pay3 qr sb (ls qr sb t j) (t j)

/-- The running sum of the weighted values after `j` chunks. -/
def os (qr sb : FVec F S1x512 .f32) (t : ℕ → FVec F S512x512 .f32) (V : Vec F S1x2x128x4096 .fp8e4m3) (a : Fin 2) : ℕ → FVec F S128x512 .f32
  | 0 => k0_pay64
  | j + 1 => k0_pay4 qr sb (t j) (vch V a j) (os qr sb t V a j)

/-- The result of one key head's group, from its scores, its query scales, the values and their scale. -/
def oh (nc : ℕ) (qr : FVec F S1x512 .f32) (t : ℕ → FVec F S512x512 .f32) (V : Vec F S1x2x128x4096 .fp8e4m3) (a : Fin 2) (vs : Elt F .f32) : FVec F S1x64x8x128 .bf16 :=
  k0_pay8 (ls qr (k0_pay37 qr (mx t nc)) t nc) (os qr (k0_pay37 qr (mx t nc)) t V a nc) vs

section
variable (v4 : BitVec 32) (n : ℕ) (X : Vec F S1x64x16x128 .bf16) (K : Vec F S1x2x4096x128 .fp8e4m3) (S : Vec F S2x4096x128 .f32)
  (V : Vec F S1x2x128x4096 .fp8e4m3)

/-- The scores of the two key heads. -/
def T0 (j : ℕ) : FVec F S512x512 .f32 := T v4 n (qh0 X) K S 0 j
def T1 (j : ℕ) : FVec F S512x512 .f32 := T v4 n (qh1 X) K S 1 j

/-- The results of the two key heads. -/
def o0 (vs : Elt F .f32) : FVec F S1x64x8x128 .bf16 := oh ((n + 511) / 512) (qr0 X) (T0 v4 n X K S) V 0 vs
def o1 (vs : Elt F .f32) : FVec F S1x64x8x128 .bf16 := oh ((n + 511) / 512) (qr1 X) (T1 v4 n X K S) V 1 vs

/-- The first result's block: the two key heads' groups side by side. -/
def ob (vs0 vs1 : Elt F .f32) : FVec F S1x64x16x128 .bf16 := fun y =>
  if h : (y 2).val < 8 then o0 v4 n X K S V vs0 (ix4 (y 0) (y 1) ⟨(y 2).val, h⟩ (y 3))
  else o1 v4 n X K S V vs1 (ix4 (y 0) (y 1) ⟨(y 2).val - 8, by have : (y 2).val < 16 := (y 2).isLt; omega⟩ (y 3))

end

/-! ## How the kernel's own payloads read in these words -/

section
variable {v4 : BitVec 32} {n : ℕ} (h : Len v4 n)
include h

theorem Len.iv (k : ℕ) : Scf.iv (Blk.nfw v4) 1#32 k = BitVec.ofNat 32 (n / 512 + k) := by
  rw [h.nfw]; simp [Scf.iv, BitVec.ofNat_add]

theorem Len.T_part (q : FVec F S512x128 .fp8e4m3) (K : Vec F S1x2x4096x128 .fp8e4m3) (S : Vec F S2x4096x128 .f32) (a : Fin 2) (k : ℕ) :
    T v4 n q K S a (n / 512 + k) = cut v4 (Scf.iv (Blk.nfw v4) 1#32 k) (k0_pay28 q (kch K a (n / 512 + k)) (sch S a (n / 512 + k))) := by
  rw [h.iv]; exact if_neg (by omega)

end

theorem T_full {v4 : BitVec 32} {n : ℕ} (q : FVec F S512x128 .fp8e4m3) (K : Vec F S1x2x4096x128 .fp8e4m3) (S : Vec F S2x4096x128 .f32) (a : Fin 2) {k : ℕ} (hk : k < n / 512) :
    T v4 n q K S a k = k0_pay28 q (kch K a k) (sch S a k) := if_pos hk

theorem pay26_eq (v29 : FVec F S64x16x128 .f32) (v81 : FVec F S64x16x1 .f32) (v83 : IVec S64x16x1 1) (k : Vec F S1x1x512x128 .fp8e4m3) (s : Vec F S1x512x128 .f32) :
    k0_pay26 v29 v81 v83 k s = k0_pay28 (k0_pay22 v29 v81 v83) k s := shapeCast_self _ _
theorem pay27_eq (v29 : FVec F S64x16x128 .f32) (v81 : FVec F S64x16x1 .f32) (v83 : IVec S64x16x1 1) (acc : FVec F S8x512 .f32) (k : Vec F S1x1x512x128 .fp8e4m3) (s : Vec F S1x512x128 .f32) :
    k0_pay27 v29 v81 v83 acc k s = mstep acc (k0_pay28 (k0_pay22 v29 v81 v83) k s) := rfl
theorem pay32_eq (v4 : BitVec 32) (q : FVec F S512x128 .fp8e4m3) (j) (k : Vec F S1x1x512x128 .fp8e4m3) (s : Vec F S1x512x128 .f32) :
    k0_pay32 v4 (nfw v4) q j k s = cut v4 (Scf.iv (nfw v4) 1#32 j) (k0_pay28 q k s) := shapeCast_self _ _
theorem pay33_eq (v4 : BitVec 32) (q : FVec F S512x128 .fp8e4m3) (j) (acc : FVec F S8x512 .f32) (k : Vec F S1x1x512x128 .fp8e4m3) (s : Vec F S1x512x128 .f32) :
    k0_pay33 v4 (nfw v4) q j acc k s = mstep acc (cut v4 (Scf.iv (nfw v4) 1#32 j) (k0_pay28 q k s)) := rfl
theorem pay52_eq (v29 : FVec F S64x16x128 .f32) (v87 : FVec F S64x16x1 .f32) (k : Vec F S1x1x512x128 .fp8e4m3) (s : Vec F S1x512x128 .f32) :
    k0_pay52 v29 v87 k s = k0_pay28 (k0_pay48 v29 v87) k s := shapeCast_self _ _
theorem pay53_eq (v29 : FVec F S64x16x128 .f32) (v87 : FVec F S64x16x1 .f32) (acc : FVec F S8x512 .f32) (k : Vec F S1x1x512x128 .fp8e4m3) (s : Vec F S1x512x128 .f32) :
    k0_pay53 v29 v87 acc k s = mstep acc (k0_pay28 (k0_pay48 v29 v87) k s) := rfl
theorem pay58_eq (v4 : BitVec 32) (v29 : FVec F S64x16x128 .f32) (v87 : FVec F S64x16x1 .f32) (j) (k : Vec F S1x1x512x128 .fp8e4m3) (s : Vec F S1x512x128 .f32) :
    k0_pay58 v4 (nfw v4) v29 v87 j k s = cut v4 (Scf.iv (nfw v4) 1#32 j) (k0_pay28 (k0_pay48 v29 v87) k s) := shapeCast_self _ _
theorem pay59_eq (v4 : BitVec 32) (v29 : FVec F S64x16x128 .f32) (v87 : FVec F S64x16x1 .f32) (j) (acc : FVec F S8x512 .f32) (k : Vec F S1x1x512x128 .fp8e4m3) (s : Vec F S1x512x128 .f32) :
    k0_pay59 v4 (nfw v4) v29 v87 j acc k s = mstep acc (cut v4 (Scf.iv (nfw v4) 1#32 j) (k0_pay28 (k0_pay48 v29 v87) k s)) := rfl
theorem pay41_eq (qr : FVec F S1x512 .f32) (m acc : FVec F S8x512 .f32) (t : Vec F S512x512 .f32) :
    k0_pay41 qr m acc t = k0_pay3 qr (k0_pay37 qr m) acc t := rfl
theorem pay42_eq (qr : FVec F S1x512 .f32) (m : FVec F S8x512 .f32) (t : Vec F S512x512 .f32) (v : Vec F S1x1x128x512 .fp8e4m3) (o : Vec F S128x512 .f32) :
    k0_pay42 qr m t v o = k0_pay4 qr (k0_pay37 qr m) t v o := rfl
theorem pay63_eq (s : FVec F S64x16x1 .f32) (m : FVec F S8x512 .f32) : k0_pay63 s m = k0_pay37 (k0_pay49 s) m := rfl
theorem pay47_eq (l : FVec F S8x512 .f32) (o : Vec F S128x512 .f32) (vs : Elt F .f32) : k0_pay47 (k0_pay46 l o vs) = k0_pay8 l o vs := rfl

end Cert.KernelIdeal.Blk

end
-- ==== Proof.KernelIdeal.Points.lean ====
/-
  The schedule of the windows: at which grid points each is fetched and written back, in closed form; the memrefs of a point
  and the kernel body there.
-/
module

public import proofs.«01_k».proof.Proof.Gen.KernelIdeal
public import Idealize.ShloMosaic.Lib.Pipeline.Kit

@[expose] public section

noncomputable section

namespace Cert.KernelIdeal.Blk

open Cert.KernelIdeal Cert.KernelIdeal.Gen
open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 256), at any contents of the tables (its index map reads none). -/
theorem fetch0_1 (a : (pcfg0 (F := F)).Adm) : ∀ t : Fin (cfg0 a).N, ((cfg0 a).win 1).fetch t = true ↔ t.val % 256 = 0 :=
  (fun t => Pipeline.Window.fetchOf_reads cc0_transform_1 reads0_1 hreads0_1 0 (by decide) (by decide) (Pipeline.Window.sep_of_coord cc0_transform_1 0 0 (fun _ => rfl) (by decide)) (P := 256) (by decide) t : ∀ t : Fin grid0.N, Pipeline.Window.fetchOf grid0 false cc0_transform_1 t = true ↔ t.val % 256 = 0)
/-- Window 2 (operand 3 (%2)) is fetched at the points ≡ 0 (mod 256), at any contents of the tables (its index map reads none). -/
theorem fetch0_2 (a : (pcfg0 (F := F)).Adm) : ∀ t : Fin (cfg0 a).N, ((cfg0 a).win 2).fetch t = true ↔ t.val % 256 = 0 :=
  (fun t => Pipeline.Window.fetchOf_reads cc0_transform_2 reads0_2 hreads0_2 0 (by decide) (by decide) (Pipeline.Window.sep_of_coord cc0_transform_2 0 0 (fun _ => rfl) (by decide)) (P := 256) (by decide) t : ∀ t : Fin grid0.N, Pipeline.Window.fetchOf grid0 false cc0_transform_2 t = true ↔ t.val % 256 = 0)
/-- Window 3 (operand 4 (%0)) is fetched at the points ≡ 0 (mod 256), at any contents of the tables (its index map reads none). -/
theorem fetch0_3 (a : (pcfg0 (F := F)).Adm) : ∀ t : Fin (cfg0 a).N, ((cfg0 a).win 3).fetch t = true ↔ t.val % 256 = 0 :=
  (fun t => Pipeline.Window.fetchOf_reads cc0_transform_3 reads0_3 hreads0_3 0 (by decide) (by decide) (Pipeline.Window.sep_of_coord cc0_transform_3 0 0 (fun _ => rfl) (by decide)) (P := 256) (by decide) t : ∀ t : Fin grid0.N, Pipeline.Window.fetchOf grid0 false cc0_transform_3 t = true ↔ t.val % 256 = 0)
/-- Window 4 (operand 5 (%arg4)) is fetched at the first point only, at any contents of the tables (its index map reads none). -/
theorem fetch0_4 (a : (pcfg0 (F := F)).Adm) : ∀ t : Fin (cfg0 a).N, ((cfg0 a).win 4).fetch t = true ↔ t.val % 1024 = 0 :=
  (fun t => Pipeline.Window.fetchOf_const cc0_transform_4 (fun _ _ => rfl) (n := 1024) (by decide) t : ∀ t : Fin grid0.N, Pipeline.Window.fetchOf grid0 false cc0_transform_4 t = true ↔ t.val % 1024 = 0)
/-- Window 5 (result 0 (%3#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 1 (%3#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 1 (by decide) (by decide) (Pipeline.Window.sep_of_coord cc0_transform_6 1 1 (fun _ => rfl) (by decide)) (P := 1) (m := 0) (by decide) rfl t).mpr (Nat.mod_one _) : ∀ t : Fin grid0.N, Pipeline.Window.flushOf grid0 true cc0_transform_6 t = true)
/-- Window 7 (result 2 (%3#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 1 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gqa_fp8 (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _)

end Cert.KernelIdeal.Blk

end
-- ==== Proof.KernelIdeal.Runs.lean ====
/-
  What the runs of the body share: the buffers when the pipeline is entered, the table of lengths, the blocks of the
  inputs, the body's one branch condition over the points, and the memrefs of a point.
-/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Blk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4 .i32 := Memref.whole main_arg5
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).1 4).trans (((dats 0 c).arrAt_in 4 rfl _).trans ((hA c 4).trans (V_main_arg4 m c))),
      ((h c).2 main_arg5 (by decide : main_arg5 ∈ Pipeline.restRefs sig spec0)).trans (V_main_arg5 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 256) — by arithmetic of the point. -/
theorem hcond0_0 : ∀ t : Fin grid0.N, cond0_0 (grid0.coords t) ↔ t.val % 256 = 0 :=
  (fun t => by
    have ht : t.val < 1024 := Nat.lt_of_lt_of_eq t.isLt N_0
    have e0 : (grid0.coords t 0).val = t.val / 256 % 4 := Pipeline.Grid.coords_val t 0 (by decide) rfl
    have e1 : (grid0.coords t 1).val = t.val / 1 % 256 := Pipeline.Grid.coords_val t 1 (by decide) rfl
    simp only [cond0_0, e0, e1]
    word_cmp
   : ∀ t : Fin grid0.N, cond0_0 (grid0.coords t) ↔ t.val % 256 = 0)

/-! ## The kernel body on any staging memrefs: a subtype the run finds -/

/-- One staging buffer of output window 5, through which its contents are stated (`View.read_writes_of_cover`: the
    choice does not matter). -/
abbrev VO0_5 : View sig .tc .vmem S1x64x16x128 .bf16 := (Memref.whole cc0_stg5_0 : Memref sig .tc .vmem S1x64x16x128 .bf16).view
/-- One staging buffer of output window 6, through which its contents are stated (`View.read_writes_of_cover`: the
    choice does not matter). -/
abbrev VO0_6 : View sig .tc .vmem S1x64x16x128 .fp8e4m3 := (Memref.whole cc0_stg6_0 : Memref sig .tc .vmem S1x64x16x128 .fp8e4m3).view
/-- One staging buffer of output window 7, through which its contents are stated (`View.read_writes_of_cover`: the
    choice does not matter). -/
abbrev VO0_7 : View sig .tc .vmem S1x64x16 .f32 := (Memref.whole cc0_stg7_0 : Memref sig .tc .vmem S1x64x16 .f32).view
/-- Each window's current staging memref at point `t`, spelled as the pipeline passes it (`bodyAt0`), and its wholeness. -/
abbrev ms0_0 (hO : Ok m) (t : Fin (cfgM m hO).N) : Memref sig .tc .vmem S1x64x16x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x4096x128 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2x4096x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x128x4096 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .smem S4x2 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x16x128 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x16x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x16 .f32 := spec0_7.stage ((cfgM m hO).slots t 7)
abbrev hs0_7 (hO : Ok m) (t : Fin (cfgM m hO).N) : (ms0_7 m hO t).IsWhole := hstage0_7 (((cfgM m hO).slots t 7).cast nbuf0_7)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S4) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S2x4096x128 .f32 := Memref.whole cc0_scratch0
abbrev scM0_1 : Memref sig .tc .vmem S4096x512 .f32 := Memref.whole cc0_scratch1
abbrev scM0_2 : Memref sig .tc .vmem S128x512 .f32 := Memref.whole cc0_scratch2
/-- The scratch `arg11` the kernel carries between points, as a view: what it holds is stated through it. -/
abbrev VS0_0 : View sig .tc .vmem S2x4096x128 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Blk

end
-- ==== Proof.KernelIdeal.Trips.lean ====
/-
  One trip of each counted loop of the body: the two loops over the chunks that fill the scores and keep their running
  maximum (one for the full chunks, one for the chunk the length cuts), and the loop that sums the weights.
-/
module

public import proofs.«01_k».proof.Proof.KernelIdeal.Block
public import proofs.«01_k».proof.Proof.KernelIdeal.Runs
public import Idealize.ShloMosaic.Lib.VecWindow
public import Idealize.ShloMosaic.Lib.WholeRead
public import Idealize.ShloMosaic.Lib.LoopRemainder

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Reads of the chunks -/

/-- A load of chunk `j` of the keys' head `a`. -/
theorem read_k {m : Memref sig .tc .vmem S1x2x4096x128 .fp8e4m3} (h : m.IsWhole) (X : Vec F S1x2x4096x128 .fp8e4m3) {off : Fin 4 → ℕ} {a : Fin 2} {j : ℕ} (hj : j < 8)
    (inb : ∀ i, off i + S1x1x512x128.size i ≤ S1x2x4096x128.size i) (ho : off = ![0, a.val, 512 * j, 0]) :
    m.view.readAt (Elt F) (Rect.unit (s := S1x2x4096x128) off S1x1x512x128.size inb).toLoadRect (h.unread X) = kch X a j := by
  subst ho
  funext x
  rw [h.readAt_unread]
  refine congrArg X (funext fun i => Fin.ext ?_)
  have e := pos_val hj (x 2)
  fin_cases i
  · show 0 + 1 * (x 0).val = (x 0).val; omega
  · show a.val + 1 * (x 1).val = a.val
    have : (x 1).val < 1 := (x 1).isLt
    omega
  · show 512 * j + 1 * (x 2).val = (pos j (x 2)).val; omega
  · show 0 + 1 * (x 3).val = (x 3).val; omega

/-- A load of chunk `j` of the key scales' head `a`. -/
theorem read_s {m : Memref sig .tc .vmem S2x4096x128 .f32} (h : m.IsWhole) (X : Vec F S2x4096x128 .f32) {off : Fin 3 → ℕ} {a : Fin 2} {j : ℕ} (hj : j < 8)
    (inb : ∀ i, off i + S1x512x128.size i ≤ S2x4096x128.size i) (ho : off = ![a.val, 512 * j, 0]) :
    m.view.readAt (Elt F) (Rect.unit (s := S2x4096x128) off S1x512x128.size inb).toLoadRect (h.unread X) = sch X a j := by
  subst ho
  funext x
  rw [h.readAt_unread]
  refine congrArg X (funext fun i => Fin.ext ?_)
  have e := pos_val hj (x 1)
  fin_cases i
  · show a.val + 1 * (x 0).val = a.val
    have : (x 0).val < 1 := (x 0).isLt
    omega
  · show 512 * j + 1 * (x 1).val = (pos j (x 1)).val; omega
  · show 0 + 1 * (x 2).val = (x 2).val; omega

/-- A load of chunk `j` of the values' head `a`. -/
theorem read_v {m : Memref sig .tc .vmem S1x2x128x4096 .fp8e4m3} (h : m.IsWhole) (X : Vec F S1x2x128x4096 .fp8e4m3) {off : Fin 4 → ℕ} {a : Fin 2} {j : ℕ} (hj : j < 8)
    (inb : ∀ i, off i + S1x1x128x512.size i ≤ S1x2x128x4096.size i) (ho : off = ![0, a.val, 0, 512 * j]) :
    m.view.readAt (Elt F) (Rect.unit (s := S1x2x128x4096) off S1x1x128x512.size inb).toLoadRect (h.unread X) = vch X a j := by
  subst ho
  funext x
  rw [h.readAt_unread]
  refine congrArg X (funext fun i => Fin.ext ?_)
  have e := pos_val hj (x 3)
  fin_cases i
  · show 0 + 1 * (x 0).val = (x 0).val; omega
  · show a.val + 1 * (x 1).val = a.val
    have : (x 1).val < 1 := (x 1).isLt
    omega
  · show 0 + 1 * (x 2).val = (x 2).val; omega
  · show 512 * j + 1 * (x 3).val = (pos j (x 3)).val; omega

/-! ## The buffer of the scores -/

/-- The first `b` chunks of the scores' buffer hold `t`. -/
def Held (m : Memref sig .tc .vmem S4096x512 .f32) (f : m.view.ty.Contents (Elt F)) (t : ℕ → FVec F S512x512 .f32) (b : ℕ) : Prop :=
  ∀ j < b, ∀ x : S512x512.Idx, m.view.read (Elt F) f (ix2 (pos j (x 0)) (x 1)) = t j x

theorem Held.zero (m : Memref sig .tc .vmem S4096x512 .f32) (f) (t : ℕ → FVec F S512x512 .f32) : Held m f t 0 := fun _ h => absurd h (by omega)

/-- Storing chunk `b` over a buffer that holds those before it. -/
theorem Held.step {m : Memref sig .tc .vmem S4096x512 .f32} {f} {t : ℕ → FVec F S512x512 .f32} {b : ℕ} (H : Held m f t b) (hb : b < 8) {off : Fin 2 → ℕ}
    (inb : ∀ i, off i + S512x512.size i ≤ S4096x512.size i) (ho : off = ![512 * b, 0]) (w : Vec F S512x512 .f32) (hw : w = t b) :
    Held m (m.view.writes (Elt F) f [⟨Rect.unit (s := S4096x512) off S512x512.size inb, w⟩]) t (b + 1) := by
  intro j hj x
  by_cases e : j = b
  · subst e; subst hw
    refine View.read_writes_cons_unit_of_mem m.view f inb (t j) [] _ x ho fun i => ?_
    have e := pos_val hb (x 0)
    fin_cases i
    · exact e
    · show (x 1).val = 0 + (x 1).val; omega
  · have hx : (x 0).val < 512 := (x 0).isLt
    have e := pos_val (show j < 8 by omega) (x 0)
    refine (View.read_writes_cons_unit_of_not_mem m.view f inb w [] _ ho 0 (.inl ?_)).trans (H j (by omega) x)
    show (pos j (x 0)).val < 512 * b
    omega

/-- A load of a chunk the buffer holds. -/
theorem Held.read {m : Memref sig .tc .vmem S4096x512 .f32} {f} {t : ℕ → FVec F S512x512 .f32} {b j : ℕ} (H : Held m f t b) (hb : b ≤ 8) (hj : j < b) {off : Fin 2 → ℕ}
    (inb : ∀ i, off i + S512x512.size i ≤ S4096x512.size i) (ho : off = ![512 * j, 0]) :
    m.view.readAt (Elt F) (Rect.unit (s := S4096x512) off S512x512.size inb).toLoadRect f = t j := by
  subst ho
  funext x
  refine (congrArg (m.view.read (Elt F) f) (funext fun i => Fin.ext ?_)).trans (H j hj x)
  have e := pos_val (show j < 8 by omega) (x 0)
  fin_cases i
  · show 512 * j + 1 * (x 0).val = (pos j (x 0)).val; omega
  · show 0 + 1 * (x 1).val = (x 1).val; omega

/-! ## The invariants -/

/-- Before trip `k` of a loop that fills the scores from chunk `b` on: the keys and their scales as they were, the
    chunks before `b + k` of the scores stored, and the running maximum over them. -/
def InvM (c : Dev nD) {m4 : Memref sig .tc .vmem S1x2x4096x128 .fp8e4m3} (h4 : m4.IsWhole) {m11 : Memref sig .tc .vmem S2x4096x128 .f32} (h11 : m11.IsWhole)
    (m12 : Memref sig .tc .vmem S4096x512 .f32) (K : Vec F S1x2x4096x128 .fp8e4m3) (S : Vec F S2x4096x128 .f32) (t : ℕ → FVec F S512x512 .f32) (b k : ℕ)
    (acc : FVec F S8x512 .f32) : sProp 𝕄 :=
  iprop((m4.view.loc (c : Thread nD τ) ↦[m4.view.set]{fullShare} h4.unread K) ∗ (m11.view.loc (c : Thread nD τ) ↦[m11.view.set]{fullShare} h11.unread S)
    ∗ (∃ f, ⌜Held m12 f t (b + k)⌝ ∗ (m12.view.loc (c : Thread nD τ) ↦[m12.view.set]{fullShare} f)) ∗ ⌜acc = mx t (b + k)⌝)

/-- Before trip `k` of a loop that sums: the values and the scores as they were, the sum of the weighted values of the
    first `k` chunks stored, and the sum of their weights. -/
def InvS (c : Dev nD) {m6 : Memref sig .tc .vmem S1x2x128x4096 .fp8e4m3} (h6 : m6.IsWhole) (m12 : Memref sig .tc .vmem S4096x512 .f32)
    (m13 : Memref sig .tc .vmem S128x512 .f32) (V : Vec F S1x2x128x4096 .fp8e4m3) (f : m12.view.ty.Contents (Elt F)) (qr sb : FVec F S1x512 .f32) (t : ℕ → FVec F S512x512 .f32) (a : Fin 2) (k : ℕ)
    (acc : FVec F S8x512 .f32) : sProp 𝕄 :=
  iprop((m6.view.loc (c : Thread nD τ) ↦[m6.view.set]{fullShare} h6.unread V) ∗ (m12.view.loc (c : Thread nD τ) ↦[m12.view.set]{fullShare} f)
    ∗ (∃ g, ⌜m13.view.read (Elt F) g = os qr sb t V a k⌝ ∗ (m13.view.loc (c : Thread nD τ) ↦[m13.view.set]{fullShare} g)) ∗ ⌜acc = ls qr sb t k⌝)

/-! ## One trip of each loop -/

set_option maxHeartbeats 1000000 in
/-- One trip of a loop over the full chunks, for key head 0. -/
theorem trip1 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v29 : FVec F S64x16x128 .f32) (v81 : FVec F S64x16x1 .f32) (v83 : IVec S64x16x1 1) (v85 : FVec F S64x16x1 .f32)
    (K : Vec F S1x2x4096x128 .fp8e4m3) (S : Vec F S2x4096x128 .f32) (k : Fin (k0_t1_loop v4).trips) (acc : FVec F S8x512 .f32) (E : Set ℕ) :
    InvM c harg4 harg11 arg12 K S (T v4 n (k0_pay22 v29 v81 v83) K S 0) 0 k.val acc
      ⊢ wp frame (wpE (defs₀ (F := F)) Variants.none c none) E (k0_t1_body (F := F) i arg2 harg2 arg3 harg3 arg4 harg4 arg5 harg5 arg6 harg6 arg7 harg7 arg8 harg8 arg9 harg9 arg10 harg10 arg11 harg11 arg12 harg12 arg13 harg13 v4 k0_hw1 (nfw v4) v29 v81 v83 v85 k acc)
          (InvM c harg4 harg11 arg12 K S (T v4 n (k0_pay22 v29 v81 v83) K S 0) 0 (k.val + 1)) := by
  have hk := hl.k1 k; have hb := hl.nf_le
  unfold k0_t1_body InvM
  iintro ⟨H4, H11, ⟨%f, %hf, H12⟩, %hacc⟩
  subst hacc
  sl_exec (disch := exact k0_hw1)
  sl_step
  rw [read_k harg4 K (a := 0) (j := 0 + k.val) (by omega) _ (by rw [hl.off2, Nat.zero_add]; rfl),
    read_s harg11 S (a := 0) (j := 0 + k.val) (by omega) _ (by rw [hl.off3, Nat.zero_add]; rfl)]
  isplitl [H4]; · iexact H4
  isplitl [H11]; · iexact H11
  isplitl [H12]
  · iexists _; isplitr; swap; · iexact H12
    ipureintro
    exact hf.step (by omega) _ (by rw [hl.off4, Nat.zero_add]) _ (by rw [pay26_eq]; rw [Nat.zero_add]; exact (T_full (k0_pay22 v29 v81 v83) K S 0 (hl.k1 k)).symm)
  · ipureintro
    rw [pay27_eq, Nat.zero_add, Nat.zero_add]
    exact congrArg (mstep _) (T_full (k0_pay22 v29 v81 v83) K S 0 (hl.k1 k)).symm

set_option maxHeartbeats 1000000 in
/-- One trip of the loop over the chunk that the length cuts, for key head 0. -/
theorem trip3 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (arg0 : BitVec 32) (v114 : FVec F S512x128 .fp8e4m3) (v119 : FVec F S1x512 .f32) (v125 : BitVec 32) (v126 : FVec F S8x512 .f32) (c1_i32_32 : BitVec 32)
    (K : Vec F S1x2x4096x128 .fp8e4m3) (S : Vec F S2x4096x128 .f32) (k : Fin (k0_t3_loop v4).trips) (acc : FVec F S8x512 .f32) (E : Set ℕ) :
    InvM c harg4 harg11 arg12 K S (T v4 n v114 K S 0) (n / 512) k.val acc
      ⊢ wp frame (wpE (defs₀ (F := F)) Variants.none c none) E (k0_t3_body (F := F) i arg2 harg2 arg3 harg3 arg4 harg4 arg5 harg5 arg6 harg6 arg7 harg7 arg8 harg8 arg9 harg9 arg10 harg10 arg11 harg11 arg12 harg12 arg13 harg13 arg0 v4 k0_hw1 (nfw v4) (ncw v4) v114 v119 v125 v126 c1_i32_32 k acc)
          (InvM c harg4 harg11 arg12 K S (T v4 n v114 K S 0) (n / 512) (k.val + 1)) := by
  have hk := hl.k3 k; have hb := hl.nc_le
  unfold k0_t3_body InvM
  iintro ⟨H4, H11, ⟨%f, %hf, H12⟩, %hacc⟩
  subst hacc
  sl_exec (disch := exact k0_hw1)
  sl_step
  rw [read_k harg4 K (a := 0) (j := (n / 512) + k.val) (by omega) _ (hl.off8 k),
    read_s harg11 S (a := 0) (j := (n / 512) + k.val) (by omega) _ (hl.off9 k)]
  isplitl [H4]; · iexact H4
  isplitl [H11]; · iexact H11
  isplitl [H12]
  · iexists _; isplitr; swap; · iexact H12
    ipureintro
    exact hf.step (by omega) _ (hl.off10 k) _ (by rw [pay32_eq]; exact (hl.T_part v114 K S 0 k.val).symm)
  · ipureintro
    rw [pay33_eq]
    exact congrArg (mstep _) (hl.T_part v114 K S 0 k.val).symm

set_option maxHeartbeats 1000000 in
/-- One trip of the loop that sums, for key head 0. -/
theorem trip5 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (arg0 : BitVec 32) (v114 : FVec F S512x128 .fp8e4m3) (v119 : FVec F S1x512 .f32) (v125 : BitVec 32) (v126 : FVec F S8x512 .f32) (c1_i32_32 : BitVec 32) (v134 : FVec F S8x512 .f32)
    (V : Vec F S1x2x128x4096 .fp8e4m3) (f : arg12.view.ty.Contents (Elt F)) (t : ℕ → FVec F S512x512 .f32) (hf : Held arg12 f t ((n + 511) / 512)) (k : Fin (k0_t5_loop v4).trips) (acc : FVec F S8x512 .f32) (E : Set ℕ) :
    InvS c harg6 arg12 arg13 V f v119 (k0_pay37 v119 v134) t 0 k.val acc
      ⊢ wp frame (wpE (defs₀ (F := F)) Variants.none c none) E (k0_t5_body (F := F) i arg2 harg2 arg3 harg3 arg4 harg4 arg5 harg5 arg6 harg6 arg7 harg7 arg8 harg8 arg9 harg9 arg10 harg10 arg11 harg11 arg12 harg12 arg13 harg13 arg0 v4 k0_hw1 (nfw v4) (ncw v4) v114 v119 v125 v126 c1_i32_32 v134 k acc)
          (InvS c harg6 arg12 arg13 V f v119 (k0_pay37 v119 v134) t 0 (k.val + 1)) := by
  have hk := hl.k5 k; have hb := hl.nc_le
  unfold k0_t5_body InvS
  iintro ⟨H6, H12, ⟨%g, %hg, H13⟩, %hacc⟩
  subst hacc
  sl_exec (disch := exact k0_hw1)
  sl_step
  rw [read_v harg6 V (a := 0) (j := k.val) (by omega) _ (hl.off15 k), hf.read hb hk _ (hl.off14 k), View.readAt_full, hg]
  isplitl [H6]; · iexact H6
  isplitl [H12]; · iexact H12
  isplitl [H13]
  · iexists _; isplitr; swap; · iexact H13
    ipureintro
    exact View.read_writes_full _ _ _ _ _
  · ipureintro; rfl

set_option maxHeartbeats 1000000 in
/-- One trip of a loop over the full chunks, for key head 1. -/
theorem trip7 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v29 : FVec F S64x16x128 .f32) (v85 : FVec F S64x16x1 .f32) (v87 : FVec F S64x16x1 .f32) (v163 : FVec F S64x8x128 .bf16) (v164 : Vec F S1x64x8x128 .bf16)
    (K : Vec F S1x2x4096x128 .fp8e4m3) (S : Vec F S2x4096x128 .f32) (k : Fin (k0_t7_loop v4).trips) (acc : FVec F S8x512 .f32) (E : Set ℕ) :
    InvM c harg4 harg11 arg12 K S (T v4 n (k0_pay48 v29 v87) K S 1) 0 k.val acc
      ⊢ wp frame (wpE (defs₀ (F := F)) Variants.none c none) E (k0_t7_body (F := F) i arg2 harg2 arg3 harg3 arg4 harg4 arg5 harg5 arg6 harg6 arg7 harg7 arg8 harg8 arg9 harg9 arg10 harg10 arg11 harg11 arg12 harg12 arg13 harg13 v4 k0_hw1 (nfw v4) (ncw v4) v29 v85 v87 v163 v164 k acc)
          (InvM c harg4 harg11 arg12 K S (T v4 n (k0_pay48 v29 v87) K S 1) 0 (k.val + 1)) := by
  have hk := hl.k7 k; have hb := hl.nf_le
  unfold k0_t7_body InvM
  iintro ⟨H4, H11, ⟨%f, %hf, H12⟩, %hacc⟩
  subst hacc
  sl_exec (disch := exact k0_hw1)
  sl_step
  rw [read_k harg4 K (a := 1) (j := 0 + k.val) (by omega) _ (by rw [hl.off19, Nat.zero_add]; rfl),
    read_s harg11 S (a := 1) (j := 0 + k.val) (by omega) _ (by rw [hl.off20, Nat.zero_add]; rfl)]
  isplitl [H4]; · iexact H4
  isplitl [H11]; · iexact H11
  isplitl [H12]
  · iexists _; isplitr; swap; · iexact H12
    ipureintro
    exact hf.step (by omega) _ (by rw [hl.off21, Nat.zero_add]) _ (by rw [pay52_eq]; rw [Nat.zero_add]; exact (T_full (k0_pay48 v29 v87) K S 1 (hl.k7 k)).symm)
  · ipureintro
    rw [pay53_eq, Nat.zero_add, Nat.zero_add]
    exact congrArg (mstep _) (T_full (k0_pay48 v29 v87) K S 1 (hl.k7 k)).symm

set_option maxHeartbeats 1000000 in
/-- One trip of the loop over the chunk that the length cuts, for key head 1. -/
theorem trip9 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v29 : FVec F S64x16x128 .f32) (v85 : FVec F S64x16x1 .f32) (v87 : FVec F S64x16x1 .f32) (v163 : FVec F S64x8x128 .bf16) (v164 : Vec F S1x64x8x128 .bf16)
    (K : Vec F S1x2x4096x128 .fp8e4m3) (S : Vec F S2x4096x128 .f32) (k : Fin (k0_t9_loop v4).trips) (acc : FVec F S8x512 .f32) (E : Set ℕ) :
    InvM c harg4 harg11 arg12 K S (T v4 n (k0_pay48 v29 v87) K S 1) (n / 512) k.val acc
      ⊢ wp frame (wpE (defs₀ (F := F)) Variants.none c none) E (k0_t9_body (F := F) i arg2 harg2 arg3 harg3 arg4 harg4 arg5 harg5 arg6 harg6 arg7 harg7 arg8 harg8 arg9 harg9 arg10 harg10 arg11 harg11 arg12 harg12 arg13 harg13 v4 k0_hw1 (nfw v4) (ncw v4) v29 v85 v87 v163 v164 k acc)
          (InvM c harg4 harg11 arg12 K S (T v4 n (k0_pay48 v29 v87) K S 1) (n / 512) (k.val + 1)) := by
  have hk := hl.k9 k; have hb := hl.nc_le
  unfold k0_t9_body InvM
  iintro ⟨H4, H11, ⟨%f, %hf, H12⟩, %hacc⟩
  subst hacc
  sl_exec (disch := exact k0_hw1)
  sl_step
  rw [read_k harg4 K (a := 1) (j := (n / 512) + k.val) (by omega) _ (hl.off25 k),
    read_s harg11 S (a := 1) (j := (n / 512) + k.val) (by omega) _ (hl.off26 k)]
  isplitl [H4]; · iexact H4
  isplitl [H11]; · iexact H11
  isplitl [H12]
  · iexists _; isplitr; swap; · iexact H12
    ipureintro
    exact hf.step (by omega) _ (hl.off27 k) _ (by rw [pay58_eq]; exact (hl.T_part (k0_pay48 v29 v87) K S 1 k.val).symm)
  · ipureintro
    rw [pay59_eq]
    exact congrArg (mstep _) (hl.T_part (k0_pay48 v29 v87) K S 1 k.val).symm

set_option maxHeartbeats 1000000 in
/-- One trip of the loop that sums, for key head 1. -/
theorem trip11 (c : Dev nD) {v4 : BitVec 32} {n : ℕ} (hl : Len v4 n) (i : grid0.Coords) (arg2 : Memref sig .tc .smem S4 .i32) (harg2 : arg2.IsWhole) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4) (v184 : FVec F S1x512 .f32) (v204 : FVec F S1x512 .f32)
    (V : Vec F S1x2x128x4096 .fp8e4m3) (f : arg12.view.ty.Contents (Elt F)) (t : ℕ → FVec F S512x512 .f32) (hf : Held arg12 f t ((n + 511) / 512)) (k : Fin (k0_t11_loop v4).trips) (acc : FVec F S8x512 .f32) (E : Set ℕ) :
    InvS c harg6 arg12 arg13 V f v184 v204 t 1 k.val acc
      ⊢ wp frame (wpE (defs₀ (F := F)) Variants.none c none) E (k0_t11_body (F := F) i arg2 harg2 arg3 harg3 arg4 harg4 arg5 harg5 arg6 harg6 arg7 harg7 arg8 harg8 arg9 harg9 arg10 harg10 arg11 harg11 arg12 harg12 arg13 harg13 v4 k0_hw1 v184 v204 k acc)
          (InvS c harg6 arg12 arg13 V f v184 v204 t 1 (k.val + 1)) := by
  have hk := hl.k11 k; have hb := hl.nc_le
  unfold k0_t11_body InvS
  iintro ⟨H6, H12, ⟨%g, %hg, H13⟩, %hacc⟩
  subst hacc
  sl_exec (disch := exact k0_hw1)
  sl_step
  rw [read_v harg6 V (a := 1) (j := k.val) (by omega) _ (hl.off32 k), hf.read hb hk _ (hl.off31 k), View.readAt_full, hg]
  isplitl [H6]; · iexact H6
  isplitl [H12]; · iexact H12
  isplitl [H13]
  · iexists _; isplitr; swap; · iexact H13
    ipureintro
    exact View.read_writes_full _ _ _ _ _
  · ipureintro; rfl

end Cert.KernelIdeal.Blk

end
-- ==== Proof.KernelIdeal.Parts.lean ====
/-
  The run of the body's parts, one by one, on any staging memrefs.
-/
module

public import proofs.«01_k».proof.Proof.KernelIdeal.Trips
public import Idealize.ShloMosaic.Lib.VecWindow
public import Idealize.ShloMosaic.Lib.WholeRead
public import Idealize.ShloMosaic.Lib.LoopRemainder

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The length word the body reads from the table. -/
def wd (c : Dev nD) (i : grid0.Coords) (xt : TbBuf0 (F := F) c tbM0_0) : BitVec 32 :=
  tbM0_0.view.readAt (Elt F) (Rect.unit (s := S4) (k0_off1 i) S1.size (k0_off1_inb i)).toLoadRect xt (Shape.Idx.first (numel1_S1.symm ▸ Nat.one_pos))

/-- The two value scales the body reads. -/
def vs0 (i : grid0.Coords) (x : Vec F S4x2 .f32) : Elt F .f32 :=
  x ((Rect.unit (s := S4x2) (k0_off18 i) S1x1.size (k0_off18_inb i)).toLoadRect.idx (Shape.Idx.first (numel1_S1x1.symm ▸ Nat.one_pos)))
def vs1 (i : grid0.Coords) (x : Vec F S4x2 .f32) : Elt F .f32 :=
  x ((Rect.unit (s := S4x2) (k0_off35 i) S1x1.size (k0_off35_inb i)).toLoadRect.idx (Shape.Idx.first (numel1_S1x1.symm ▸ Nat.one_pos)))

/-- A load of one head's key scales. -/
theorem read_sh {m : Memref sig .tc .vmem S1x2x4096x128 .f32} (h : m.IsWhole) (X : Vec F S1x2x4096x128 .f32) {off : Fin 4 → ℕ} {a : Fin 2}
    (inb : ∀ i, off i + S1x1x4096x128.size i ≤ S1x2x4096x128.size i) (ho : off = ![0, a.val, 0, 0]) :
    m.view.readAt (Elt F) (Rect.unit (s := S1x2x4096x128) off S1x1x4096x128.size inb).toLoadRect (h.unread X) = sh X a := by
  subst ho
  funext x
  rw [h.readAt_unread]
  refine congrArg X (funext fun i => Fin.ext ?_)
  fin_cases i
  · show 0 + 1 * (x 0).val = (x 0).val; omega
  · show a.val + 1 * (x 1).val = a.val
    have : (x 1).val < 1 := (x 1).isLt
    omega
  · show 0 + 1 * (x 2).val = (x 2).val; omega
  · show 0 + 1 * (x 3).val = (x 3).val; omega

/-- What the two stores of the key scales leave. -/
theorem writes_ks (m : Memref sig .tc .vmem S2x4096x128 .f32) (f : m.view.ty.Contents (Elt F)) (X : Vec F S1x2x4096x128 .f32) :
    m.view.read (Elt F) (m.view.writes (Elt F) f [⟨Rect.unit (s := S2x4096x128) ![1, 0, 0] S1x4096x128.size inb_S2x4096x128_S1x4096x128_1_0_0, k0_pay10 (sh X 1)⟩,
      ⟨Rect.unit (s := S2x4096x128) ![0, 0, 0] S1x4096x128.size inb_S2x4096x128_S1x4096x128_0_0_0, k0_pay9 (sh X 0)⟩]) = ksv X := by
  funext y
  have h0 : (y 0).val < 2 := (y 0).isLt
  by_cases e : (y 0).val = 0
  · rw [View.read_writes_cons_unit_of_not_mem m.view f _ _ _ y rfl 0 (.inl (by show (y 0).val < 1; omega))]
    refine (View.read_writes_cons_unit_of_mem m.view f _ _ [] y (ix3 0 (y 1) (y 2)) rfl fun i => ?_).trans (if_pos e).symm
    fin_cases i
    · exact e
    · show (y 1).val = 0 + (y 1).val; omega
    · show (y 2).val = 0 + (y 2).val; omega
  · refine (View.read_writes_cons_unit_of_mem m.view f _ _ _ y (ix3 0 (y 1) (y 2)) rfl fun i => ?_).trans (if_neg e).symm
    fin_cases i
    · show (y 0).val = 1 + 0; omega
    · show (y 1).val = 0 + (y 1).val; omega
    · show (y 2).val = 0 + (y 2).val; omega

/-- The first store of the first result leaves the first group's half. -/
theorem writes_lo (m : Memref sig .tc .vmem S1x64x16x128 .bf16) (f : m.view.ty.Contents (Elt F)) (A : FVec F S1x64x8x128 .bf16)
    (y : S1x64x16x128.Idx) (h : (y 2).val < 8) :
    m.view.read (Elt F) (m.view.writes (Elt F) f [⟨Rect.unit (s := S1x64x16x128) ![0, 0, 0, 0] S1x64x8x128.size inb_S1x64x16x128_S1x64x8x128_0_0_0_0, A⟩]) y
      = A (ix4 (y 0) (y 1) ⟨(y 2).val, h⟩ (y 3)) := by
  refine View.read_writes_cons_unit_of_mem m.view f _ _ [] y (ix4 (y 0) (y 1) ⟨(y 2).val, h⟩ (y 3)) rfl fun i => ?_
  fin_cases i
  · show (y 0).val = 0 + (y 0).val; omega
  · show (y 1).val = 0 + (y 1).val; omega
  · show (y 2).val = 0 + (y 2).val; omega
  · show (y 3).val = 0 + (y 3).val; omega

/-- The second store of the first result completes it. -/
theorem writes_hi (m : Memref sig .tc .vmem S1x64x16x128 .bf16) (f : m.view.ty.Contents (Elt F)) (A B : FVec F S1x64x8x128 .bf16) (Y : FVec F S1x64x16x128 .bf16)
    (h8 : ∀ (y : S1x64x16x128.Idx) (h : (y 2).val < 8), m.view.read (Elt F) f y = A (ix4 (y 0) (y 1) ⟨(y 2).val, h⟩ (y 3)))
    (hA : ∀ (y : S1x64x16x128.Idx) (h : (y 2).val < 8), Y y = A (ix4 (y 0) (y 1) ⟨(y 2).val, h⟩ (y 3)))
    (hB : ∀ (y : S1x64x16x128.Idx) (h : ¬ (y 2).val < 8), Y y = B (ix4 (y 0) (y 1) ⟨(y 2).val - 8, by have : (y 2).val < 16 := (y 2).isLt; omega⟩ (y 3))) :
    m.view.read (Elt F) (m.view.writes (Elt F) f [⟨Rect.unit (s := S1x64x16x128) ![0, 0, 8, 0] S1x64x8x128.size inb_S1x64x16x128_S1x64x8x128_0_0_8_0, B⟩]) = Y := by
  funext y
  by_cases e : (y 2).val < 8
  · rw [View.read_writes_cons_unit_of_not_mem m.view f _ _ _ y rfl 2 (.inl e)]
    exact (h8 y e).trans (hA y e).symm
  · refine (View.read_writes_cons_unit_of_mem m.view f _ _ [] y (ix4 (y 0) (y 1) ⟨(y 2).val - 8, by have : (y 2).val < 16 := (y 2).isLt; omega⟩ (y 3)) rfl fun i => ?_).trans (hB y e).symm
    fin_cases i
    · show (y 0).val = 0 + (y 0).val; omega
    · show (y 1).val = 0 + (y 1).val; omega
    · show (y 2).val = 8 + ((y 2).val - 8); omega
    · show (y 3).val = 0 + (y 3).val; omega

set_option maxHeartbeats 1000000 in
/-- The first part: at a sequence's first block it stores the key scales; it reads the length and the queries. -/
theorem part1_run (c : Dev nD) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole)
    (x0 : Vec F S1x64x16x128 .bf16) (x2 : Vec F S1x2x4096x128 .f32) (xt0 : TbBuf0 (F := F) c tbM0_0) (hw : k0_chk1 (wd c i xt0)) (P : sProp 𝕄)
    (hP : (cond0_0 i ∧ P = iprop(∃ f, (arg11.view.loc (c : Thread nD τ) ↦[arg11.view.set]{fullShare} f))) ∨ (¬ cond0_0 i ∧ P = (arg11.view.loc (c : Thread nD τ) ↦[arg11.view.set]{fullShare} harg11.unread (ksv x2))))
    (E : Set ℕ) (K) :
    iprop((arg3.view.loc (c : Thread nD τ) ↦[arg3.view.set]{fullShare} harg3.unread x0) ∗ (arg5.view.loc (c : Thread nD τ) ↦[arg5.view.set]{fullShare} harg5.unread x2) ∗ P ∗ tbPt0 c tbM0_0 xt0
        ∗ (∀ z, iprop(⌜z = ⟨BitVec.ofNat 32 (i 0).val, wd c i xt0, hw, nfw (wd c i xt0), ncw (wd c i xt0), k0_pay11 x0, k0_pay12 x0, k0_pay13, k0_pay14⟩⌝
            ∗ (arg3.view.loc (c : Thread nD τ) ↦[arg3.view.set]{fullShare} harg3.unread x0) ∗ (arg5.view.loc (c : Thread nD τ) ↦[arg5.view.set]{fullShare} harg5.unread x2) ∗ (arg11.view.loc (c : Thread nD τ) ↦[arg11.view.set]{fullShare} harg11.unread (ksv x2)) ∗ tbPt0 c tbM0_0 xt0) -∗ K z))
      ⊢ wp frame (wpE (defs₀ (F := F)) Variants.none c none) E (k0_part1 (F := F) i tbM0_0 htbM0_0 arg3 harg3 arg4 harg4 arg5 harg5 arg6 harg6 arg7 harg7 arg8 harg8 arg9 harg9 arg10 harg10 arg11 harg11 arg12 harg12 arg13 harg13) K := by
  rw [k0_part1_eq_skeleton]; unfold k0_part1_skel
  unfold wd at hw
  rcases hP with ⟨hc0, rfl⟩ | ⟨hc0, rfl⟩
  · iintro ⟨H0, H2, ⟨%f, HS0⟩, HT0, Hk⟩
    sl_exec (disch := first | sl_exact hc0 | sl_exact hw)
    sl_step
    have e0 : arg3.view.readAt (Elt F) (Rect.unit (s := S1x64x16x128) ![0, 0, 0, 0] S1x64x16x128.size inb_S1x64x16x128_S1x64x16x128_0_0_0_0).toLoadRect (harg3.unread x0) = x0 :=
      (View.readAt_full _ _ _).trans (harg3.read_unread x0)
    have eA := harg11.eq_unread (writes_ks arg11 f x2)
    simp only [e0, read_sh harg5 x2 (a := 0) inb_S1x2x4096x128_S1x1x4096x128_0_0_0_0 rfl, read_sh harg5 x2 (a := 1) inb_S1x2x4096x128_S1x1x4096x128_0_1_0_0 rfl]
    rw [eA]
    iapply Hk
    isplitr; · ipureintro; rfl
    isplitl [H0]; · iexact H0
    isplitl [H2]; · iexact H2
    isplitl [HS0]; · iexact HS0
    iexact HT0
  · iintro ⟨H0, H2, HS0, HT0, Hk⟩
    sl_exec (disch := first | sl_exact hc0 | sl_exact hw)
    sl_step
    have e0 : arg3.view.readAt (Elt F) (Rect.unit (s := S1x64x16x128) ![0, 0, 0, 0] S1x64x16x128.size inb_S1x64x16x128_S1x64x16x128_0_0_0_0).toLoadRect (harg3.unread x0) = x0 :=
      (View.readAt_full _ _ _).trans (harg3.read_unread x0)
    simp only [e0]
    iapply Hk
    isplitr; · ipureintro; rfl
    isplitl [H0]; · iexact H0
    isplitl [H2]; · iexact H2
    isplitl [HS0]; · iexact HS0
    iexact HT0

set_option maxHeartbeats 1000000 in
/-- The third part: it stores the query codes and scales, and runs over the full chunks of the first key head. -/
theorem part3_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (v29 : FVec F S64x16x128 .f32) (v81 : FVec F S64x16x1 .f32) (v83 : IVec S64x16x1 1) (v85 : FVec F S64x16x1 .f32)
    (K : Vec F S1x2x4096x128 .fp8e4m3) (S : Vec F S2x4096x128 .f32) (E : Set ℕ) (Φ : _ → sProp 𝕄) :
    iprop((arg4.view.loc (c : Thread nD τ) ↦[arg4.view.set]{fullShare} harg4.unread K) ∗ (arg11.view.loc (c : Thread nD τ) ↦[arg11.view.set]{fullShare} harg11.unread S) ∗ (∃ f, (arg9.view.loc (c : Thread nD τ) ↦[arg9.view.set]{fullShare} f)) ∗ (∃ f, (arg10.view.loc (c : Thread nD τ) ↦[arg10.view.set]{fullShare} f)) ∗ (∃ f, (arg12.view.loc (c : Thread nD τ) ↦[arg12.view.set]{fullShare} f))
        ∗ (∀ w, iprop((arg4.view.loc (c : Thread nD τ) ↦[arg4.view.set]{fullShare} harg4.unread K) ∗ (arg11.view.loc (c : Thread nD τ) ↦[arg11.view.set]{fullShare} harg11.unread S) ∗ (∃ f, ⌜arg9.view.read (Elt F) f = k0_pay20 v29 v81 v83⌝ ∗ (arg9.view.loc (c : Thread nD τ) ↦[arg9.view.set]{fullShare} f)) ∗ (∃ f, ⌜arg10.view.read (Elt F) f = k0_pay21 v85⌝ ∗ (arg10.view.loc (c : Thread nD τ) ↦[arg10.view.set]{fullShare} f)) ∗ (∃ f, ⌜Held arg12 f (T v4 n (k0_pay22 v29 v81 v83) K S 0) (n / 512)⌝ ∗ (arg12.view.loc (c : Thread nD τ) ↦[arg12.view.set]{fullShare} f)))
            -∗ Φ ⟨k0_pay19 v81 v83, k0_pay22 v29 v81 v83, k0_pay23 v85, w, mx (T v4 n (k0_pay22 v29 v81 v83) K S 0) (n / 512), 1#32⟩))
      ⊢ wp frame (wpE (defs₀ (F := F)) Variants.none c none) E (k0_part3 (F := F) i tbM0_0 htbM0_0 arg3 harg3 arg4 harg4 arg5 harg5 arg6 harg6 arg7 harg7 arg8 harg8 arg9 harg9 arg10 harg10 arg11 harg11 arg12 harg12 arg13 harg13 v4 k0_hw1 (nfw v4) v29 v81 v83 v85) Φ := by
  have e1 := hl.t1.1
  rw [k0_part3_eq_skeleton]; unfold k0_part3_skel
  iintro ⟨H4, H11, ⟨%f9, H9⟩, ⟨%f10, H10⟩, ⟨%f12, H12⟩, Hk⟩
  sl_exec (disch := exact k0_hw1)
  sl_for (InvM c harg4 harg11 arg12 K S (T v4 n (k0_pay22 v29 v81 v83) K S 0) 0) $$ [H4 H11 H12]
  case region => intro k acc; exact trip1 c hl i _ _ _ _ _ _ _ _ _ _ _ _ _ _ _ _ _ _ _ _ _ _ _ _ k0_hw1 v29 v81 v83 v85 K S k acc E
  · unfold InvM
    isplitl [H4]; · iexact H4
    isplitl [H11]; · iexact H11
    isplitl [H12]
    · iexists _; isplitr; swap; · iexact H12
      ipureintro; exact Held.zero _ _ _
    · ipureintro; rfl
  iintro %acc HI
  unfold InvM
  icases HI with ⟨H4, H11, ⟨%f, %hf, H12⟩, %ha⟩
  have e1' : 0 + Scf.trips (k0_t1_loop v4).lb (k0_t1_loop v4).ub (k0_t1_loop v4).st = n / 512 := (Nat.zero_add _).trans e1
  rw [e1'] at hf ha
  subst ha
  sl_exec
  sl_step
  iapply Hk
  isplitl [H4]; · iexact H4
  isplitl [H11]; · iexact H11
  isplitl [H9]
  · iexists _; isplitr; swap; · iexact H9
    ipureintro; exact View.read_writes_full _ _ _ _ _
  isplitl [H10]
  · iexists _; isplitr; swap; · iexact H10
    ipureintro; exact View.read_writes_full _ _ _ _ _
  · iexists _; isplitr; swap; · iexact H12
    ipureintro; exact hf

set_option maxHeartbeats 1000000 in
/-- The fourth part: the last chunk of the first key head, and the sums over its chunks. -/
theorem part4_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (arg0 : BitVec 32) (v114 : FVec F S512x128 .fp8e4m3) (v119 : FVec F S1x512 .f32) (v125 : BitVec 32) (c1 : BitVec 32)
    (K : Vec F S1x2x4096x128 .fp8e4m3) (S : Vec F S2x4096x128 .f32) (V : Vec F S1x2x128x4096 .fp8e4m3) (x4 : Vec F S4x2 .f32) (f8) (E : Set ℕ) (Φ : _ → sProp 𝕄) :
    iprop((arg4.view.loc (c : Thread nD τ) ↦[arg4.view.set]{fullShare} harg4.unread K) ∗ (arg11.view.loc (c : Thread nD τ) ↦[arg11.view.set]{fullShare} harg11.unread S) ∗ (arg6.view.loc (c : Thread nD τ) ↦[arg6.view.set]{fullShare} harg6.unread V) ∗ (arg7.view.loc (c : Thread nD τ) ↦[arg7.view.set]{fullShare} harg7.unread x4) ∗ (arg8.view.loc (c : Thread nD τ) ↦[arg8.view.set]{fullShare} f8) ∗ (∃ f, ⌜Held arg12 f (T v4 n v114 K S 0) (n / 512)⌝ ∗ (arg12.view.loc (c : Thread nD τ) ↦[arg12.view.set]{fullShare} f)) ∗ (∃ g, (arg13.view.loc (c : Thread nD τ) ↦[arg13.view.set]{fullShare} g))
        ∗ (iprop((arg4.view.loc (c : Thread nD τ) ↦[arg4.view.set]{fullShare} harg4.unread K) ∗ (arg11.view.loc (c : Thread nD τ) ↦[arg11.view.set]{fullShare} harg11.unread S) ∗ (arg6.view.loc (c : Thread nD τ) ↦[arg6.view.set]{fullShare} harg6.unread V) ∗ (arg7.view.loc (c : Thread nD τ) ↦[arg7.view.set]{fullShare} harg7.unread x4) ∗ (arg8.view.loc (c : Thread nD τ) ↦[arg8.view.set]{fullShare} f8) ∗ (∃ f, (arg12.view.loc (c : Thread nD τ) ↦[arg12.view.set]{fullShare} f)) ∗ (∃ g, (arg13.view.loc (c : Thread nD τ) ↦[arg13.view.set]{fullShare} g)))
            -∗ ∀ z, ⌜z.1 = k0_pay46 (ls v119 (k0_pay37 v119 (mx (T v4 n v114 K S 0) ((n + 511) / 512))) (T v4 n v114 K S 0) ((n + 511) / 512)) (os v119 (k0_pay37 v119 (mx (T v4 n v114 K S 0) ((n + 511) / 512))) (T v4 n v114 K S 0) V 0 ((n + 511) / 512)) (vs0 i x4)⌝ -∗ Φ z))
      ⊢ wp frame (wpE (defs₀ (F := F)) Variants.none c none) E (k0_part4 (F := F) i tbM0_0 htbM0_0 arg3 harg3 arg4 harg4 arg5 harg5 arg6 harg6 arg7 harg7 arg8 harg8 arg9 harg9 arg10 harg10 arg11 harg11 arg12 harg12 arg13 harg13 arg0 v4 k0_hw1 (nfw v4) (ncw v4) v114 v119 v125 (mx (T v4 n v114 K S 0) (n / 512)) c1) Φ := by
  have e3 := hl.t3.1; have e5 := hl.t5.1
  have enc : n / 512 + ((n + 511) / 512 - n / 512) = (n + 511) / 512 := by have := hl.nf_le_nc; omega
  rw [k0_part4_eq_skeleton]; unfold k0_part4_skel
  iintro ⟨H4, H11, H6, H7, H8, ⟨%f, %hf, H12⟩, ⟨%g0, H13⟩, Hk⟩
  sl_exec (disch := exact k0_hw1)
  sl_for (InvM c harg4 harg11 arg12 K S (T v4 n v114 K S 0) (n / 512)) $$ [H4 H11 H12]
  case region => intro k acc; exact trip3 c hl i _ _ _ _ _ _ _ _ _ _ _ _ _ _ _ _ _ _ _ _ _ _ _ _ k0_hw1 arg0 v114 v119 v125 (mx (T v4 n v114 K S 0) (n / 512)) c1 K S k acc E
  · unfold InvM
    isplitl [H4]; · iexact H4
    isplitl [H11]; · iexact H11
    isplitl [H12]
    · iexists _; isplitr; swap; · iexact H12
      ipureintro; exact hf
    · ipureintro; rfl
  iintro %acc HI
  unfold InvM
  icases HI with ⟨H4, H11, ⟨%f', %hf', H12⟩, %ha⟩
  rw [show Scf.trips (k0_t3_loop v4).lb (k0_t3_loop v4).ub (k0_t3_loop v4).st = (n + 511) / 512 - n / 512 from e3, enc] at hf' ha
  subst ha
  sl_exec (disch := exact k0_hw1)
  sl_for (InvS c harg6 arg12 arg13 V f' v119 (k0_pay37 v119 (mx (T v4 n v114 K S 0) ((n + 511) / 512))) (T v4 n v114 K S 0) 0) $$ [H6 H12 H13]
  case region => intro k acc; exact trip5 c hl i _ _ _ _ _ _ _ _ _ _ _ _ _ _ _ _ _ _ _ _ _ _ _ _ k0_hw1 arg0 v114 v119 v125 (mx (T v4 n v114 K S 0) (n / 512)) c1 (mx (T v4 n v114 K S 0) ((n + 511) / 512)) V f' (T v4 n v114 K S 0) hf' k acc E
  · unfold InvS
    isplitl [H6]; · iexact H6
    isplitl [H12]; · iexact H12
    isplitl [H13]
    · iexists _; isplitr; swap; · iexact H13
      ipureintro; exact View.read_writes_full _ _ _ _ _
    · ipureintro; rfl
  iintro %acc HI
  unfold InvS
  icases HI with ⟨H6, H12, ⟨%g, %hg, H13⟩, %ha⟩
  rw [show Scf.trips (k0_t5_loop v4).lb (k0_t5_loop v4).ub (k0_t5_loop v4).st = (n + 511) / 512 from e5] at hg ha
  subst ha
  sl_exec (disch := exact k0_hw1)
  sl_step
  have eg : arg13.view.readAt (Elt F) (Rect.unit (s := S128x512) ![0, 0] S128x512.size inb_S128x512_S128x512_0_0).toLoadRect g = _ := (View.readAt_full _ _ _).trans hg
  have e7 : arg7.view.readAt (Elt F) (Rect.unit (s := S4x2) (k0_off18 i) S1x1.size (k0_off18_inb i)).toLoadRect (harg7.unread x4) (Shape.Idx.first (numel1_S1x1.symm ▸ Nat.one_pos)) = vs0 i x4 := harg7.readAt_unread _ _ _
  iapply Hk $$ [H4 H11 H6 H7 H8 H12 H13]
  · isplitl [H4]; · iexact H4
    isplitl [H11]; · iexact H11
    isplitl [H6]; · iexact H6
    isplitl [H7]; · iexact H7
    isplitl [H8]; · iexact H8
    isplitl [H12]; · iexists _; iexact H12
    iexists _; iexact H13
  · ipureintro
    exact congrArg₂ (k0_pay46 _) eg e7

set_option maxHeartbeats 1000000 in
/-- The fifth part: it stores the first group's half of the result, and runs over the chunks of the second key head. -/
theorem part5_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (v29 : FVec F S64x16x128 .f32) (v85 : FVec F S64x16x1 .f32) (v87 : FVec F S64x16x1 .f32) (v163 : FVec F S64x8x128 .bf16) (v164 : Vec F S1x64x8x128 .bf16)
    (K : Vec F S1x2x4096x128 .fp8e4m3) (S : Vec F S2x4096x128 .f32) (f8) (E : Set ℕ) (Φ : _ → sProp 𝕄) :
    iprop((arg4.view.loc (c : Thread nD τ) ↦[arg4.view.set]{fullShare} harg4.unread K) ∗ (arg11.view.loc (c : Thread nD τ) ↦[arg11.view.set]{fullShare} harg11.unread S) ∗ (arg8.view.loc (c : Thread nD τ) ↦[arg8.view.set]{fullShare} f8) ∗ (∃ f, (arg12.view.loc (c : Thread nD τ) ↦[arg12.view.set]{fullShare} f)) ∗ (∃ g, (arg13.view.loc (c : Thread nD τ) ↦[arg13.view.set]{fullShare} g))
        ∗ (iprop((arg4.view.loc (c : Thread nD τ) ↦[arg4.view.set]{fullShare} harg4.unread K) ∗ (arg11.view.loc (c : Thread nD τ) ↦[arg11.view.set]{fullShare} harg11.unread S) ∗ (∃ f, ⌜∀ (y : S1x64x16x128.Idx) (h : (y 2).val < 8), arg8.view.read (Elt F) f y = k0_pay47 v163 (ix4 (y 0) (y 1) ⟨(y 2).val, h⟩ (y 3))⌝ ∗ (arg8.view.loc (c : Thread nD τ) ↦[arg8.view.set]{fullShare} f)) ∗ (∃ f, ⌜Held arg12 f (T v4 n (k0_pay48 v29 v87) K S 1) ((n + 511) / 512)⌝ ∗ (arg12.view.loc (c : Thread nD τ) ↦[arg12.view.set]{fullShare} f)) ∗ (∃ g, (arg13.view.loc (c : Thread nD τ) ↦[arg13.view.set]{fullShare} g)))
            -∗ Φ ⟨k0_pay49 v85, k0_pay63 v85 (mx (T v4 n (k0_pay48 v29 v87) K S 1) ((n + 511) / 512)), k0_pay64 (F := F)⟩))
      ⊢ wp frame (wpE (defs₀ (F := F)) Variants.none c none) E (k0_part5 (F := F) i tbM0_0 htbM0_0 arg3 harg3 arg4 harg4 arg5 harg5 arg6 harg6 arg7 harg7 arg8 harg8 arg9 harg9 arg10 harg10 arg11 harg11 arg12 harg12 arg13 harg13 v4 k0_hw1 (nfw v4) (ncw v4) v29 v85 v87 v163 v164) Φ := by
  have e7 := hl.t7.1; have e9 := hl.t9.1
  have enc : n / 512 + ((n + 511) / 512 - n / 512) = (n + 511) / 512 := by have := hl.nf_le_nc; omega
  rw [k0_part5_eq_skeleton]; unfold k0_part5_skel
  iintro ⟨H4, H11, H8, ⟨%f0, H12⟩, ⟨%g0, H13⟩, Hk⟩
  sl_exec (disch := exact k0_hw1)
  sl_for (InvM c harg4 harg11 arg12 K S (T v4 n (k0_pay48 v29 v87) K S 1) 0) $$ [H4 H11 H12]
  case region => intro k acc; exact trip7 c hl i _ _ _ _ _ _ _ _ _ _ _ _ _ _ _ _ _ _ _ _ _ _ _ _ k0_hw1 v29 v85 v87 v163 v164 K S k acc E
  · unfold InvM
    isplitl [H4]; · iexact H4
    isplitl [H11]; · iexact H11
    isplitl [H12]
    · iexists _; isplitr; swap; · iexact H12
      ipureintro; exact Held.zero _ _ _
    · ipureintro; rfl
  iintro %acc HI
  unfold InvM
  icases HI with ⟨H4, H11, ⟨%f, %hf, H12⟩, %ha⟩
  have e7' : 0 + Scf.trips (k0_t7_loop v4).lb (k0_t7_loop v4).ub (k0_t7_loop v4).st = n / 512 := (Nat.zero_add _).trans e7
  rw [e7'] at hf ha
  subst ha
  sl_exec (disch := exact k0_hw1)
  sl_for (InvM c harg4 harg11 arg12 K S (T v4 n (k0_pay48 v29 v87) K S 1) (n / 512)) $$ [H4 H11 H12]
  case region => intro k acc; exact trip9 c hl i _ _ _ _ _ _ _ _ _ _ _ _ _ _ _ _ _ _ _ _ _ _ _ _ k0_hw1 v29 v85 v87 v163 v164 K S k acc E
  · unfold InvM
    isplitl [H4]; · iexact H4
    isplitl [H11]; · iexact H11
    isplitl [H12]
    · iexists _; isplitr; swap; · iexact H12
      ipureintro; exact hf
    · ipureintro; rfl
  iintro %acc HI
  unfold InvM
  icases HI with ⟨H4, H11, ⟨%f', %hf', H12⟩, %ha⟩
  rw [show Scf.trips (k0_t9_loop v4).lb (k0_t9_loop v4).ub (k0_t9_loop v4).st = (n + 511) / 512 - n / 512 from e9, enc] at hf' ha
  subst ha
  sl_exec (disch := exact k0_hw1)
  sl_step
  iapply Hk
  isplitl [H4]; · iexact H4
  isplitl [H11]; · iexact H11
  isplitl [H8]
  · iexists _; isplitr; swap; · iexact H8
    ipureintro; exact writes_lo arg8 f8 _
  isplitl [H12]
  · iexists _; isplitr; swap; · iexact H12
    ipureintro; exact hf'
  · iexists _; iexact H13

/-- What is left of the body after its parts. -/
def rest (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (v4 : BitVec 32) (k0_hw1 : k0_chk1 v4) (v184 : FVec F S1x512 .f32) (v204 : FVec F S1x512 .f32) (v208 : FVec F S128x512 .f32) :
    Prog (TpuEff nD τ sig (Elt F) Λ₀ .tc) PUnit := do
    Prog.lift (.store arg13 (Rect.unit (s := S128x512) ![0, 0] S128x512.size inb_S128x512_S128x512_0_0) v208 Finset.univ (View.stores_vmem_bits_univ h_S128x512 rfl) (.inl rfl))

    let v215 : FVec F S8x512 .f32 ← Scf.Loop.for (k0_t11_loop v4) (k0_t11_ok v4 k0_hw1) (k0_pay1 (F := F)) (k0_t11_body i tbM0_0 htbM0_0 arg3 harg3 arg4 harg4 arg5 harg5 arg6 harg6 arg7 harg7 arg8 harg8 arg9 harg9 arg10 harg10 arg11 harg11 arg12 harg12 arg13 harg13 v4 k0_hw1 v184 v204)
    let v216 : FVec F S8x512 .f32 ← Scf.Loop.for (k0_t12_loop v4) (k0_t12_ok v4 k0_hw1) v215 (k0_t12_body i tbM0_0 htbM0_0 arg3 harg3 arg4 harg4 arg5 harg5 arg6 harg6 arg7 harg7 arg8 harg8 arg9 harg9 arg10 harg10 arg11 harg11 arg12 harg12 arg13 harg13 v4 k0_hw1 v184 v204)

    let v219 : Vec F S128x512 .f32 ← Prog.lift (.load arg13 (Rect.unit (s := S128x512) ![0, 0] S128x512.size inb_S128x512_S128x512_0_0).toLoadRect (View.loadsAt_vmem h_S128x512))

    let v221 : Elt F .f32 ← smemLoad arg7 (Rect.unit (s := S4x2) (k0_off35 i) S1x1.size (k0_off35_inb i)) numel1_S1x1 rfl
    let v229 : Vec F S1x64x8x128 .bf16 ← Prog.lift (.load arg8 (Rect.unit (s := S1x64x16x128) ![0, 0, 8, 0] S1x64x8x128.size inb_S1x64x16x128_S1x64x8x128_0_0_8_0).toLoadRect (View.loadsAt_vmem h_S1x64x8x128))

    Prog.lift (.store arg8 (Rect.unit (s := S1x64x16x128) ![0, 0, 8, 0] S1x64x8x128.size inb_S1x64x16x128_S1x64x8x128_0_0_8_0) (k0_pay8 v216 v219 v221) Finset.univ (View.stores_vmem h_S1x64x8x128 (harg8.storeExact_slice rfl _ packedbf16_S1x64x16x128_S1x64x8x128_0_0_8_0) (fun _ => rfl)) (.inl rfl))
    pure ⟨⟩

set_option maxHeartbeats 1000000 in
/-- The rest of the body: the sums over the chunks of the second key head, and the second group's half of the result. -/
theorem rest_run (c : Dev nD) {v4 : BitVec 32} {n : ℕ} (hl : Len v4 n) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (k0_hw1 : k0_chk1 v4)
    (v184 : FVec F S1x512 .f32) (v204 : FVec F S1x512 .f32) (t : ℕ → FVec F S512x512 .f32)
    (V : Vec F S1x2x128x4096 .fp8e4m3) (x4 : Vec F S4x2 .f32) (A : FVec F S1x64x8x128 .bf16) (Y : FVec F S1x64x16x128 .bf16)
    (f8 : arg8.view.ty.Contents (Elt F)) (h8 : ∀ (y : S1x64x16x128.Idx) (h : (y 2).val < 8), arg8.view.read (Elt F) f8 y = A (ix4 (y 0) (y 1) ⟨(y 2).val, h⟩ (y 3)))
    (hA : ∀ (y : S1x64x16x128.Idx) (h : (y 2).val < 8), Y y = A (ix4 (y 0) (y 1) ⟨(y 2).val, h⟩ (y 3)))
    (hB : ∀ (y : S1x64x16x128.Idx) (h : ¬ (y 2).val < 8), Y y = k0_pay8 (ls v184 v204 t ((n + 511) / 512)) (os v184 v204 t V 1 ((n + 511) / 512)) (vs1 i x4) (ix4 (y 0) (y 1) ⟨(y 2).val - 8, by have : (y 2).val < 16 := (y 2).isLt; omega⟩ (y 3)))
    (E : Set ℕ) (Φ : _ → sProp 𝕄) :
    iprop((arg6.view.loc (c : Thread nD τ) ↦[arg6.view.set]{fullShare} harg6.unread V) ∗ (arg7.view.loc (c : Thread nD τ) ↦[arg7.view.set]{fullShare} harg7.unread x4) ∗ (arg8.view.loc (c : Thread nD τ) ↦[arg8.view.set]{fullShare} f8) ∗ (∃ f, ⌜Held arg12 f t ((n + 511) / 512)⌝ ∗ (arg12.view.loc (c : Thread nD τ) ↦[arg12.view.set]{fullShare} f)) ∗ (∃ g, (arg13.view.loc (c : Thread nD τ) ↦[arg13.view.set]{fullShare} g))
        ∗ (iprop((arg6.view.loc (c : Thread nD τ) ↦[arg6.view.set]{fullShare} harg6.unread V) ∗ (arg7.view.loc (c : Thread nD τ) ↦[arg7.view.set]{fullShare} harg7.unread x4) ∗ (∃ f, ⌜arg8.view.read (Elt F) f = Y⌝ ∗ (arg8.view.loc (c : Thread nD τ) ↦[arg8.view.set]{fullShare} f)) ∗ (∃ f, (arg12.view.loc (c : Thread nD τ) ↦[arg12.view.set]{fullShare} f)) ∗ (∃ g, (arg13.view.loc (c : Thread nD τ) ↦[arg13.view.set]{fullShare} g)))
            -∗ Φ PUnit.unit))
      ⊢ wp frame (wpE (defs₀ (F := F)) Variants.none c none) E (rest (F := F) i arg3 harg3 arg4 harg4 arg5 harg5 arg6 harg6 arg7 harg7 arg8 harg8 arg9 harg9 arg10 harg10 arg11 harg11 arg12 harg12 arg13 harg13 v4 k0_hw1 v184 v204 (k0_pay64 (F := F))) Φ := by
  have e11 := hl.t11.1
  unfold rest
  iintro ⟨H6, H7, H8, ⟨%f', %hf', H12⟩, ⟨%g0, H13⟩, Hk⟩
  sl_exec (disch := exact k0_hw1)
  sl_for (InvS c harg6 arg12 arg13 V f' v184 v204 t 1) $$ [H6 H12 H13]
  case region => intro k acc; exact trip11 c hl i _ _ _ _ _ _ _ _ _ _ _ _ _ _ _ _ _ _ _ _ _ _ _ _ k0_hw1 v184 v204 V f' t hf' k acc E
  · unfold InvS
    isplitl [H6]; · iexact H6
    isplitl [H12]; · iexact H12
    isplitl [H13]
    · iexists _; isplitr; swap; · iexact H13
      ipureintro; exact View.read_writes_full _ _ _ _ _
    · ipureintro; rfl
  iintro %acc HI
  unfold InvS
  icases HI with ⟨H6, H12, ⟨%g, %hg, H13⟩, %ha⟩
  rw [show Scf.trips (k0_t11_loop v4).lb (k0_t11_loop v4).ub (k0_t11_loop v4).st = (n + 511) / 512 from e11] at hg ha
  subst ha
  sl_exec (disch := exact k0_hw1)
  sl_step
  have eg : arg13.view.readAt (Elt F) (Rect.unit (s := S128x512) ![0, 0] S128x512.size inb_S128x512_S128x512_0_0).toLoadRect g = _ := (View.readAt_full _ _ _).trans hg
  have e7 : arg7.view.readAt (Elt F) (Rect.unit (s := S4x2) (k0_off35 i) S1x1.size (k0_off35_inb i)).toLoadRect (harg7.unread x4) (Shape.Idx.first (numel1_S1x1.symm ▸ Nat.one_pos)) = vs1 i x4 := harg7.readAt_unread _ _ _
  iapply Hk
  isplitl [H6]; · iexact H6
  isplitl [H7]; · iexact H7
  isplitl [H8]
  · iexists _; isplitr; swap; · iexact H8
    ipureintro
    refine writes_hi arg8 f8 A _ Y h8 hA fun y h => ?_
    rw [hB y h]
    exact (congrFun (congrArg₂ (k0_pay8 _) eg e7) _).symm
  isplitl [H12]; · iexists _; iexact H12
  iexists _; iexact H13

end Cert.KernelIdeal.Blk

end
-- ==== Proof.KernelIdeal.Body.lean ====
/-
  The run of the whole body: what it leaves in the staging buffers of the three results and in the key scales.
-/
module

public import proofs.«01_k».proof.Proof.KernelIdeal.Parts
public import Idealize.ShloMosaic.Lib.VecWindow
public import Idealize.ShloMosaic.Lib.WholeRead
public import Idealize.ShloMosaic.Lib.LoopRemainder

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem part2_run (c : Dev nD) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole) (v34 : FVec F S64x16x1 .f32) (v35 v36 : IVec S64x16x1 32) (E : Set ℕ) (Φ : _ → sProp 𝕄) :
    Φ ⟨k0_pay16 v34 v35 v36, k0_pay17 v34 v35 v36, k0_pay18 v34 v35 v36⟩
      ⊢ wp frame (wpE (defs₀ (F := F)) Variants.none c none) E (k0_part2 (F := F) i tbM0_0 htbM0_0 arg3 harg3 arg4 harg4 arg5 harg5 arg6 harg6 arg7 harg7 arg8 harg8 arg9 harg9 arg10 harg10 arg11 harg11 arg12 harg12 arg13 harg13 v34 v35 v36) Φ := by
  rw [k0_part2_eq_skeleton]; unfold k0_part2_skel
  iintro H
  sl_step
  iexact H

set_option maxHeartbeats 1000000 in
/-- One run of the body, from any staging buffers. -/
theorem body_run (c : Dev nD) (i : grid0.Coords) (arg3 : Memref sig .tc .vmem S1x64x16x128 .bf16) (harg3 : arg3.IsWhole) (arg4 : Memref sig .tc .vmem S1x2x4096x128 .fp8e4m3) (harg4 : arg4.IsWhole) (arg5 : Memref sig .tc .vmem S1x2x4096x128 .f32) (harg5 : arg5.IsWhole) (arg6 : Memref sig .tc .vmem S1x2x128x4096 .fp8e4m3) (harg6 : arg6.IsWhole) (arg7 : Memref sig .tc .smem S4x2 .f32) (harg7 : arg7.IsWhole) (arg8 : Memref sig .tc .vmem S1x64x16x128 .bf16) (harg8 : arg8.IsWhole) (arg9 : Memref sig .tc .vmem S1x64x16x128 .fp8e4m3) (harg9 : arg9.IsWhole) (arg10 : Memref sig .tc .vmem S1x64x16 .f32) (harg10 : arg10.IsWhole) (arg11 : Memref sig .tc .vmem S2x4096x128 .f32) (harg11 : arg11.IsWhole) (arg12 : Memref sig .tc .vmem S4096x512 .f32) (harg12 : arg12.IsWhole) (arg13 : Memref sig .tc .vmem S128x512 .f32) (harg13 : arg13.IsWhole)
    (x0 : Vec F S1x64x16x128 .bf16) (x1 : Vec F S1x2x4096x128 .fp8e4m3) (x2 : Vec F S1x2x4096x128 .f32) (x3 : Vec F S1x2x128x4096 .fp8e4m3) (x4 : Vec F S4x2 .f32) (xt0 : TbBuf0 (F := F) c tbM0_0)
    {n : ℕ} (hl : Len (wd c i xt0) n) (P : sProp 𝕄)
    (hP : (cond0_0 i ∧ P = iprop(∃ f, (arg11.view.loc (c : Thread nD τ) ↦[arg11.view.set]{fullShare} f))) ∨ (¬ cond0_0 i ∧ P = (arg11.view.loc (c : Thread nD τ) ↦[arg11.view.set]{fullShare} harg11.unread (ksv x2))))
    (E : Set ℕ) (Φ : _ → sProp 𝕄) :
    iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ P ∗ (∃ f, (arg12.view.loc (c : Thread nD τ) ↦[arg12.view.set]{fullShare} f)) ∗ (∃ f, (arg13.view.loc (c : Thread nD τ) ↦[arg13.view.set]{fullShare} f)) ∗ tbPt0 c tbM0_0 xt0
        ∗ (iprop((arg3.view.loc (c : Thread nD τ) ↦[arg3.view.set]{fullShare} harg3.unread x0) ∗ (arg4.view.loc (c : Thread nD τ) ↦[arg4.view.set]{fullShare} harg4.unread x1) ∗ (arg5.view.loc (c : Thread nD τ) ↦[arg5.view.set]{fullShare} harg5.unread x2) ∗ (arg6.view.loc (c : Thread nD τ) ↦[arg6.view.set]{fullShare} harg6.unread x3) ∗ (arg7.view.loc (c : Thread nD τ) ↦[arg7.view.set]{fullShare} harg7.unread x4) ∗ (∃ f, ⌜arg8.view.read (Elt F) f = ob (wd c i xt0) n x0 x1 (ksv x2) x3 (vs0 i x4) (vs1 i x4)⌝ ∗ (arg8.view.loc (c : Thread nD τ) ↦[arg8.view.set]{fullShare} f)) ∗ (∃ f, ⌜arg9.view.read (Elt F) f = qc x0⌝ ∗ (arg9.view.loc (c : Thread nD τ) ↦[arg9.view.set]{fullShare} f)) ∗ (∃ f, ⌜arg10.view.read (Elt F) f = qs x0⌝ ∗ (arg10.view.loc (c : Thread nD τ) ↦[arg10.view.set]{fullShare} f)) ∗ (arg11.view.loc (c : Thread nD τ) ↦[arg11.view.set]{fullShare} harg11.unread (ksv x2)) ∗ (∃ f, (arg12.view.loc (c : Thread nD τ) ↦[arg12.view.set]{fullShare} f)) ∗ (∃ f, (arg13.view.loc (c : Thread nD τ) ↦[arg13.view.set]{fullShare} f)) ∗ tbPt0 c tbM0_0 xt0)
            -∗ Φ PUnit.unit))
      ⊢ wp frame (wpE (defs₀ (F := F)) Variants.none c none) E (cc0_gqa_fp8 (F := F) i tbM0_0 htbM0_0 arg3 harg3 arg4 harg4 arg5 harg5 arg6 harg6 arg7 harg7 arg8 harg8 arg9 harg9 arg10 harg10 arg11 harg11 arg12 harg12 arg13 harg13) Φ := by
  rw [cc0_gqa_fp8_eq_skeleton]; unfold cc0_gqa_fp8_skel
  rw [wp_bind]
  iintro ⟨H3, H4, H5, H6, H7, ⟨%f8, H8⟩, H9, H10, HP, H12, H13, HT, Hk⟩
  iapply (part1_run c i arg3 harg3 arg4 harg4 arg5 harg5 arg6 harg6 arg7 harg7 arg8 harg8 arg9 harg9 arg10 harg10 arg11 harg11 arg12 harg12 arg13 harg13 x0 x2 xt0 hl.chk P hP E)
  isplitl [H3]; · iexact H3
  isplitl [H5]; · iexact H5
  isplitl [HP]; · iexact HP
  isplitl [HT]; · iexact HT
  iintro %z ⟨%hz, H3, H5, H11, HT⟩
  subst hz
  dsimp only
  rw [wp_bind]
  iapply (part2_run c i arg3 harg3 arg4 harg4 arg5 harg5 arg6 harg6 arg7 harg7 arg8 harg8 arg9 harg9 arg10 harg10 arg11 harg11 arg12 harg12 arg13 harg13 (k0_pay12 x0) k0_pay13 k0_pay14 E)
  dsimp only
  rw [wp_bind]
  iapply (part3_run c hl i arg3 harg3 arg4 harg4 arg5 harg5 arg6 harg6 arg7 harg7 arg8 harg8 arg9 harg9 arg10 harg10 arg11 harg11 arg12 harg12 arg13 harg13 hl.chk (k0_pay11 x0) (isc x0) (zer x0) (sc x0) x1 (ksv x2) E)
  isplitl [H4]; · iexact H4
  isplitl [H11]; · iexact H11
  isplitl [H9]; · iexact H9
  isplitl [H10]; · iexact H10
  isplitl [H12]; · iexact H12
  iintro %w ⟨H4, H11, H9, H10, H12⟩
  dsimp only
  rw [wp_bind]
  iapply (part4_run c hl i arg3 harg3 arg4 harg4 arg5 harg5 arg6 harg6 arg7 harg7 arg8 harg8 arg9 harg9 arg10 harg10 arg11 harg11 arg12 harg12 arg13 harg13 hl.chk (BitVec.ofNat 32 (i 0).val) (qh0 x0) (qr0 x0) w 1#32 x1 (ksv x2) x3 x4 f8 E)
  isplitl [H4]; · iexact H4
  isplitl [H11]; · iexact H11
  isplitl [H6]; · iexact H6
  isplitl [H7]; · iexact H7
  isplitl [H8]; · iexact H8
  isplitl [H12]; · iexact H12
  isplitl [H13]; · iexact H13
  iintro ⟨H4, H11, H6, H7, H8, H12, H13⟩ %z %hz
  obtain ⟨z1, z2⟩ := z
  obtain rfl : z1 = _ := hz
  dsimp only
  rw [wp_bind]
  iapply (part5_run c hl i arg3 harg3 arg4 harg4 arg5 harg5 arg6 harg6 arg7 harg7 arg8 harg8 arg9 harg9 arg10 harg10 arg11 harg11 arg12 harg12 arg13 harg13 hl.chk (k0_pay11 x0) (sc x0) (k0_pay19 (isc x0) (zer x0)) _ z2 x1 (ksv x2) f8 E)
  isplitl [H4]; · iexact H4
  isplitl [H11]; · iexact H11
  isplitl [H8]; · iexact H8
  isplitl [H12]; · iexact H12
  isplitl [H13]; · iexact H13
  iintro ⟨H4, H11, ⟨%g8, %h8, H8⟩, H12, H13⟩
  dsimp only
  iapply (rest_run c hl i arg3 harg3 arg4 harg4 arg5 harg5 arg6 harg6 arg7 harg7 arg8 harg8 arg9 harg9 arg10 harg10 arg11 harg11 arg12 harg12 arg13 harg13 hl.chk (qr1 x0) (k0_pay37 (qr1 x0) (mx (T1 (wd c i xt0) n x0 x1 (ksv x2)) ((n + 511) / 512))) (T1 (wd c i xt0) n x0 x1 (ksv x2)) x3 x4 _ (ob (wd c i xt0) n x0 x1 (ksv x2) x3 (vs0 i x4) (vs1 i x4)) g8 h8 (fun y h => dif_pos h) (fun y h => dif_neg h) E)
  isplitl [H6]; · iexact H6
  isplitl [H7]; · iexact H7
  isplitl [H8]; · iexact H8
  isplitl [H12]; · iexact H12
  isplitl [H13]; · iexact H13
  iintro ⟨H6, H7, H8, H12, H13⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact HT

end Cert.KernelIdeal.Blk

end
-- ==== Proof.KernelIdeal.Blocks.lean ====
/-
  The blocks of the inputs, read at an index of their arrays.
-/
module

public import proofs.«01_k».proof.Proof.KernelIdeal.Runs
public import Idealize.ShloMosaic.Lib.ValueIdx

@[expose] public section

set_option maxRecDepth 16384

noncomputable section

namespace Cert.KernelIdeal.Blk

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]
variable (m : (ℓ : Loc nD τ sig) → Buf (Elt F) ℓ)

/-- The two grid coordinates of a point. -/
theorem coord0 : ∀ t : Fin grid0.N, (grid0.coords t 0).val = t.val / 256 := by decide +kernel
theorem coord1 : ∀ t : Fin grid0.N, (grid0.coords t 1).val = t.val % 256 := by decide +kernel

theorem tr0 : ∀ t : Fin grid0.N, cc0_transform_0 (grid0.coords t) = ![t.val / 256, t.val % 256, 0, 0] := by decide +kernel
theorem tr1 : ∀ t : Fin grid0.N, cc0_transform_1 (grid0.coords t) = ![t.val / 256, 0, 0, 0] := by decide +kernel
theorem tr2 : ∀ t : Fin grid0.N, cc0_transform_2 (grid0.coords t) = ![t.val / 256, 0, 0, 0] := by decide +kernel
theorem tr3 : ∀ t : Fin grid0.N, cc0_transform_3 (grid0.coords t) = ![t.val / 256, 0, 0, 0] := by decide +kernel
theorem tr5 : ∀ t : Fin grid0.N, cc0_transform_5 (grid0.coords t) = ![t.val / 256, t.val % 256, 0, 0] := by decide +kernel
theorem tr6 : ∀ t : Fin grid0.N, cc0_transform_6 (grid0.coords t) = ![t.val / 256, t.val % 256, 0, 0] := by decide +kernel
theorem tr7 : ∀ t : Fin grid0.N, cc0_transform_7 (grid0.coords t) = ![t.val / 256, t.val % 256, 0] := by decide +kernel

theorem lt_N {t : ℕ} (h : t < grid0.N) : t < 1024 := lt_of_lt_of_eq h (by decide)

/-- The sequence a point works on, and the token its row is. -/
def bt (t : Fin grid0.N) : Fin 4 := ⟨t.val / 256, by have := lt_N t.isLt; omega⟩
def tok (t : Fin grid0.N) (r : Fin 64) : Fin 16384 := ⟨t.val % 256 * 64 + r.val, by have := r.isLt; omega⟩

theorem iblk_0 (hO : Ok m) (c : Dev nD) (t : Fin (cfgM m hO).N) (y : S1x64x16x128.Idx) :
    iblk m hO c 0 t y = V m c main_arg0 (ix4 (bt t) (tok t (y 1)) (y 2) (y 3)) := by
  refine congrArg (V m c main_arg0) (funext fun a => Fin.ext ?_)
  have e := tr0 t
  fin_cases a
  · show cc0_transform_0 (grid0.coords t) 0 * 1 + 1 * (y 0).val = t.val / 256
    have : (y 0).val < 1 := (y 0).isLt
    rw [e]; show t.val / 256 * 1 + 1 * (y 0).val = t.val / 256; omega
  · show cc0_transform_0 (grid0.coords t) 1 * 64 + 1 * (y 1).val = _
    rw [e]; show t.val % 256 * 64 + 1 * (y 1).val = t.val % 256 * 64 + (y 1).val; omega
  · show cc0_transform_0 (grid0.coords t) 2 * 16 + 1 * (y 2).val = (y 2).val
    rw [e]; show 0 * 16 + 1 * (y 2).val = (y 2).val; omega
  · show cc0_transform_0 (grid0.coords t) 3 * 128 + 1 * (y 3).val = (y 3).val
    rw [e]; show 0 * 128 + 1 * (y 3).val = (y 3).val; omega

theorem iblk_1 (hO : Ok m) (c : Dev nD) (t : Fin (cfgM m hO).N) (y : S1x2x4096x128.Idx) :
    iblk m hO c 1 t y = V m c main_arg1 (ix4 (bt t) (y 1) (y 2) (y 3)) := by
  refine congrArg (V m c main_arg1) (funext fun a => Fin.ext ?_)
  have e := tr1 t
  fin_cases a
  · show cc0_transform_1 (grid0.coords t) 0 * 1 + 1 * (y 0).val = t.val / 256
    have : (y 0).val < 1 := (y 0).isLt
    rw [e]; show t.val / 256 * 1 + 1 * (y 0).val = t.val / 256; omega
  · show cc0_transform_1 (grid0.coords t) 1 * 2 + 1 * (y 1).val = _
    rw [e]; show 0 * 2 + 1 * (y 1).val = (y 1).val; omega
  · show cc0_transform_1 (grid0.coords t) 2 * 4096 + 1 * (y 2).val = (y 2).val
    rw [e]; show 0 * 4096 + 1 * (y 2).val = (y 2).val; omega
  · show cc0_transform_1 (grid0.coords t) 3 * 128 + 1 * (y 3).val = (y 3).val
    rw [e]; show 0 * 128 + 1 * (y 3).val = (y 3).val; omega

theorem iblk_2 (hO : Ok m) (c : Dev nD) (t : Fin (cfgM m hO).N) (y : S1x2x4096x128.Idx) :
    iblk m hO c 2 t y = V m c main_v2 (ix4 (bt t) (y 1) (y 2) (y 3)) := by
  refine congrArg (V m c main_v2) (funext fun a => Fin.ext ?_)
  have e := tr2 t
  fin_cases a
  · show cc0_transform_2 (grid0.coords t) 0 * 1 + 1 * (y 0).val = t.val / 256
    have : (y 0).val < 1 := (y 0).isLt
    rw [e]; show t.val / 256 * 1 + 1 * (y 0).val = t.val / 256; omega
  · show cc0_transform_2 (grid0.coords t) 1 * 2 + 1 * (y 1).val = _
    rw [e]; show 0 * 2 + 1 * (y 1).val = (y 1).val; omega
  · show cc0_transform_2 (grid0.coords t) 2 * 4096 + 1 * (y 2).val = (y 2).val
    rw [e]; show 0 * 4096 + 1 * (y 2).val = (y 2).val; omega
  · show cc0_transform_2 (grid0.coords t) 3 * 128 + 1 * (y 3).val = (y 3).val
    rw [e]; show 0 * 128 + 1 * (y 3).val = (y 3).val; omega

theorem iblk_3 (hO : Ok m) (c : Dev nD) (t : Fin (cfgM m hO).N) (y : S1x2x128x4096.Idx) :
    iblk m hO c 3 t y = V m c main_v0 (ix4 (bt t) (y 1) (y 2) (y 3)) := by
  refine congrArg (V m c main_v0) (funext fun a => Fin.ext ?_)
  have e := tr3 t
  fin_cases a
  · show cc0_transform_3 (grid0.coords t) 0 * 1 + 1 * (y 0).val = t.val / 256
    have : (y 0).val < 1 := (y 0).isLt
    rw [e]; show t.val / 256 * 1 + 1 * (y 0).val = t.val / 256; omega
  · show cc0_transform_3 (grid0.coords t) 1 * 2 + 1 * (y 1).val = _
    rw [e]; show 0 * 2 + 1 * (y 1).val = (y 1).val; omega
  · show cc0_transform_3 (grid0.coords t) 2 * 128 + 1 * (y 2).val = (y 2).val
    rw [e]; show 0 * 128 + 1 * (y 2).val = (y 2).val; omega
  · show cc0_transform_3 (grid0.coords t) 3 * 4096 + 1 * (y 3).val = (y 3).val
    rw [e]; show 0 * 4096 + 1 * (y 3).val = (y 3).val; omega

theorem iblk_4 (hO : Ok m) (c : Dev nD) (t : Fin (cfgM m hO).N) (y : S4x2.Idx) : iblk m hO c 4 t y = V m c main_arg4 y := by
  refine congrArg (V m c main_arg4) (funext fun a => Fin.ext ?_)
  fin_cases a
  · show 0 * 4 + 1 * (y 0).val = (y 0).val; omega
  · show 0 * 2 + 1 * (y 1).val = (y 1).val; omega

/-- Inside a sequence the block of the key scales stays. -/
theorem iblk_2_pred (hO : Ok m) (c : Dev nD) (t t' : Fin (cfgM m hO).N) (h : t'.val / 256 = t.val / 256) : iblk m hO c 2 t' = iblk m hO c 2 t := by
  have e : bt t' = bt t := Fin.ext h
  funext (y : S1x2x4096x128.Idx)
  have h1 := iblk_2 m hO c t' y
  rw [e] at h1
  exact h1.trans (iblk_2 m hO c t y).symm

end Cert.KernelIdeal.Blk

end
-- ==== Proof.KernelIdeal.Frame.lean ====
/-
  The whole run: what each point leaves in the results' staging buffers and in the key scales, the run of the program
  over all points, and that it leaves its arguments as they were.
-/
module

public import proofs.«01_k».proof.Proof.KernelIdeal.Body
public import proofs.«01_k».proof.Proof.KernelIdeal.Blocks
public import Idealize.ShloMosaic.Lib.Claim
public import Idealize.ShloMosaic.Lib.VecWindow
public import Idealize.ShloMosaic.Lib.WholeRead
public import Idealize.ShloMosaic.Lib.LoopRemainder

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The length a point's body reads, as a word and as a number. -/
def wdAt (c : Dev nD) (t : Fin grid0.N) : BitVec 32 := wd c (grid0.coords t) (tbl m 0)
def lenAt (c : Dev nD) (t : Fin grid0.N) : ℕ := (wdAt m c t).toNat

/-- Every length is at most the number of keys. -/
def Lens : Prop := ∀ (c : Dev nD) (t : Fin grid0.N), Len (wdAt m c t) (lenAt m c t)

/-- What a point leaves in the staging buffers of the three results. -/
def outO (hO : Ok m) (c : Dev nD) (t : Fin (cfgM m hO).N) : Vec F S1x64x16x128 .bf16 :=
  ob (wdAt m c t) (lenAt m c t) (iblk m hO c 0 t) (iblk m hO c 1 t) (ksv (iblk m hO c 2 t)) (iblk m hO c 3 t) (vs0 (grid0.coords t) (iblk m hO c 4 t)) (vs1 (grid0.coords t) (iblk m hO c 4 t))
def outC (hO : Ok m) (c : Dev nD) (t : Fin (cfgM m hO).N) : Vec F S1x64x16x128 .fp8e4m3 := qc (iblk m hO c 0 t)
def outS (hO : Ok m) (c : Dev nD) (t : Fin (cfgM m hO).N) : Vec F S1x64x16 .f32 := qs (iblk m hO c 0 t)
/-- What it leaves in the key scales. -/
def keyS (hO : Ok m) (c : Dev nD) (t : Fin (cfgM m hO).N) : Vec F S2x4096x128 .f32 := ksv (iblk m hO c 2 t)

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (keyS m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare (keyS m hO c ⟨n, hn⟩) ∗ (∃ d, owns (c : Thread nD τ) scM0_1 fullShare d) ∗ (∃ d, owns (c : Thread nD τ) scM0_2 fullShare d)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare (keyS m hO c ⟨n - 1, by omega⟩) ∗ (∃ d, owns (c : Thread nD τ) scM0_1 fullShare d) ∗ (∃ d, owns (c : Thread nD τ) scM0_2 fullShare d)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outO m hO c t
    | ⟨6, _⟩ => outC m hO c t
    | ⟨7, _⟩ => outS m hO c t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = outO m hO c t := by dsimp only [dats]; try rfl
theorem after0_6 (hO : Ok m) (c : Dev nD) (t : Fin (cfgM m hO).N) : (dats m hO 0 c).after 6 t = outC m hO c t := by dsimp only [dats]; try rfl
theorem after0_7 (hO : Ok m) (c : Dev nD) (t : Fin (cfgM m hO).N) : (dats m hO 0 c).after 7 t = outS m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t))

theorem owns_any (c : Dev nD) (M : Memref sig .tc .vmem S2x4096x128 .f32) (X : Vec F S2x4096x128 .f32) :
    owns (c : Thread nD τ) M fullShare X ⊢ (iprop(∃ f, (M.view.loc (c : Thread nD τ) ↦[M.view.set]{fullShare} f)) : sProp 𝕄) := by
  unfold owns
  iintro ⟨%f, %hf, H⟩
  iexists _; iexact H

theorem owns_whole_unread (c : Dev nD) (M : Memref sig .tc .vmem S2x4096x128 .f32) (h : M.IsWhole) (X : Vec F S2x4096x128 .f32) :
    owns (c : Thread nD τ) M fullShare X ⊢ ((M.view.loc (c : Thread nD τ) ↦[M.view.set]{fullShare} h.unread X) : sProp 𝕄) := by
  unfold owns
  iintro ⟨%f, %hf, H⟩
  obtain rfl := h.eq_unread hf
  iexact H

set_option maxHeartbeats 1600000 in
/-- The body at any point. -/
theorem sound_body (hL : Lens m) (hO : Ok m) (c : Dev nD) (t : Fin (cfgM m hO).N) :
    bodyPre m hO c t ⊢ wp frame (wpE (defs₀ (F := F)) Variants.none c none) Set.univ (bodyAt0 (adm m hO) t) (fun _ => bodyPost m hO c t) := by
  have hN : t.val < 1024 := lt_N t.isLt
  suffices h : ∀ P : sProp 𝕄, ((cond0_0 (grid0.coords t) ∧ P = iprop(∃ f, (scM0_0.view.loc (c : Thread nD τ) ↦[scM0_0.view.set]{fullShare} f))) ∨ (¬ cond0_0 (grid0.coords t) ∧ P = (scM0_0.view.loc (c : Thread nD τ) ↦[scM0_0.view.set]{fullShare} (Memref.isWhole_whole cc0_scratch0 : scM0_0.IsWhole).unread (ksv (iblk m hO c 2 t))))) →
      iprop(P ∗ (∃ d, owns (c : Thread nD τ) scM0_1 fullShare d) ∗ (∃ d, owns (c : Thread nD τ) scM0_2 fullShare d) ∗ (∃ r, prngReg c r) ∗ tbPt0 c tbM0_0 (tbl m 0) ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))
      ⊢ wp frame (wpE (defs₀ (F := F)) Variants.none c none) Set.univ (bodyAt0 (adm m hO) t) (fun _ => bodyPost m hO c t) by
    unfold bodyPre
    by_cases hz : t.val = 0
    · rw [PhiS_castSucc m hO c t, PhiS_zero m hO c _ _ hz, PhiT0_eq, PhiA0_eq]
      iintro ⟨⟨⟨⟨⟨%d, HS0⟩, HS1, HS2⟩, Hg⟩, HT0⟩, Hr⟩
      iapply (h _ (.inl ⟨(hcond0_0 t).mpr (by omega), rfl⟩))
      isplitl [HS0]; · iapply (owns_any c _ _); iexact HS0
      isplitl [HS1]; · iexact HS1
      isplitl [HS2]; · iexact HS2
      isplitl [Hg]; · iexact Hg
      isplitl [HT0]; · iexact HT0
      iexact Hr
    · rw [PhiS_castSucc m hO c t, PhiS_pos m hO c _ _ hz, PhiT0_eq]
      iintro ⟨⟨⟨⟨HS0, HS1, HS2⟩, Hg⟩, HT0⟩, Hr⟩
      by_cases h0 : t.val % 256 = 0
      · iapply (h _ (.inl ⟨(hcond0_0 t).mpr h0, rfl⟩))
        isplitl [HS0]; · iapply (owns_any c _ _); iexact HS0
        isplitl [HS1]; · iexact HS1
        isplitl [HS2]; · iexact HS2
        isplitl [Hg]; · iexact Hg
        isplitl [HT0]; · iexact HT0
        iexact Hr
      · iapply (h _ (.inr ⟨fun e => h0 ((hcond0_0 t).mp e), rfl⟩))
        unfold keyS
        rw [iblk_2_pred m hO c t ⟨t.val - 1, by omega⟩ (by show (t.val - 1) / 256 = t.val / 256; omega)]
        isplitl [HS0]; · iapply (owns_whole_unread c _ _ _); iexact HS0
        isplitl [HS1]; · iexact HS1
        isplitl [HS2]; · iexact HS2
        isplitl [Hg]; · iexact Hg
        isplitl [HT0]; · iexact HT0
        iexact Hr
  intro P hP
  unfold bodyPost bodyAt0
  simp only [before0_0, before0_1, before0_2, before0_3, before0_4]
  rw [show (dats m hO 0 c).owesAt () t.succ = (dats m hO 0 c).owesAt () t.castSucc from rfl,
    after0_0, after0_1, after0_2, after0_3, after0_4, after0_5, after0_6, after0_7]
  rw [show (dats m hO 0 c).Φ t.succ = PhiS m hO c (t.val + 1) t.isLt from rfl, PhiS_succ, PhiT0_eq]
  unfold owns
  iintro ⟨HP, ⟨%s1, ⟨%e1, -, HS1⟩⟩, ⟨%s2, ⟨%e2, -, HS2⟩⟩, Hg, HT0, Ho, ⟨%d0, ⟨%f0, %h0, H0⟩⟩, ⟨%d1, ⟨%f1, %h1, H1⟩⟩, ⟨%d2, ⟨%f2, %h2, H2⟩⟩, ⟨%d3, ⟨%f3, %h3, H3⟩⟩, ⟨%d4, ⟨%f4, %h4, H4⟩⟩, ⟨%d5, ⟨%f5, -, H5⟩⟩, ⟨%d6, ⟨%f6, -, H6⟩⟩, ⟨%d7, ⟨%f7, -, H7⟩⟩⟩
  obtain rfl := (hs0_0 m hO t).eq_unread h0
  obtain rfl := (hs0_1 m hO t).eq_unread h1
  obtain rfl := (hs0_2 m hO t).eq_unread h2
  obtain rfl := (hs0_3 m hO t).eq_unread h3
  obtain rfl := (hs0_4 m hO t).eq_unread h4
  iapply (body_run c (grid0.coords t) _ (hs0_0 m hO t) _ (hs0_1 m hO t) _ (hs0_2 m hO t) _ (hs0_3 m hO t) _ (hs0_4 m hO t) _ (hs0_5 m hO t) _ (hs0_6 m hO t) _ (hs0_7 m hO t) scM0_0 (Memref.isWhole_whole _) scM0_1 (Memref.isWhole_whole _) scM0_2 (Memref.isWhole_whole _) (iblk m hO c 0 t) (iblk m hO c 1 t) (iblk m hO c 2 t) (iblk m hO c 3 t) (iblk m hO c 4 t) (tbl m 0) (hL c t) P hP Set.univ)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HP]; · iexact HP
  isplitl [HS1]; · iexists _; iexact HS1
  isplitl [HS2]; · iexists _; iexact HS2
  isplitl [HT0]; · iexact HT0
  iintro ⟨H0, H1, H2, H3, H4, H5, H6, H7, HS0, ⟨%e1, HS1⟩, ⟨%e2, HS2⟩, HT0⟩
  isplitl [HS0 HS1 HS2 Hg HT0]
  · isplitl [HS0 HS1 HS2 Hg]
    · isplitl [HS0 HS1 HS2]
      · isplitl [HS0]
        · iexists _; isplitr; swap; · iexact HS0
          ipureintro; exact (Memref.isWhole_whole cc0_scratch0 : scM0_0.IsWhole).read_unread _
        isplitl [HS1]
        · iexists _; iexists _; isplitr; swap; · iexact HS1
          ipureintro; rfl
        · iexists _; iexists _; isplitr; swap; · iexact HS2
          ipureintro; rfl
      iexact Hg
    iexact HT0
  isplitl [Ho]; · iexact Ho
  isplitl [H0]
  · iexists _; isplitr; swap; · iexact H0
    ipureintro; exact (hs0_0 m hO t).read_unread _
  isplitl [H1]
  · iexists _; isplitr; swap; · iexact H1
    ipureintro; exact (hs0_1 m hO t).read_unread _
  isplitl [H2]
  · iexists _; isplitr; swap; · iexact H2
    ipureintro; exact (hs0_2 m hO t).read_unread _
  isplitl [H3]
  · iexists _; isplitr; swap; · iexact H3
    ipureintro; exact (hs0_3 m hO t).read_unread _
  isplitl [H4]
  · iexists _; isplitr; swap; · iexact H4
    ipureintro; exact (hs0_4 m hO t).read_unread _
  isplitl [H5]; · iexact H5
  isplitl [H6]; · iexact H6
  iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hL : Lens m) (hO : Ok m) (c : Dev nD) : BodyObligation (dats (F := F) m hO 0 c) (defs₀ (F := F)) Variants.none () Set.univ := fun t => by
  rw [bigSep_W0, bigSep_W0, defs₀_row m hO]
  exact triple_restated (sound_body m hL hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexact HS1
    iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 1024 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hL : Lens m) (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hL hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hL : Lens m) (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hL hO)

/-- `frame` without the counters: the argument arrays end unchanged. -/
theorem unchanged (hL : Lens m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hL hO)

/-- The program ends, with its arguments as they were. -/
theorem frame (hL : Lens m) (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hL hO) ((θ_run defs _ _).mono (fun _ h => h.2) (run_main_quiescent m ρ hL hO))

end Cert.KernelIdeal.Blk

end
-- ==== Proof.KernelIdeal.Lens.lean ====
/-
  The body's side condition, from the precondition: the length a point reads is one of the lengths.
-/
module

public import proofs.«01_k».proof.Proof.KernelIdeal.Frame

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No block is taken from where a table says, so the tables meet no condition. -/
theorem ok : Ok m := trivial

/-- The word a point reads is the length of its batch. -/
theorem wdAt_eq (c : Dev nD) (t : Fin grid0.N) : wdAt m c t = m ((c : Thread nD τ).loc main_arg5) (ix1 (bt t)) := by
  obtain rfl : c = 0 := Subsingleton.elim _ _
  rw [← V_main_arg5 m 0]
  show V m 0 main_arg5 _ = _
  congr 1
  funext a
  apply Fin.ext
  obtain rfl : a = (0 : Fin 1) := Subsingleton.elim (α := Fin 1) _ _
  show (k0_off1 (grid0.coords t)) 0 + 1 * 0 = _
  have h : ∀ t : Fin grid0.N, (k0_off1 (grid0.coords t)) 0 + 1 * 0 = t.val / 256 := by decide +kernel
  exact h t

/-- Lengths of at most the number of keys are such at every point. -/
theorem lens (h : ∀ (c : Dev nD) i, (m ((c : Thread nD τ).loc main_arg5) i).toNat ≤ 4096) : Lens m := fun c t => by
  have := wdAt_eq m c t
  refine ⟨?_, ?_⟩
  · rw [lenAt]; simp
  · rw [lenAt, this]; exact h c _

end Cert.KernelIdeal.Blk

end
-- ==== Proof.Frames.lean ====
/-
  The claims on the programs themselves: each terminates without a fault and leaves its arguments as they were, and the
  kernel's named constants are the reals they were computed from.
-/
module

public import proofs.«01_k».proof.Defs
public import proofs.«01_k».proof.Proof.Pre
public import proofs.«01_k».proof.Proof.Kernel.Lens
public import proofs.«01_k».proof.Proof.KernelIdeal.Lens
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_pre

@[expose] public section

noncomputable section

namespace Cert.Proof

open Idealize.ShloMosaic Idealize.SL.Sem

/-- The kernel runs and leaves its arguments. -/
theorem frame_p : Cert.quiescent_Kernel := fun m ρ h =>
  Cert.Kernel.Blk.frame m ρ (Cert.Kernel.Blk.lens m fun c => (Cert.PreFacts.decode (h c)).2) (Cert.Kernel.Blk.ok m)

/-- So does its idealization. -/
theorem frame_pi : Cert.quiescent_KernelIdeal := fun m ρ h =>
  Cert.KernelIdeal.Blk.frame m ρ (Cert.KernelIdeal.Blk.lens m fun c => (Cert.PreFacts.decode (h c)).2) (Cert.KernelIdeal.Blk.ok m)

/-- So does the reference, from any arguments. -/
theorem frame_ri : Cert.quiescent_ReferenceIdeal := fun m ρ _ => Cert.ReferenceIdeal.Gen.frame m ρ

/-- And from those of the kernel's claims. -/
theorem frame_ri_pre : Cert.quiescent_ReferenceIdeal_pre_pre := fun m ρ _ => Cert.ReferenceIdeal.Gen.frame m ρ

/-- The named constant is the real it was computed from. -/
theorem preserves : Cert.preserves_Kernel_KernelIdeal :=
  IdealRules.named_const.statement Cert.KernelIdeal.κ "softmax_scale_log2e" .f32 0x3E0293EE#32 (((Real.sqrt 128)⁻¹ * (Real.log 2)⁻¹ : ℝ) : EReal) rfl

end Cert.Proof

end
-- ==== Proof.Scale.lean ====
/-
  The query scale as a power of two, in two ways: found by halving the range of float words, as the kernel
  finds it, and as `2 ^ (⌊log₂ r⌋ + 1)`, as the reference states it. Extended reals; no program.
-/
module

public import Idealize.ShloMosaic.PureOps.Ideal
public import Mathlib.Analysis.SpecialFunctions.Pow.Real
public import Mathlib.Analysis.SpecialFunctions.Log.Basic

@[expose] public section

noncomputable section

namespace Cert.Scale

open Idealize.ShloMosaic

/-- The float whose exponent field is `m` and whose fraction is zero. -/
def v (m : ℕ) : EReal := Ideal.ofBits .f32 (BitVec.ofNat 32 (m * 2 ^ 23))

private theorem field_ex : ∀ m : Fin 256, ((BitVec.ofNat 32 (m.val * 2 ^ 23)).extractLsb' 23 8).toNat = m.val := by decide +kernel
private theorem field_fr : ∀ m : Fin 256, ((BitVec.ofNat 32 (m.val * 2 ^ 23)).extractLsb' 0 23).toNat = 0 := by decide +kernel
private theorem field_sg : ∀ m : Fin 256, ((BitVec.ofNat 32 (m.val * 2 ^ 23)).extractLsb' 31 1 == 1#1) = false := by decide +kernel

/-- A field strictly between zero and all ones is a power of two. -/
theorem v_pow (m : ℕ) (h0 : 1 ≤ m) (h1 : m ≤ 254) : v m = (((2 : ℝ) ^ ((m : ℤ) - 127) : ℝ) : EReal) := by
  have hx := field_ex ⟨m, by omega⟩
  have hf := field_fr ⟨m, by omega⟩
  have hs := field_sg ⟨m, by omega⟩
  simp only at hx hf hs
  simp only [v, Ideal.ofBits, Ideal.ieee]
  rw [show (8 + 23 : ℕ) = 31 from rfl, hs, hx, hf, if_neg (by omega), if_neg (by omega)]
  congr 1
  simp only [Bool.false_eq_true, if_false, one_mul, add_zero]
  rw [show (((2 ^ 23 : ℕ) : ℝ)) = (2 : ℝ) ^ (23 : ℤ) by norm_num, ← zpow_add₀ (by norm_num)]
  congr 1
  norm_num

theorem v_zero : v 0 = 0 := by simp [v, Ideal.ofBits, Ideal.ieee]
theorem v_top : v 255 = ⊤ := by
  have hx := field_ex ⟨255, by omega⟩
  have hf := field_fr ⟨255, by omega⟩
  have hs := field_sg ⟨255, by omega⟩
  simp only at hx hf hs
  simp only [v, Ideal.ofBits, Ideal.ieee]
  rw [show (8 + 23 : ℕ) = 31 from rfl, hs, hx, hf]
  simp

theorem sel_one {α : Type} (a b : α) : Scalar.select 1#1 a b = a := if_pos rfl
theorem sel_zero {α : Type} (a b : α) : Scalar.select 0#1 a b = b := if_neg (by decide)
theorem cmp_lt {a b : EReal} (h : a < b) : Ideal.cmp .olt a b = 1#1 := by simp only [Ideal.cmp, h, decide_true]; rfl
theorem cmp_not_lt {a b : EReal} (h : ¬ a < b) : Ideal.cmp .olt a b = 0#1 := by simp only [Ideal.cmp, h, decide_false]; rfl

/-- The least normal number. -/
theorem tiny : Ideal.ofBits .f32 0x00800000#32 = v 1 := congrArg (Ideal.ofBits .f32) (by decide +kernel)

/-- One halving: the step `s` is taken unless the float it leads to is above `r`. -/
def step (r : EReal) (f s : BitVec 32) : BitVec 32 :=
  Scalar.select (Ideal.cmp .olt r (Ideal.ofBits .f32 (IntOp.addi f s))) f (IntOp.addi f s)

/-- The exponent field of `r`, by eight halvings. -/
def srch (r : EReal) : BitVec 32 :=
  step r (step r (step r (step r (step r (step r (step r (step r 0#32 1073741824#32) 536870912#32) 268435456#32) 134217728#32) 67108864#32) 33554432#32) 16777216#32) 8388608#32

/-- What a halving keeps: `r` is between the field found and the field `w` further on. -/
def Inv (r : EReal) (f : BitVec 32) (w : ℕ) : Prop :=
  ∃ m, f = BitVec.ofNat 32 (m * 2 ^ 23) ∧ v m ≤ r ∧ m + w ≤ 256 ∧ (m + w = 256 ∨ r < v (m + w))

theorem step_inv (r : EReal) (f : BitVec 32) (w : ℕ) (s : BitVec 32) (hs : s = BitVec.ofNat 32 (w * 2 ^ 23)) (h : Inv r f (2 * w)) : Inv r (step r f s) w := by
  obtain ⟨m, rfl, h1, h2, h3⟩ := h
  subst hs
  have ha : IntOp.addi (BitVec.ofNat 32 (m * 2 ^ 23)) (BitVec.ofNat 32 (w * 2 ^ 23)) = BitVec.ofNat 32 ((m + w) * 2 ^ 23) := by
    show BitVec.ofNat 32 _ + BitVec.ofNat 32 _ = _
    rw [← BitVec.ofNat_add, ← Nat.add_mul]
  unfold step
  rw [ha]
  by_cases hlt : r < v (m + w)
  · refine ⟨m, ?_, h1, by omega, Or.inr hlt⟩
    unfold v at hlt
    rw [cmp_lt hlt, sel_one]
  · refine ⟨m + w, ?_, not_lt.1 hlt, by omega, ?_⟩
    · unfold v at hlt
      rw [cmp_not_lt hlt, sel_zero]
    · rcases h3 with h | h
      · left; omega
      · right; rw [show m + w + w = m + 2 * w by ring]; exact h

/-- The field found: `r` lies between it and the next one. -/
theorem srch_inv (r : EReal) (h : 0 ≤ r) : Inv r (srch r) 1 := by
  unfold srch
  refine step_inv r _ 1 _ (by decide +kernel) (step_inv r _ 2 _ (by decide +kernel) (step_inv r _ 4 _ (by decide +kernel) (step_inv r _ 8 _ (by decide +kernel) (step_inv r _ 16 _ (by decide +kernel) (step_inv r _ 32 _ (by decide +kernel) (step_inv r _ 64 _ (by decide +kernel) (step_inv r _ 128 _ (by decide +kernel) ?_)))))))
  exact ⟨0, rfl, by rw [v_zero]; exact h, by omega, Or.inl rfl⟩

/-- For a number below `2 ^ 120` the field found is at most 246. -/
theorem srch_spec (r : EReal) (h0 : 0 ≤ r) (h1 : r < (((2 : ℝ) ^ (120 : ℤ) : ℝ) : EReal)) :
    ∃ m, m ≤ 246 ∧ srch r = BitVec.ofNat 32 (m * 2 ^ 23) ∧ v m ≤ r ∧ r < v (m + 1) := by
  obtain ⟨m, hm, h2, h3, h4⟩ := srch_inv r h0
  have hb : m ≤ 246 := by
    by_contra hc
    by_cases h5 : m = 255
    · subst h5; rw [v_top] at h2; exact absurd (lt_of_le_of_lt h2 h1) (not_lt.2 le_top)
    · rw [v_pow m (by omega) (by omega)] at h2
      have h6 := lt_of_le_of_lt h2 h1
      rw [EReal.coe_lt_coe_iff] at h6
      have h7 := (zpow_lt_zpow_iff_right₀ (by norm_num : (1 : ℝ) < 2)).1 h6
      omega
  refine ⟨m, hb, hm, h2, ?_⟩
  rcases h4 with h | h
  · omega
  · exact h

/-- The kernel's scale and its inverse. -/
def kscl (r : EReal) : EReal := Scalar.select (IntOp.cmpi .eq (srch r) 0#32) 1 (Ideal.ofBits .f32 (IntOp.addi (srch r) 8388608#32))
def kinv (r : EReal) : EReal := Scalar.select (IntOp.cmpi .eq (srch r) 0#32) 1 (Ideal.ofBits .f32 (IntOp.subi 2122317824#32 (srch r)))

/-- The reference's exponent. -/
def rexp (r : EReal) : EReal :=
  Scalar.select (Ideal.cmp .olt r (Ideal.ofBits .f32 0x00800000#32)) 0 (Ideal.liftRound Int.floor (Ideal.log r * (((Real.log 2)⁻¹ : ℝ) : EReal)) + 1)

private theorem field_add : ∀ m : Fin 256, IntOp.addi (BitVec.ofNat 32 (m.val * 2 ^ 23)) 8388608#32 = BitVec.ofNat 32 ((m.val + 1) * 2 ^ 23) := by decide +kernel
private theorem field_sub : ∀ m : Fin 254, IntOp.subi 2122317824#32 (BitVec.ofNat 32 (m.val * 2 ^ 23)) = BitVec.ofNat 32 ((253 - m.val) * 2 ^ 23) := by decide +kernel
private theorem field_eq : ∀ m : Fin 256, (IntOp.cmpi .eq (BitVec.ofNat 32 (m.val * 2 ^ 23)) 0#32 = 1#1) ↔ m.val = 0 := by decide +kernel

/-- Where the field is not zero the reference's exponent is the field's, one up. -/
theorem rexp_eq (r : EReal) (m : ℕ) (hm : 1 ≤ m) (hb : m ≤ 246) (h1 : v m ≤ r) (h2 : r < v (m + 1)) : rexp r = (((m : ℤ) - 126 : ℤ) : ℝ) := by
  rw [v_pow m hm (by omega)] at h1
  rw [v_pow (m + 1) (by omega) (by omega)] at h2
  have hpos : (0 : ℝ) < 2 ^ ((m : ℤ) - 127) := by positivity
  induction r with
  | bot => exact absurd h1 (by simp)
  | top => exact absurd h2 (by simp)
  | coe ρ =>
    rw [EReal.coe_le_coe_iff] at h1
    rw [EReal.coe_lt_coe_iff] at h2
    have hρ : 0 < ρ := lt_of_lt_of_le hpos h1
    have hl2 : 0 < Real.log 2 := Real.log_pos (by norm_num)
    have hlo : ((m : ℝ) - 127) * Real.log 2 ≤ Real.log ρ := by
      have := Real.log_le_log hpos h1
      rw [Real.log_zpow] at this
      push_cast at this
      exact this
    have hhi : Real.log ρ < ((m : ℝ) - 126) * Real.log 2 := by
      have := Real.log_lt_log hρ h2
      rw [Real.log_zpow] at this
      push_cast at this
      linarith
    have hfl : ⌊Real.log ρ * (Real.log 2)⁻¹⌋ = (m : ℤ) - 127 := by
      rw [Int.floor_eq_iff]
      push_cast
      rw [← div_eq_mul_inv]
      constructor
      · rw [le_div_iff₀ hl2]; exact hlo
      · rw [div_lt_iff₀ hl2]; linarith
    have hn : ¬ ((ρ : EReal) < Ideal.ofBits .f32 0x00800000#32) := by
      rw [tiny, v_pow 1 le_rfl (by omega), EReal.coe_lt_coe_iff, not_lt]
      refine le_trans (zpow_le_zpow_right₀ (by norm_num) ?_) h1
      omega
    unfold rexp
    rw [cmp_not_lt hn, sel_zero, Ideal.log_coe, if_neg (not_le.2 hρ), ← EReal.coe_mul, Ideal.liftRound_coe, hfl, ← EReal.coe_one, ← EReal.coe_add]
    congr 1
    push_cast
    ring

/-- Where the field is zero the reference's exponent is zero. -/
theorem rexp_zero (r : EReal) (h : r < v 1) : rexp r = 0 := by
  unfold rexp
  rw [cmp_lt (by rw [tiny]; exact h), sel_one]

private theorem exp2_int (k : ℤ) : Ideal.exp2 ((k : ℝ) : EReal) = (((2 : ℝ) ^ k : ℝ) : EReal) := by
  rw [Ideal.exp2_coe]
  congr 1
  exact Real.rpow_intCast 2 k

/-- The kernel's scale is the reference's, its inverse is the reference's, and the scale is a positive number. -/
theorem scale_eq (r : EReal) (h0 : 0 ≤ r) (h1 : r < (((2 : ℝ) ^ (120 : ℤ) : ℝ) : EReal)) :
    kscl r = Ideal.exp2 (rexp r) ∧ kinv r = Ideal.exp2 (0 - rexp r) ∧ ∃ c : ℝ, 0 < c ∧ Ideal.exp2 (rexp r) = (c : EReal) := by
  obtain ⟨m, hb, hm, h2, h3⟩ := srch_spec r h0 h1
  unfold kscl kinv
  rw [hm]
  by_cases hz : m = 0
  · subst hz
    have he : Ideal.exp2 (0 : EReal) = 1 := by
      have := exp2_int 0
      simpa using this
    rw [rexp_zero r h3, (field_eq ⟨0, by omega⟩).2 rfl, sub_zero, he]
    exact ⟨sel_one _ _, sel_one _ _, 1, one_pos, rfl⟩
  · have hc : IntOp.cmpi .eq (BitVec.ofNat 32 (m * 2 ^ 23)) 0#32 = 0#1 := by
      have h := (field_eq ⟨m, by omega⟩).not.2 hz
      revert h
      generalize IntOp.cmpi .eq (BitVec.ofNat 32 (m * 2 ^ 23)) 0#32 = b
      revert b; decide
    have hadd := field_add ⟨m, by omega⟩
    have hsub := field_sub ⟨m, by omega⟩
    simp only at hadd hsub
    rw [rexp_eq r m (by omega) hb h2 h3, hc, hadd, hsub, ← EReal.coe_zero, ← EReal.coe_sub, show (0 : ℝ) - (((m : ℤ) - 126 : ℤ) : ℝ) = ((126 - (m : ℤ) : ℤ) : ℝ) by push_cast; ring, exp2_int, exp2_int]
    refine ⟨?_, ?_, _, zpow_pos (by norm_num) _, rfl⟩
    · rw [sel_zero]
      change v (m + 1) = _
      rw [v_pow (m + 1) (by omega) (by omega)]
      congr 2
      push_cast; ring
    · rw [sel_zero]
      change v (253 - m) = _
      rw [v_pow (253 - m) (by omega) (by omega)]
      congr 2
      omega

/-- The number a row's scale is taken from: the row's greatest magnitude, times the reciprocal of 448 as a float. -/
def rr (q : Fin 128 → EReal) : EReal := Finset.univ.fold max (Ideal.ofBits .f32 0xFF800000#32) (fun d => max (q d) (-(q d))) * Ideal.ofBits .f32 0x3B124925#32

/-- One code: the entry times the inverse of the scale, kept within ±448. -/
def code (x i : EReal) : EReal := min (Ideal.ofBits .f32 0x43E00000#32) (max (Ideal.ofBits .f32 0xC3E00000#32) (x * i))

theorem neg_inf : Ideal.ofBits .f32 0xFF800000#32 = (⊥ : EReal) := by simp [Ideal.ofBits, Ideal.ieee]

end Cert.Scale

end
-- ==== Proof.Softmax.lean ====
/-
  One query row of the attention, on the extended reals: the sums over chunks of weights in base two, shifted by 8
  and scaled by the row's query scale, are the sums over all positions of the weights in base e, times 256. No program.
-/
module

public import Idealize.ShloMosaic.PureOps.Ideal
public import Idealize.ShloMosaic.Lib.Pointwise.Sums
public import Mathlib.Analysis.SpecialFunctions.Pow.Real
public import Mathlib.Analysis.SpecialFunctions.Log.Basic

@[expose] public section

noncomputable section

namespace Cert.Softmax

open Idealize.ShloMosaic

/-- The base-two factor of the scores. -/
def L : EReal := (((Real.log 2)⁻¹ : ℝ) : EReal)

theorem log2_pos : (0 : ℝ) < (Real.log 2)⁻¹ := inv_pos.2 (Real.log_pos (by norm_num))

/-- A weight in base two, shifted by 8, is 256 times the weight in base e. -/
theorem weight_eq (s M : EReal) : Ideal.exp2 (s * L - (M * L - ((8 : ℝ) : EReal))) = Ideal.exp (s - M) * ((256 : ℝ) : EReal) := by
  have hl := log2_pos
  have h256 : (0 : ℝ) < 256 := by norm_num
  unfold L
  induction s with
  | bot => simp [EReal.bot_mul_coe_of_pos hl]
  | top =>
    induction M with
    | bot => simp [EReal.bot_mul_coe_of_pos hl, EReal.top_mul_coe_of_pos hl, EReal.top_mul_coe_of_pos h256]
    | top => simp [EReal.top_mul_coe_of_pos hl]
    | coe M =>
      rw [EReal.top_mul_coe_of_pos hl, ← EReal.coe_mul, ← EReal.coe_sub, EReal.top_sub_coe, EReal.top_sub_coe, Ideal.exp2_top, Ideal.exp_top, EReal.top_mul_coe_of_pos h256]
  | coe s =>
    induction M with
    | bot =>
      rw [EReal.bot_mul_coe_of_pos hl, EReal.bot_sub, EReal.coe_sub_bot, ← EReal.coe_mul, EReal.coe_sub_bot, Ideal.exp2_top, Ideal.exp_top, EReal.top_mul_coe_of_pos h256]
    | top =>
      rw [EReal.top_mul_coe_of_pos hl, EReal.top_sub_coe, EReal.sub_top, EReal.sub_top, Ideal.exp2_bot, Ideal.exp_bot, zero_mul]
    | coe M =>
      rw [← EReal.coe_mul, ← EReal.coe_mul, ← EReal.coe_sub, ← EReal.coe_sub, ← EReal.coe_sub, Ideal.exp2_coe, Ideal.exp_coe, ← EReal.coe_mul]
      congr 1
      have h2 : (Real.log 2) ≠ 0 := (Real.log_pos (by norm_num)).ne'
      show (2 : ℝ) ^ (s * (Real.log 2)⁻¹ - (M * (Real.log 2)⁻¹ - 8)) = _
      rw [Real.rpow_def_of_pos (by norm_num), show Real.log 2 * (s * (Real.log 2)⁻¹ - (M * (Real.log 2)⁻¹ - 8)) = (s - M) + Real.log 2 * 8 by field_simp; ring, Real.exp_add]
      congr 1
      rw [← Real.rpow_def_of_pos (by norm_num)]
      norm_num

/-- Weights are not negative. -/
theorem exp_nonneg (x : EReal) : 0 ≤ Ideal.exp x := by
  induction x with
  | bot => simp
  | top => simp
  | coe x => rw [Ideal.exp_coe, ← EReal.coe_zero, EReal.coe_le_coe_iff]; exact (Real.exp_pos x).le

/-- A sum of numbers that are not negative, times a number. -/
theorem sum_mul {ι : Type} (S : Finset ι) (f : ι → EReal) (h : ∀ i, 0 ≤ f i) (c : EReal) : ∑ i ∈ S, f i * c = (∑ i ∈ S, f i) * c := by
  classical
  induction S using Finset.induction_on with
  | empty => simp
  | insert a S ha ih =>
    rw [Finset.sum_insert ha, Finset.sum_insert ha, ih, EReal.right_distrib_of_nonneg (h a) (Finset.sum_nonneg fun i _ => h i)]

/-- Dividing by 256 times a sum is dividing a 256th by the sum. -/
theorem div_256 (x l : EReal) : Ideal.div x (l * ((256 : ℝ) : EReal)) = Ideal.div (((256 : ℝ)⁻¹ : ℝ) * x) l := by
  have h256 : (0 : ℝ) < 256⁻¹ := by norm_num
  unfold Ideal.div
  by_cases hl : l = 0
  · subst hl
    rw [zero_mul, if_pos rfl, if_pos rfl]
    congr 1
    rw [eq_iff_iff]
    induction x with
    | bot => rw [EReal.coe_mul_bot_of_pos h256]
    | top => rw [EReal.coe_mul_top_of_pos h256]
    | coe x => rw [← EReal.coe_mul, EReal.coe_pos, EReal.coe_pos]; constructor <;> intro h <;> [positivity; exact (pos_iff_pos_of_mul_pos (by simpa using h)).1 h256]
  · rw [if_neg hl, if_neg (by
      intro h
      rcases mul_eq_zero.1 h with h | h
      · exact hl h
      · norm_num at h), EReal.mul_inv, ← EReal.coe_inv]
    rw [mul_comm l⁻¹, ← mul_assoc, mul_comm x]

/-- Multiplying by a positive number keeps the order of a bound. -/
theorem mul_le_iff (c : ℝ) (hc : 0 < c) (x y : EReal) : x * c ≤ y ↔ x ≤ y * ((c⁻¹ : ℝ) : EReal) := by
  have hi : 0 < c⁻¹ := inv_pos.2 hc
  have e1 : ∀ z : EReal, z * c * ((c⁻¹ : ℝ) : EReal) = z := fun z => by
    rw [mul_assoc, ← EReal.coe_mul, mul_inv_cancel₀ hc.ne', EReal.coe_one, mul_one]
  have e2 : ∀ z : EReal, z * ((c⁻¹ : ℝ) : EReal) * c = z := fun z => by
    rw [mul_assoc, ← EReal.coe_mul, inv_mul_cancel₀ hc.ne', EReal.coe_one, mul_one]
  constructor
  · intro h
    have := mul_le_mul_of_nonneg_right h (by exact_mod_cast hi.le : (0 : EReal) ≤ ((c⁻¹ : ℝ) : EReal))
    rwa [e1] at this
  · intro h
    have := mul_le_mul_of_nonneg_right h (by exact_mod_cast hc.le : (0 : EReal) ≤ (c : EReal))
    rwa [e2] at this

/-- The position `x` of chunk `j`. -/
def pos (j : ℕ) (x : Fin 512) : Fin 4096 := ⟨(512 * j + x.val) % 4096, Nat.mod_lt _ (by norm_num)⟩

/-- The rows of a chunk, eight at a time. -/
theorem sum_groups (f : Fin 512 → EReal) :
    ∑ g : Fin 8, ∑ r : Fin 64, f ⟨r.val * 8 + g.val, by omega⟩ = ∑ x, f x := by
  rw [Finset.sum_comm, Fin.sum_univ_tiles 64 8 (by norm_num) f]

/-- A sum over the first chunks is the sum over all positions of what is zero beyond them. -/
theorem sum_chunks (nc : ℕ) (hnc : nc ≤ 8) (f : ℕ → Fin 512 → EReal) (G : Fin 4096 → EReal) (h : ∀ j, j < nc → ∀ x, f j x = G (pos j x))
    (hz : ∀ k : Fin 4096, 512 * nc ≤ k.val → G k = 0) : ∑ j ∈ Finset.range nc, ∑ x, f j x = ∑ k, G k := by
  rw [Fin.sum_univ_tiles 8 512 (by norm_num) G]
  rw [Finset.sum_congr rfl (fun j hj => Finset.sum_congr rfl fun x _ => h j (Finset.mem_range.1 hj) x)]
  have e : ∀ j : Fin 8, ∑ x : Fin 512, G ⟨j.val * 512 + x.val, by omega⟩ = ∑ x, G (pos j.val x) := fun j =>
    Finset.sum_congr rfl fun x _ => congrArg G (Fin.ext (by simp only [pos]; rw [Nat.mod_eq_of_lt (by omega)]; omega))
  rw [Finset.sum_congr rfl fun j _ => e j, ← Finset.sum_range (fun j => ∑ x, G (pos j x))]
  refine Finset.sum_subset (Finset.range_subset_range.2 hnc) fun j hj hn => Finset.sum_eq_zero fun x _ => hz _ ?_
  have h8 := Finset.mem_range.1 hj
  have hn' : nc ≤ j := by simpa using hn
  simp only [pos]
  rw [Nat.mod_eq_of_lt (by omega)]
  omega

section
variable {nc : ℕ} (hnc : nc ≤ 8) {c : ℝ} (hc : 0 < c) {t : ℕ → Fin 512 → EReal} {s : Fin 4096 → EReal}
  (hts : ∀ j, j < nc → ∀ x, t j x * (c : EReal) = s (pos j x) * L) (hs : ∀ k : Fin 4096, 512 * nc ≤ k.val → s k = ⊥)
  {Mk M : EReal} (hMk : ∀ z, Mk ≤ z ↔ ∀ j, j < nc → ∀ x, t j x ≤ z) (hM : ∀ z, M ≤ z ↔ ∀ k, s k ≤ z)
include hnc hc hts hs hMk hM

/-- The running maximum times the query scale is the maximum of the scores, in base two. -/
theorem max_eq : Mk * (c : EReal) = M * L := by
  have key : ∀ z, Mk * (c : EReal) ≤ z ↔ M * L ≤ z := by
    intro z
    unfold L at *
    rw [mul_le_iff c hc, mul_le_iff _ log2_pos, hMk, hM]
    constructor
    · intro h k
      by_cases hk : k.val < 512 * nc
      · have hp : pos (k.val / 512) ⟨k.val % 512, Nat.mod_lt _ (by norm_num)⟩ = k := Fin.ext (by
          simp only [pos]
          rw [Nat.mod_eq_of_lt (by omega)]; omega)
        have hj : k.val / 512 < nc := by omega
        have h1 := (mul_le_iff c hc _ _).2 (h _ hj ⟨k.val % 512, Nat.mod_lt _ (by norm_num)⟩)
        rw [hts _ hj, hp] at h1
        exact (mul_le_iff _ log2_pos _ _).1 h1
      · rw [hs k (by omega)]; exact bot_le
    · intro h j hj x
      have h1 := (mul_le_iff _ log2_pos _ _).2 (h (pos j x))
      rw [← hts j hj] at h1
      exact (mul_le_iff c hc _ _).1 h1
  exact le_antisymm ((key _).2 le_rfl) ((key _).1 le_rfl)

/-- A weight of the kernel is 256 times the reference's. -/
theorem weight (j : ℕ) (hj : j < nc) (x : Fin 512) :
    Ideal.exp2 (t j x * (c : EReal) - (Mk * (c : EReal) - ((8 : ℝ) : EReal))) = Ideal.exp (s (pos j x) - M) * ((256 : ℝ) : EReal) := by
  rw [max_eq hnc hc hts hs hMk hM, hts j hj, weight_eq]

/-- One result: the kernel's quotient of sums over chunks is the reference's over all positions. -/
theorem row (A B vs : EReal) (hAB : min A (max B 0) = 0) (V : Fin 4096 → EReal) :
    (∑ j ∈ Finset.range nc, ∑ x, V (pos j x) * min A (max B (Ideal.exp2 (t j x * (c : EReal) - (Mk * (c : EReal) - ((8 : ℝ) : EReal))))))
      * Ideal.div vs (∑ g : Fin 8, ∑ j ∈ Finset.range nc, ∑ r : Fin 64, Ideal.exp2 (t j ⟨r.val * 8 + g.val, by omega⟩ * (c : EReal) - (Mk * (c : EReal) - ((8 : ℝ) : EReal))))
    = (∑ k, V k * min A (max B (Ideal.exp (s k - M) * ((256 : ℝ) : EReal)))) * Ideal.div (((256 : ℝ)⁻¹ : ℝ) * vs) (∑ k, Ideal.exp (s k - M)) := by
  have hz : ∀ k : Fin 4096, 512 * nc ≤ k.val → Ideal.exp (s k - M) = 0 := fun k hk => by rw [hs k hk, EReal.bot_sub, Ideal.exp_bot]
  congr 1
  · refine sum_chunks nc hnc _ (fun k => V k * min A (max B (Ideal.exp (s k - M) * ((256 : ℝ) : EReal)))) (fun j hj x => ?_) fun k hk => ?_
    · rw [weight hnc hc hts hs hMk hM j hj]
    · rw [hz k hk, zero_mul, hAB, mul_zero]
  · rw [← div_256]
    congr 1
    rw [Finset.sum_comm]
    rw [Finset.sum_congr rfl fun j _ => sum_groups (fun x => Ideal.exp2 (t j x * (c : EReal) - (Mk * (c : EReal) - ((8 : ℝ) : EReal))))]
    rw [← sum_mul _ _ (fun k => exp_nonneg _)]
    refine sum_chunks nc hnc _ (fun k => Ideal.exp (s k - M) * ((256 : ℝ) : EReal)) (fun j hj x => weight hnc hc hts hs hMk hM j hj x) fun k hk => ?_
    rw [hz k hk, zero_mul]

end

end Cert.Softmax

end
-- ==== Proof.KernelIdeal.Read.lean ====
/-
  The kernel's payloads on the extended reals, read at an index.
-/
module

public import proofs.«01_k».proof.Proof.KernelIdeal.Block
public import proofs.«01_k».proof.Proof.Scale
public import proofs.«01_k».proof.Proof.Softmax
public import Idealize.ShloMosaic.Lib.Pointwise

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic
open Cert.Scale (step srch kscl kinv rr code)

/-- One halving, over a vector. -/
def vstep (v : FVec Ideal S64x16x1 .f32) (f : IVec S64x16x1 32) (s : BitVec 32) : IVec S64x16x1 32 :=
  select (cmpf .olt v (bitcastToFloat .f32 (addi f (broadcast S64x16x1 s)))) f (addi f (broadcast S64x16x1 s))

/-- The exponent fields are found by eight halvings. -/
theorem pay15_eq (v : FVec Ideal S64x16x1 .f32) : k0_pay15 v k0_pay13 k0_pay14 =
    vstep v (vstep v (vstep v (vstep v (vstep v (vstep v (vstep v (vstep v k0_pay13 1073741824#32) 536870912#32) 268435456#32) 134217728#32) 67108864#32) 33554432#32) 16777216#32) 8388608#32 := rfl

theorem vstep_apply (v : FVec Ideal S64x16x1 .f32) (f : IVec S64x16x1 32) (s : BitVec 32) (i : S64x16x1.Idx) (g : BitVec 32) (h : f i = g) :
    vstep v f s i = step (v i) g s := by
  subst h; rfl

/-- The exponent field of one query head. -/
theorem pay15_apply (v : FVec Ideal S64x16x1 .f32) (i : S64x16x1.Idx) : k0_pay15 v k0_pay13 k0_pay14 i = srch (v i) := by
  rw [pay15_eq]
  unfold srch
  exact vstep_apply _ _ _ _ _ (vstep_apply _ _ _ _ _ (vstep_apply _ _ _ _ _ (vstep_apply _ _ _ _ _ (vstep_apply _ _ _ _ _ (vstep_apply _ _ _ _ _
    (vstep_apply _ _ _ _ _ (vstep_apply _ _ _ _ _ rfl)))))))

theorem absf_eq (x : EReal) : FloatOps.absf (F := Ideal) (φ := .f32) x = max x (-x) := rfl

theorem pay11_apply (X : FVec Ideal S1x64x16x128 .bf16) (r : Fin 64) (h : Fin 16) (d : Fin 128) : k0_pay11 (F := Ideal) X (ix3 r h d) = X (ix4 0 r h d) := by
  pointwise [k0_pay11]

/-- The number a query head's scale is taken from. -/
theorem pay12_apply (X : FVec Ideal S1x64x16x128 .bf16) (r : Fin 64) (h : Fin 16) : k0_pay12 (F := Ideal) X (ix3 r h 0) = rr (fun d => X (ix4 0 r h d)) := by
  pointwise [k0_pay12, k0_pay11]
  unfold rr
  simp only [absf_eq]

theorem sc_apply (X : FVec Ideal S1x64x16x128 .bf16) (r : Fin 64) (h : Fin 16) : sc (F := Ideal) X (ix3 r h 0) = kscl (rr (fun d => X (ix4 0 r h d))) := by
  unfold sc
  pointwise [k0_pay18, k0_pay17]
  rw [pay15_apply, pay12_apply]
  rfl

theorem isc_apply (X : FVec Ideal S1x64x16x128 .bf16) (r : Fin 64) (h : Fin 16) :
    Scalar.select (zer (F := Ideal) X (ix3 r h 0)) 1 (isc (F := Ideal) X (ix3 r h 0)) = kinv (rr (fun d => X (ix4 0 r h d))) := by
  unfold zer isc
  pointwise [k0_pay16, k0_pay17]
  rw [pay15_apply, pay12_apply]
  rfl

/-- One query code. -/
theorem qc_apply (X : FVec Ideal S1x64x16x128 .bf16) (r : Fin 64) (h : Fin 16) (d : Fin 128) :
    qc (F := Ideal) X (ix4 0 r h d) = code (X (ix4 0 r h d)) (kinv (rr (fun d => X (ix4 0 r h d)))) := by
  unfold qc
  pointwise [k0_pay20, k0_pay19]
  rw [pay11_apply, isc_apply]
  rfl

/-- One query scale. -/
theorem qs_apply (X : FVec Ideal S1x64x16x128 .bf16) (r : Fin 64) (h : Fin 16) : qs (F := Ideal) X (ix3 0 r h) = kscl (rr (fun d => X (ix4 0 r h d))) := by
  unfold qs
  pointwise [k0_pay21]
  rw [sc_apply]

/-- The token and the head, within a key head's group, of a row of the group. -/
def qt (q : Fin 512) : Fin 64 := ⟨q.val / 8, by omega⟩
def qg (q : Fin 512) : Fin 16 := ⟨q.val % 8, by omega⟩
def qg1 (q : Fin 512) : Fin 16 := ⟨8 + q.val % 8, by omega⟩

theorem qh0_apply (X : FVec Ideal S1x64x16x128 .bf16) (q : Fin 512) (d : Fin 128) :
    qh0 (F := Ideal) X (ix2 q d) = code (X (ix4 0 (qt q) (qg q) d)) (kinv (rr (fun d => X (ix4 0 (qt q) (qg q) d)))) := by
  unfold qh0
  pointwise [k0_pay22, k0_pay19]
  rw [pay11_apply, isc_apply]
  rfl

theorem qh1_apply (X : FVec Ideal S1x64x16x128 .bf16) (q : Fin 512) (d : Fin 128) :
    qh1 (F := Ideal) X (ix2 q d) = code (X (ix4 0 (qt q) (qg1 q) d)) (kinv (rr (fun d => X (ix4 0 (qt q) (qg1 q) d)))) := by
  unfold qh1
  pointwise [k0_pay48, k0_pay19]
  rw [pay11_apply, isc_apply]
  rfl

theorem qr0_apply (X : FVec Ideal S1x64x16x128 .bf16) (q : Fin 512) : qr0 (F := Ideal) X (ix2 0 q) = kscl (rr (fun d => X (ix4 0 (qt q) (qg q) d))) := by
  unfold qr0
  pointwise [k0_pay23]
  rw [sc_apply]
  rfl

theorem qr1_apply (X : FVec Ideal S1x64x16x128 .bf16) (q : Fin 512) : qr1 (F := Ideal) X (ix2 0 q) = kscl (rr (fun d => X (ix4 0 (qt q) (qg1 q) d))) := by
  unfold qr1
  pointwise [k0_pay49]
  rw [sc_apply]
  rfl

/-- One score of a full chunk: the product of the codes, times the key scale. -/
theorem pay28_apply (x : FVec Ideal S512x128 .fp8e4m3) (k : FVec Ideal S1x1x512x128 .fp8e4m3) (s : FVec Ideal S1x512x128 .f32)
    (hs : ∀ r l, s (ix3 0 r l) = s (ix3 0 r 0)) (r q : Fin 512) :
    k0_pay28 (F := Ideal) x k s (ix2 r q) = (∑ d, k (ix4 0 0 r d) * x (ix2 q d)) * s (ix3 0 r 0) := by
  pointwise [k0_pay28]
  congr 1
  split
  · exact hs _ _
  · split
    · exact hs _ _
    · split
      · exact hs _ _
      · exact hs _ _

/-- One score of a chunk cut at the length. -/
theorem cut_apply (v4 b : BitVec 32) (t : FVec Ideal S512x512 .f32) (r q : Fin 512) :
    cut (F := Ideal) v4 b t (ix2 r q) = Scalar.select (IntOp.cmpi .slt (BitVec.ofNat 32 r.val + b * 512#32) v4) (t (ix2 r q)) ⊥ := by
  rw [← Cert.Scale.neg_inf]
  pointwise [cut]
  rfl

/-- The running maximum, a bound at a time. -/
theorem mstep_le (acc : FVec Ideal S8x512 .f32) (t : FVec Ideal S512x512 .f32) (g : Fin 8) (q : Fin 512) (z : EReal) :
    mstep (F := Ideal) acc t (ix2 g q) ≤ z ↔ acc (ix2 g q) ≤ z ∧ ∀ r : Fin 64, t (ix2 ⟨r.val * 8 + g.val, by omega⟩ q) ≤ z := by
  have e : mstep (F := Ideal) acc t (ix2 g q) = max (acc (ix2 g q)) (Finset.univ.fold max (Ideal.ofBits .f32 0xFF800000#32) (fun r : Fin 64 => t (ix2 ⟨r.val * 8 + g.val, by omega⟩ q))) := by
    pointwise [mstep]
  rw [e, max_le_iff, Finset.fold_max_le, Cert.Scale.neg_inf]
  simp

theorem mx_le (t : ℕ → FVec Ideal S512x512 .f32) (g : Fin 8) (q : Fin 512) (z : EReal) (n : ℕ) :
    mx (F := Ideal) t n (ix2 g q) ≤ z ↔ ∀ j, j < n → ∀ r : Fin 64, t j (ix2 ⟨r.val * 8 + g.val, by omega⟩ q) ≤ z := by
  induction n with
  | zero =>
    have e : mx (F := Ideal) t 0 (ix2 g q) = ⊥ := by
      rw [← Cert.Scale.neg_inf]; rfl
    rw [e]; simp
  | succ n ih =>
    rw [show mx (F := Ideal) t (n + 1) = mstep (mx t n) (t n) from rfl, mstep_le, ih]
    constructor
    · rintro ⟨h1, h2⟩ j hj
      rcases Nat.lt_succ_iff_lt_or_eq.1 hj with h | rfl
      · exact h1 j h
      · exact h2
    · intro h
      exact ⟨fun j hj => h j (by omega), h n (by omega)⟩

/-- The running maximum over a row's eight parts. -/
def mk (t : ℕ → FVec Ideal S512x512 .f32) (n : ℕ) (q : Fin 512) : EReal :=
  Finset.univ.fold max (Ideal.ofBits .f32 0xFF800000#32) (fun g : Fin 8 => mx (F := Ideal) t n (ix2 g q))

theorem mk_le (t : ℕ → FVec Ideal S512x512 .f32) (n : ℕ) (q : Fin 512) (z : EReal) :
    mk t n q ≤ z ↔ ∀ j, j < n → ∀ x : Fin 512, t j (ix2 x q) ≤ z := by
  unfold mk
  rw [Finset.fold_max_le, Cert.Scale.neg_inf]
  simp only [bot_le, true_and, Finset.mem_univ, forall_true_left]
  simp only [mx_le]
  constructor
  · intro h j hj x
    have := h ⟨x.val % 8, by omega⟩ j hj ⟨x.val / 8, by omega⟩
    have e : (⟨x.val / 8 * 8 + x.val % 8, by omega⟩ : Fin 512) = x := Fin.ext (by show x.val / 8 * 8 + x.val % 8 = x.val; omega)
    simp only at this
    rw [e] at this
    exact this
  · intro h g j hj r
    exact h j hj _

theorem eight : Ideal.ofBits .f32 0x41000000#32 = ((8 : ℝ) : EReal) := by
  simp [Ideal.ofBits, Ideal.ieee, -EReal.coe_mul]; norm_num

/-- What the weights of a row are shifted by. -/
theorem pay37_apply (t : ℕ → FVec Ideal S512x512 .f32) (n : ℕ) (qr : FVec Ideal S1x512 .f32) (q : Fin 512) :
    k0_pay37 (F := Ideal) qr (mx t n) (ix2 0 q) = mk t n q * qr (ix2 0 q) - ((8 : ℝ) : EReal) := by
  rw [← eight]
  pointwise [k0_pay37]
  rfl

/-- A weight. -/
theorem pay2_apply (a b : FVec Ideal S1x512 .f32) (t : FVec Ideal S512x512 .f32) (r c : Fin 512) :
    k0_pay2 (F := Ideal) a b t (ix2 r c) = Ideal.exp2 (t (ix2 r c) * a (ix2 0 c) - b (ix2 0 c)) := by
  pointwise [k0_pay2]
  rfl

/-- The running sum of the weights. -/
theorem ls_apply (a b : FVec Ideal S1x512 .f32) (t : ℕ → FVec Ideal S512x512 .f32) (g : Fin 8) (q : Fin 512) (n : ℕ) :
    ls (F := Ideal) a b t n (ix2 g q) = ∑ j ∈ Finset.range n, ∑ r : Fin 64, Ideal.exp2 (t j (ix2 ⟨r.val * 8 + g.val, by omega⟩ q) * a (ix2 0 q) - b (ix2 0 q)) := by
  induction n with
  | zero =>
    show k0_pay1 (F := Ideal) (ix2 g q) = _
    pointwise [k0_pay1]
    simp
  | succ n ih =>
    rw [Finset.sum_range_succ, ← ih]
    show k0_pay3 (F := Ideal) a b (ls a b t n) (t n) (ix2 g q) = _
    pointwise [k0_pay3]
    simp only [pay2_apply]

/-- The running sum of the weighted values. -/
theorem os_apply (a b : FVec Ideal S1x512 .f32) (t : ℕ → FVec Ideal S512x512 .f32) (V : Vec Ideal S1x2x128x4096 .fp8e4m3) (k : Fin 2) (d : Fin 128) (q : Fin 512) (n : ℕ) :
    os (F := Ideal) a b t V k n (ix2 d q) = ∑ j ∈ Finset.range n, ∑ x : Fin 512,
      V (ix4 0 k d (Cert.Softmax.pos j x)) * min (Ideal.ofBits .f32 0x43E00000#32) (max (Ideal.ofBits .f32 0xC3E00000#32) (Ideal.exp2 (t j (ix2 x q) * a (ix2 0 q) - b (ix2 0 q)))) := by
  induction n with
  | zero =>
    show k0_pay64 (F := Ideal) (ix2 d q) = _
    pointwise [k0_pay64]
    simp
  | succ n ih =>
    rw [Finset.sum_range_succ, ← ih]
    show k0_pay4 (F := Ideal) a b (t n) (vch V k n) (os a b t V k n) (ix2 d q) = _
    pointwise [k0_pay4]
    simp only [pay2_apply]
    rfl

/-- The row of a group that a token and a head within the group have. -/
def rw8 (r : Fin 64) (g : Fin 8) : Fin 512 := ⟨r.val * 8 + g.val, by omega⟩

/-- One result of a key head's group: a quotient of the sums. -/
theorem oh_apply (n : ℕ) (qr : FVec Ideal S1x512 .f32) (t : ℕ → FVec Ideal S512x512 .f32) (V : Vec Ideal S1x2x128x4096 .fp8e4m3) (a : Fin 2) (vs : EReal)
    (r : Fin 64) (g : Fin 8) (d : Fin 128) :
    oh (F := Ideal) n qr t V a vs (ix4 0 r g d) =
      (∑ j ∈ Finset.range n, ∑ x : Fin 512, V (ix4 0 a d (Cert.Softmax.pos j x)) * min (Ideal.ofBits .f32 0x43E00000#32) (max (Ideal.ofBits .f32 0xC3E00000#32)
        (Ideal.exp2 (t j (ix2 x (rw8 r g)) * qr (ix2 0 (rw8 r g)) - (mk t n (rw8 r g) * qr (ix2 0 (rw8 r g)) - ((8 : ℝ) : EReal))))))
      * Ideal.div vs (∑ g' : Fin 8, ∑ j ∈ Finset.range n, ∑ r' : Fin 64,
        Ideal.exp2 (t j (ix2 ⟨r'.val * 8 + g'.val, by omega⟩ (rw8 r g)) * qr (ix2 0 (rw8 r g)) - (mk t n (rw8 r g) * qr (ix2 0 (rw8 r g)) - ((8 : ℝ) : EReal)))) := by
  unfold oh
  pointwise [k0_pay8]
  simp only [ls_apply, os_apply, pay37_apply]
  rfl

end Cert.KernelIdeal.Blk

end
-- ==== Proof.KernelIdeal.Group.lean ====
/-
  One result of a key head's group, from the rounds over chunks to one softmax over all positions.
-/
module

public import proofs.«01_k».proof.Proof.KernelIdeal.Read
public import Idealize.ShloMosaic.Lib.WordCmp

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic

/-- A position below the length, as words and as numbers. -/
theorem slt_len {v4 : BitVec 32} {n : ℕ} (hl : Len v4 n) (k : Fin 4096) : IntOp.cmpi .slt (BitVec.ofNat 32 k.val) v4 = BitVec.ofBool (decide (k.val < n)) := by
  have h2 := hl.le
  have h3 := k.isLt
  rw [hl.eq, WordCmp.cmpi_slt_ofNat (by omega) (by omega)]

theorem sel_lt {v4 : BitVec 32} {n : ℕ} (hl : Len v4 n) {k : Fin 4096} (h : k.val < n) (x y : EReal) :
    Scalar.select (IntOp.cmpi .slt (BitVec.ofNat 32 k.val) v4) x y = x := by
  rw [slt_len hl, decide_eq_true h]; exact Cert.Scale.sel_one _ _

theorem sel_ge {v4 : BitVec 32} {n : ℕ} (hl : Len v4 n) {k : Fin 4096} (h : ¬ k.val < n) (x y : EReal) :
    Scalar.select (IntOp.cmpi .slt (BitVec.ofNat 32 k.val) v4) x y = y := by
  rw [slt_len hl, decide_eq_false h]; exact Cert.Scale.sel_zero _ _

section
variable (q : FVec Ideal S512x128 .fp8e4m3) (K : Vec Ideal S1x2x4096x128 .fp8e4m3) (S : Vec Ideal S2x4096x128 .f32) (a : Fin 2)

/-- One score of the full chunks. -/
theorem full_apply (hS : ∀ k l, S (ix3 a k l) = S (ix3 a k 0)) (j : ℕ) (x p : Fin 512) :
    k0_pay28 (F := Ideal) q (kch K a j) (sch S a j) (ix2 x p) = (∑ d, K (ix4 0 a (Cert.Softmax.pos j x) d) * q (ix2 p d)) * S (ix3 a (Cert.Softmax.pos j x) 0) :=
  pay28_apply q (kch K a j) (sch S a j) (fun r l => hS (Cert.Softmax.pos j r) l) x p

/-- One score, of any chunk that has a position below the length. -/
theorem T_apply {v4 : BitVec 32} {n : ℕ} (hl : Len v4 n) (hS : ∀ k l, S (ix3 a k l) = S (ix3 a k 0)) (j : ℕ) (hj : j < (n + 511) / 512) (x p : Fin 512) :
    T (F := Ideal) v4 n q K S a j (ix2 x p) = Scalar.select (IntOp.cmpi .slt (BitVec.ofNat 32 (Cert.Softmax.pos j x).val) v4)
      ((∑ d, K (ix4 0 a (Cert.Softmax.pos j x) d) * q (ix2 p d)) * S (ix3 a (Cert.Softmax.pos j x) 0)) ⊥ := by
  have h2 := hl.le
  have hx := x.isLt
  have hp : (Cert.Softmax.pos j x).val = 512 * j + x.val := Nat.mod_eq_of_lt (by omega)
  unfold T
  split
  · rename_i h
    rw [sel_lt hl (by rw [hp]; omega), full_apply q K S a hS]
  · rw [cut_apply, full_apply q K S a hS]
    have e : BitVec.ofNat 32 x.val + BitVec.ofNat 32 j * 512#32 = BitVec.ofNat 32 (Cert.Softmax.pos j x).val := by
      rw [hp]
      apply BitVec.eq_of_toNat_eq
      simp only [BitVec.toNat_add, BitVec.toNat_mul, BitVec.toNat_ofNat]
      omega
    rw [e]

/-- The clamp fixes zero. -/
theorem clamp_zero : min (Ideal.ofBits .f32 0x43E00000#32) (max (Ideal.ofBits .f32 0xC3E00000#32) 0) = (0 : EReal) := by
  have hA : Ideal.ofBits .f32 0x43E00000#32 = ((448 : ℝ) : EReal) := by simp [Ideal.ofBits, Ideal.ieee, -EReal.coe_mul]; norm_num
  have hB : Ideal.ofBits .f32 0xC3E00000#32 = ((-448 : ℝ) : EReal) := by simp [Ideal.ofBits, Ideal.ieee, -EReal.coe_mul, -EReal.coe_neg]; norm_num
  rw [hA, hB, max_eq_right (by rw [← EReal.coe_zero]; exact EReal.coe_le_coe_iff.2 (by norm_num)), min_eq_right (by rw [← EReal.coe_zero]; exact EReal.coe_le_coe_iff.2 (by norm_num))]

/-- The result of a group at one query and one coordinate is the softmax over all positions. -/
theorem group {v4 : BitVec 32} {n : ℕ} (hl : Len v4 n) (qr : FVec Ideal S1x512 .f32) (V : Vec Ideal S1x2x128x4096 .fp8e4m3) (vs : EReal)
    (r : Fin 64) (g : Fin 8) (d : Fin 128) (ks s : Fin 4096 → EReal) (c : ℝ) (hc : 0 < c) (hqr : qr (ix2 0 (rw8 r g)) = (c : EReal))
    (hS : ∀ k l, S (ix3 a k l) = ks k * (((Real.sqrt 128)⁻¹ * (Real.log 2)⁻¹ : ℝ) : EReal))
    (hs : ∀ k : Fin 4096, s k = Scalar.select (IntOp.cmpi .slt (BitVec.ofNat 32 k.val) v4)
      ((∑ e, K (ix4 0 a k e) * q (ix2 (rw8 r g) e)) * (c : EReal) * (ks k * (((Real.sqrt 128)⁻¹ : ℝ) : EReal))) ⊥) :
    oh (F := Ideal) ((n + 511) / 512) qr (T v4 n q K S a) V a vs (ix4 0 r g d) =
      (∑ k, V (ix4 0 a d k) * min (Ideal.ofBits .f32 0x43E00000#32) (max (Ideal.ofBits .f32 0xC3E00000#32)
        (Ideal.exp (s k - Finset.univ.fold max ⊥ s) * ((256 : ℝ) : EReal))))
      * Ideal.div (((256 : ℝ)⁻¹ : ℝ) * vs) (∑ k, Ideal.exp (s k - Finset.univ.fold max ⊥ s)) := by
  have h2 := hl.le
  rw [oh_apply, hqr]
  refine Cert.Softmax.row (nc := (n + 511) / 512) (by omega) hc (t := fun j x => T (F := Ideal) v4 n q K S a j (ix2 x (rw8 r g))) (s := s) ?_ ?_ ?_ ?_ _ _ vs clamp_zero (fun k => V (ix4 0 a d k))
  · intro j hj x
    show T (F := Ideal) v4 n q K S a j (ix2 x (rw8 r g)) * (c : EReal) = _
    rw [T_apply q K S a hl (fun k l => by rw [hS, hS]) j hj, hs]
    by_cases h : (Cert.Softmax.pos j x).val < n
    · rw [sel_lt hl h, sel_lt hl h, hS, EReal.coe_mul]
      show _ = _ * (((Real.log 2)⁻¹ : ℝ) : EReal)
      ac_rfl
    · rw [sel_ge hl h, sel_ge hl h, EReal.bot_mul_coe_of_pos hc]
      exact (EReal.bot_mul_coe_of_pos (inv_pos.2 (Real.log_pos (by norm_num)))).symm
  · intro k hk
    rw [hs, sel_ge hl (by omega)]
  · intro z
    exact mk_le _ _ _ _
  · intro z
    rw [Finset.fold_max_le]
    simp only [bot_le, true_and, Finset.mem_univ, forall_true_left]

end

end Cert.KernelIdeal.Blk

end
-- ==== Proof.KernelIdeal.Arrays.lean ====
/-
  The three result arrays after the run, as functions of the launch memory.
-/
module

public import proofs.«01_k».proof.Proof.KernelIdeal.Frame
public import Idealize.ShloMosaic.Lib.Pipeline.ValueKit.Geometry

@[expose] public section

set_option maxRecDepth 16384

noncomputable section

namespace Cert.KernelIdeal.Blk

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The point that writes token `x` of sequence `b`, and the token's row in that point's block. -/
def pt (b : Fin 4) (x : Fin 16384) : Fin grid0.N := ⟨b.val * 256 + x.val / 64, by rw [N_0]; omega⟩
def rw64 (x : Fin 16384) : Fin 64 := ⟨x.val % 64, by omega⟩

theorem bt_pt (b : Fin 4) (x : Fin 16384) : bt (pt b x) = b := Fin.ext (by show (b.val * 256 + x.val / 64) / 256 = b.val; omega)
theorem tok_pt (b : Fin 4) (x : Fin 16384) : tok (pt b x) (rw64 x) = x := Fin.ext (by show (b.val * 256 + x.val / 64) % 256 * 64 + x.val % 64 = x.val; omega)

theorem pt_bt (t : Fin grid0.N) (r : Fin 64) : pt (bt t) (tok t r) = t := by
  have := lt_N t.isLt
  exact Fin.ext (by show t.val / 256 * 256 + (t.val % 256 * 64 + r.val) / 64 = t.val; omega)
theorem rw64_tok (t : Fin grid0.N) (r : Fin 64) : rw64 (tok t r) = r := Fin.ext (by show (t.val % 256 * 64 + r.val) % 64 = r.val; omega)

/-- What the three result arrays hold. -/
def arrO (hO : Ok m) (c : Dev nD) : Vec F S4x16384x16x128 .bf16 := fun i => outO m hO c (pt (i 0) (i 1)) (ix4 0 (rw64 (i 1)) (i 2) (i 3))
def arrC (hO : Ok m) (c : Dev nD) : Vec F S4x16384x16x128 .fp8e4m3 := fun i => outC m hO c (pt (i 0) (i 1)) (ix4 0 (rw64 (i 1)) (i 2) (i 3))
def arrS (hO : Ok m) (c : Dev nD) : Vec F S4x16384x16 .f32 := fun i => outS m hO c (pt (i 0) (i 1)) (ix3 0 (rw64 (i 1)) (i 2))

/-- Where an index of a point's block lies in the array of results. -/
theorem emb_5 (hO : Ok m) (t : Fin (cfgM m hO).N) (y : S1x64x16x128.Idx) :
    (((cfgM m hO).win 5).blk t).view.emb y = (ix4 (bt t) (tok t (y 1)) (y 2) (y 3) : S4x16384x16x128.Idx) := by
  refine funext fun a => Fin.ext ?_
  have e := tr5 t
  fin_cases a
  · show cc0_transform_5 (grid0.coords t) 0 * 1 + 1 * (y 0).val = t.val / 256
    have : (y 0).val < 1 := (y 0).isLt
    rw [e]; show t.val / 256 * 1 + 1 * (y 0).val = t.val / 256; omega
  · show cc0_transform_5 (grid0.coords t) 1 * 64 + 1 * (y 1).val = _
    rw [e]; show t.val % 256 * 64 + 1 * (y 1).val = t.val % 256 * 64 + (y 1).val; omega
  · show cc0_transform_5 (grid0.coords t) 2 * 16 + 1 * (y 2).val = (y 2).val
    rw [e]; show 0 * 16 + 1 * (y 2).val = (y 2).val; omega
  · show cc0_transform_5 (grid0.coords t) 3 * 128 + 1 * (y 3).val = (y 3).val
    rw [e]; show 0 * 128 + 1 * (y 3).val = (y 3).val; omega

theorem emb_6 (hO : Ok m) (t : Fin (cfgM m hO).N) (y : S1x64x16x128.Idx) :
    (((cfgM m hO).win 6).blk t).view.emb y = (ix4 (bt t) (tok t (y 1)) (y 2) (y 3) : S4x16384x16x128.Idx) := by
  refine funext fun a => Fin.ext ?_
  have e := tr6 t
  fin_cases a
  · show cc0_transform_6 (grid0.coords t) 0 * 1 + 1 * (y 0).val = t.val / 256
    have : (y 0).val < 1 := (y 0).isLt
    rw [e]; show t.val / 256 * 1 + 1 * (y 0).val = t.val / 256; omega
  · show cc0_transform_6 (grid0.coords t) 1 * 64 + 1 * (y 1).val = _
    rw [e]; show t.val % 256 * 64 + 1 * (y 1).val = t.val % 256 * 64 + (y 1).val; omega
  · show cc0_transform_6 (grid0.coords t) 2 * 16 + 1 * (y 2).val = (y 2).val
    rw [e]; show 0 * 16 + 1 * (y 2).val = (y 2).val; omega
  · show cc0_transform_6 (grid0.coords t) 3 * 128 + 1 * (y 3).val = (y 3).val
    rw [e]; show 0 * 128 + 1 * (y 3).val = (y 3).val; omega

theorem emb_7 (hO : Ok m) (t : Fin (cfgM m hO).N) (y : S1x64x16.Idx) :
    (((cfgM m hO).win 7).blk t).view.emb y = (ix3 (bt t) (tok t (y 1)) (y 2) : S4x16384x16.Idx) := by
  refine funext fun a => Fin.ext ?_
  have e := tr7 t
  fin_cases a
  · show cc0_transform_7 (grid0.coords t) 0 * 1 + 1 * (y 0).val = t.val / 256
    have : (y 0).val < 1 := (y 0).isLt
    rw [e]; show t.val / 256 * 1 + 1 * (y 0).val = t.val / 256; omega
  · show cc0_transform_7 (grid0.coords t) 1 * 64 + 1 * (y 1).val = _
    rw [e]; show t.val % 256 * 64 + 1 * (y 1).val = t.val % 256 * 64 + (y 1).val; omega
  · show cc0_transform_7 (grid0.coords t) 2 * 16 + 1 * (y 2).val = (y 2).val
    rw [e]; show 0 * 16 + 1 * (y 2).val = (y 2).val; omega

/-- An index is its coordinates. -/
theorem idx4 (i : S4x16384x16x128.Idx) : ∃ (b : Fin 4) (x : Fin 16384) (h : Fin 16) (d : Fin 128), i = ix4 b x h d := ⟨i 0, i 1, i 2, i 3, by funext a; fin_cases a <;> rfl⟩
theorem idx3 (i : S4x16384x16.Idx) : ∃ (b : Fin 4) (x : Fin 16384) (h : Fin 16), i = ix3 b x h := ⟨i 0, i 1, i 2, by funext a; fin_cases a <;> rfl⟩
theorem bidx4 (i : S1x64x16x128.Idx) : ∃ (z : Fin 1) (r : Fin 64) (h : Fin 16) (d : Fin 128), i = ix4 z r h d := ⟨i 0, i 1, i 2, i 3, by funext a; fin_cases a <;> rfl⟩
theorem bidx3 (i : S1x64x16.Idx) : ∃ (z : Fin 1) (r : Fin 64) (h : Fin 16), i = ix3 z r h := ⟨i 0, i 1, i 2, by funext a; fin_cases a <;> rfl⟩

theorem put_5 (hO : Ok m) (t : Fin (cfgM m hO).N) (z : Fin 1) (r : Fin 64) (h : Fin 16) (d : Fin 128) :
    (((cfgM m hO).win 5).blk t).view.emb (ix4 z r h d : S1x64x16x128.Idx) = (ix4 (bt t) (tok t r) h d : S4x16384x16x128.Idx) := emb_5 m hO t (ix4 z r h d)

/-- Every index of the result lies in some point's block. -/
theorem cover_5 (hO : Ok m) (i : S4x16384x16x128.Idx) :
    ∃ t : Fin (cfgM m hO).N, ((cfgM m hO).win 5).flush t = true ∧ i ∈ (((cfgM m hO).win 5).blk t).view.set := by
  obtain ⟨b, x, h, d, rfl⟩ := idx4 i
  refine ⟨pt b x, flush0_5 _ _, ?_⟩
  have e := put_5 m hO (pt b x) 0 (rw64 x) h d
  rw [bt_pt, tok_pt] at e
  rw [← e]
  exact View.emb_mem_set _ _

/-- What a point's block holds, at an index, in terms of the array. -/
theorem arrO_at (hO : Ok m) (c : Dev nD) (t : Fin grid0.N) (z : Fin 1) (r : Fin 64) (h : Fin 16) (d : Fin 128) : arrO m hO c (ix4 (bt t) (tok t r) h d) = outO m hO c t (ix4 z r h d) := by
  obtain rfl : z = 0 := Subsingleton.elim _ _
  show outO m hO c (pt (bt t) (tok t r)) (ix4 0 (rw64 (tok t r)) h d) = outO m hO c t (ix4 0 r h d)
  rw [pt_bt, rw64_tok]

/-- The result array after the run. -/
theorem final_5 (hO : Ok m) (c : Dev nD) : (dats m hO 0 c).arrAt 5 (cfgM m hO).N = arrO m hO c := by
  refine (dats m hO 0 c).arrAt_eq_of_emb 5 (arrO m hO c) (fun t _ y => ?_) (cover_5 m hO)
  obtain ⟨z, r, h, d, rfl⟩ := bidx4 y
  refine Eq.trans ?_ (congrArg (arrO m hO c) (put_5 m hO t z r h d)).symm
  refine Eq.trans ?_ (arrO_at m hO c t z r h d).symm
  exact congrFun (after0_5 m hO c t) (ix4 z r h d)

theorem put_6 (hO : Ok m) (t : Fin (cfgM m hO).N) (z : Fin 1) (r : Fin 64) (h : Fin 16) (d : Fin 128) :
    (((cfgM m hO).win 6).blk t).view.emb (ix4 z r h d : S1x64x16x128.Idx) = (ix4 (bt t) (tok t r) h d : S4x16384x16x128.Idx) := emb_6 m hO t (ix4 z r h d)

/-- Every index of the result lies in some point's block. -/
theorem cover_6 (hO : Ok m) (i : S4x16384x16x128.Idx) :
    ∃ t : Fin (cfgM m hO).N, ((cfgM m hO).win 6).flush t = true ∧ i ∈ (((cfgM m hO).win 6).blk t).view.set := by
  obtain ⟨b, x, h, d, rfl⟩ := idx4 i
  refine ⟨pt b x, flush0_6 _ _, ?_⟩
  have e := put_6 m hO (pt b x) 0 (rw64 x) h d
  rw [bt_pt, tok_pt] at e
  rw [← e]
  exact View.emb_mem_set _ _

/-- What a point's block holds, at an index, in terms of the array. -/
theorem arrC_at (hO : Ok m) (c : Dev nD) (t : Fin grid0.N) (z : Fin 1) (r : Fin 64) (h : Fin 16) (d : Fin 128) : arrC m hO c (ix4 (bt t) (tok t r) h d) = outC m hO c t (ix4 z r h d) := by
  obtain rfl : z = 0 := Subsingleton.elim _ _
  show outC m hO c (pt (bt t) (tok t r)) (ix4 0 (rw64 (tok t r)) h d) = outC m hO c t (ix4 0 r h d)
  rw [pt_bt, rw64_tok]

/-- The result array after the run. -/
theorem final_6 (hO : Ok m) (c : Dev nD) : (dats m hO 0 c).arrAt 6 (cfgM m hO).N = arrC m hO c := by
  refine (dats m hO 0 c).arrAt_eq_of_emb 6 (arrC m hO c) (fun t _ y => ?_) (cover_6 m hO)
  obtain ⟨z, r, h, d, rfl⟩ := bidx4 y
  refine Eq.trans ?_ (congrArg (arrC m hO c) (put_6 m hO t z r h d)).symm
  refine Eq.trans ?_ (arrC_at m hO c t z r h d).symm
  exact congrFun (after0_6 m hO c t) (ix4 z r h d)

theorem put_7 (hO : Ok m) (t : Fin (cfgM m hO).N) (z : Fin 1) (r : Fin 64) (h : Fin 16) :
    (((cfgM m hO).win 7).blk t).view.emb (ix3 z r h : S1x64x16.Idx) = (ix3 (bt t) (tok t r) h : S4x16384x16.Idx) := emb_7 m hO t (ix3 z r h)

/-- Every index of the result lies in some point's block. -/
theorem cover_7 (hO : Ok m) (i : S4x16384x16.Idx) :
    ∃ t : Fin (cfgM m hO).N, ((cfgM m hO).win 7).flush t = true ∧ i ∈ (((cfgM m hO).win 7).blk t).view.set := by
  obtain ⟨b, x, h, rfl⟩ := idx3 i
  refine ⟨pt b x, flush0_7 _ _, ?_⟩
  have e := put_7 m hO (pt b x) 0 (rw64 x) h
  rw [bt_pt, tok_pt] at e
  rw [← e]
  exact View.emb_mem_set _ _

/-- What a point's block holds, at an index, in terms of the array. -/
theorem arrS_at (hO : Ok m) (c : Dev nD) (t : Fin grid0.N) (z : Fin 1) (r : Fin 64) (h : Fin 16) : arrS m hO c (ix3 (bt t) (tok t r) h) = outS m hO c t (ix3 z r h) := by
  obtain rfl : z = 0 := Subsingleton.elim _ _
  show outS m hO c (pt (bt t) (tok t r)) (ix3 0 (rw64 (tok t r)) h) = outS m hO c t (ix3 0 r h)
  rw [pt_bt, rw64_tok]

/-- The result array after the run. -/
theorem final_7 (hO : Ok m) (c : Dev nD) : (dats m hO 0 c).arrAt 7 (cfgM m hO).N = arrS m hO c := by
  refine (dats m hO 0 c).arrAt_eq_of_emb 7 (arrS m hO c) (fun t _ y => ?_) (cover_7 m hO)
  obtain ⟨z, r, h, rfl⟩ := bidx3 y
  refine Eq.trans ?_ (congrArg (arrS m hO c) (put_7 m hO t z r h)).symm
  refine Eq.trans ?_ (arrS_at m hO c t z r h).symm
  exact congrFun (after0_7 m hO c t) (ix3 z r h)

/-- The program ends, with its three results at `arrO`, `arrC` and `arrS` and its arguments as they were. -/
theorem run (hL : Lens m) (hO : Ok m) : θ_run defs (onTc (τ := τ) (main (F := F))) ⟨m, fun _ => 0, ρ⟩ (fun r => ∀ c : Dev nD,
      r.2.mem ((c.tc : Thread nD τ).loc main_v3_0) = arrO m hO c
      ∧ r.2.mem ((c.tc : Thread nD τ).loc main_v3_1) = arrC m hO c
      ∧ r.2.mem ((c.tc : Thread nD τ).loc main_v3_2) = arrS m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.2 c).1 5).trans (final_5 m hO c), ((h.2 c).1 6).trans (final_6 m hO c), ((h.2 c).1 7).trans (final_7 m hO c), h.1 c⟩)
    (θ_run_and (unchanged m ρ hL hO) (run_main m ρ hL hO))

end Cert.KernelIdeal.Blk

end
-- ==== Proof.KernelIdeal.Inputs.lean ====
/-
  What the blocks of the inputs hold, in terms of the arguments, on the extended reals.
-/
module

public import proofs.«01_k».proof.Proof.KernelIdeal.Arrays
public import Idealize.ShloMosaic.Lib.Pointwise

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The arguments, by name. -/
abbrev a0 (c : Dev nD) : FVec Ideal S4x16384x16x128 .bf16 := m ((c : Thread nD τ).loc main_arg0)
abbrev a1 (c : Dev nD) : FVec Ideal S4x2x4096x128 .fp8e4m3 := m ((c : Thread nD τ).loc main_arg1)
abbrev a2 (c : Dev nD) : FVec Ideal S4x2x4096 .f32 := m ((c : Thread nD τ).loc main_arg2)
abbrev a3 (c : Dev nD) : FVec Ideal S4x2x4096x128 .fp8e4m3 := m ((c : Thread nD τ).loc main_arg3)
abbrev a4 (c : Dev nD) : FVec Ideal S4x2 .f32 := m ((c : Thread nD τ).loc main_arg4)
abbrev a5 (c : Dev nD) : IVec S4 32 := m ((c : Thread nD τ).loc main_arg5)

/-- The values, their last two axes exchanged. -/
theorem V_main_v0 (c : Dev nD) : V m c main_v0 = transpose S4x2x128x4096 [0, 1, 3, 2] (a3 m c) transposes_S4x2x4096x128_S4x2x128x4096_0_1_3_2 := by
  show StableHlo.after hostOps0 _ (Proc.devRef .tc main_v0) = _
  after_results

/-- The key scales, each along a row. -/
theorem V_main_v2 (c : Dev nD) : V m c main_v2 = broadcastInDim S4x2x4096x128 ![0, 1, 2, 3] bcast_S4x2x4096x1_S4x2x4096x128_0_1_2_3 (broadcastInDim S4x2x4096x1 ![0, 1, 2] bcast_S4x2x4096_S4x2x4096x1_0_1_2 (a2 m c)) := by
  show StableHlo.after hostOps0 _ (Proc.devRef .tc main_v2) = _
  after_results

theorem transpose_at (x : FVec Ideal S4x2x4096x128 .fp8e4m3) (b : Fin 4) (a : Fin 2) (d : Fin 128) (k : Fin 4096) :
    transpose S4x2x128x4096 [0, 1, 3, 2] x transposes_S4x2x4096x128_S4x2x128x4096_0_1_3_2 (ix4 b a d k) = x (ix4 b a k d) := by
  pointwise []

theorem broadcast_at (x : FVec Ideal S4x2x4096 .f32) (b : Fin 4) (a : Fin 2) (k : Fin 4096) (l : Fin 128) :
    broadcastInDim S4x2x4096x128 ![0, 1, 2, 3] bcast_S4x2x4096x1_S4x2x4096x128_0_1_2_3 (broadcastInDim S4x2x4096x1 ![0, 1, 2] bcast_S4x2x4096_S4x2x4096x1_0_1_2 x) (ix4 b a k l) = x (ix3 b a k) := by
  pointwise []

variable (hO : Ok m) (c : Dev nD) (t : Fin (cfgM m hO).N)

/-- The block of queries. -/
theorem blk_0 (r : Fin 64) (h : Fin 16) (d : Fin 128) : iblk m hO c 0 t (ix4 0 r h d : S1x64x16x128.Idx) = a0 m c (ix4 (bt t) (tok t r) h d) := by
  rw [iblk_0, V_main_arg0]
  rfl

/-- The block of keys. -/
theorem blk_1 (a : Fin 2) (k : Fin 4096) (d : Fin 128) : iblk m hO c 1 t (ix4 0 a k d : S1x2x4096x128.Idx) = a1 m c (ix4 (bt t) a k d) := by
  rw [iblk_1, V_main_arg1]
  rfl

/-- The block of key scales. -/
theorem blk_2 (a : Fin 2) (k : Fin 4096) (l : Fin 128) : iblk m hO c 2 t (ix4 0 a k l : S1x2x4096x128.Idx) = a2 m c (ix3 (bt t) a k) := by
  rw [iblk_2, V_main_v2]
  exact broadcast_at (a2 m c) (bt t) a k l

/-- The block of values. -/
theorem blk_3 (a : Fin 2) (d : Fin 128) (k : Fin 4096) : iblk m hO c 3 t (ix4 0 a d k : S1x2x128x4096.Idx) = a3 m c (ix4 (bt t) a k d) := by
  rw [iblk_3, V_main_v0]
  exact transpose_at (a3 m c) (bt t) a d k

theorem off18 : ∀ t : Fin grid0.N, k0_off18 (grid0.coords t) = ![t.val / 256, 0] := by decide +kernel
theorem off35 : ∀ t : Fin grid0.N, k0_off35 (grid0.coords t) = ![t.val / 256, 1] := by decide +kernel

/-- The two value scales of a point's sequence. -/
theorem vs0_eq : vs0 (grid0.coords t) (iblk m hO c 4 t) = a4 m c (ix2 (bt t) 0) := by
  unfold vs0
  rw [iblk_4, V_main_arg4]
  refine congrArg (a4 m c) (funext fun a => Fin.ext ?_)
  have e := off18 t
  fin_cases a
  · show k0_off18 (grid0.coords t) 0 + 1 * 0 = t.val / 256
    rw [e]; rfl
  · show k0_off18 (grid0.coords t) 1 + 1 * 0 = 0
    rw [e]; rfl

theorem vs1_eq : vs1 (grid0.coords t) (iblk m hO c 4 t) = a4 m c (ix2 (bt t) 1) := by
  unfold vs1
  rw [iblk_4, V_main_arg4]
  refine congrArg (a4 m c) (funext fun a => Fin.ext ?_)
  have e := off35 t
  fin_cases a
  · show k0_off35 (grid0.coords t) 0 + 1 * 0 = t.val / 256
    rw [e]; rfl
  · show k0_off35 (grid0.coords t) 1 + 1 * 0 = 1
    rw [e]; rfl

theorem pay9_at (x : FVec Ideal S1x1x4096x128 .f32) (k : Fin 4096) (l : Fin 128) :
    k0_pay9 (F := Ideal) x (ix3 0 k l) = x (ix4 0 0 k l) * (((Real.sqrt 128)⁻¹ * (Real.log 2)⁻¹ : ℝ) : EReal) := by
  pointwise [k0_pay9]
  rfl

theorem pay10_at (x : FVec Ideal S1x1x4096x128 .f32) (k : Fin 4096) (l : Fin 128) :
    k0_pay10 (F := Ideal) x (ix3 0 k l) = x (ix4 0 0 k l) * (((Real.sqrt 128)⁻¹ * (Real.log 2)⁻¹ : ℝ) : EReal) := by
  pointwise [k0_pay10]
  rfl

/-- The key scales as they are left for the blocks. -/
theorem ksv_0 (k : Fin 4096) (l : Fin 128) : ksv (F := Ideal) (iblk m hO c 2 t) (ix3 0 k l) = a2 m c (ix3 (bt t) 0 k) * (((Real.sqrt 128)⁻¹ * (Real.log 2)⁻¹ : ℝ) : EReal) := by
  rw [← blk_2 m hO c t 0 k l]
  exact pay9_at (sh (F := Ideal) (iblk m hO c 2 t) 0) k l

theorem ksv_1 (k : Fin 4096) (l : Fin 128) : ksv (F := Ideal) (iblk m hO c 2 t) (ix3 1 k l) = a2 m c (ix3 (bt t) 1 k) * (((Real.sqrt 128)⁻¹ * (Real.log 2)⁻¹ : ℝ) : EReal) := by
  rw [← blk_2 m hO c t 1 k l]
  exact pay10_at (sh (F := Ideal) (iblk m hO c 2 t) 1) k l

end Cert.KernelIdeal.Blk

end
-- ==== Proof.ReferenceIdeal.Read.lean ====
/-
  What the reference's three results are, read at an index on the extended reals.
-/
module

public import proofs.«01_k».proof.Proof.Gen.ReferenceIdeal.Value
public import proofs.«01_k».proof.Proof.Scale
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Cert.Scale (rexp rr code)

/-- The number a query head's scale is taken from. -/
def vr (x : FVec Ideal S4x16384x16x128 .bf16) : FVec Ideal S4x16384x16x1 .f32 :=
  mulf (shapeCast S4x16384x16x1 (multiReduction .maximumf [3] S4x16384x16 (absf (k0_pay2 x)) 0xFF800000#32 reduces_S4x16384x16x128_S4x16384x16 (.inl rfl) rfl) shapeCasts_S4x16384x16_S4x16384x16x1)
    (broadcast S4x16384x16x1 (Scalar.ofBits (F := Ideal) .f32 0x3B124925#32))

/-- The exponent of the scale, over a vector. -/
def vexp (v : FVec Ideal S4x16384x16x1 .f32) : FVec Ideal S4x16384x16x1 .f32 :=
  select (cmpf .olt v (broadcast S4x16384x16x1 (Scalar.ofBits (F := Ideal) .f32 0x00800000#32))) (broadcast S4x16384x16x1 (Scalar.ofBits (F := Ideal) .f32 0x00000000#32))
    (addf (floor (mulf (log v) (broadcast S4x16384x16x1 (Named.named (F := Ideal) κ "log2_e" 0x3FB8AA3B#32)))) (broadcast S4x16384x16x1 (Scalar.ofBits (F := Ideal) .f32 0x3F800000#32)))

theorem pay3_eq (x : FVec Ideal S4x16384x16x128 .bf16) : k0_pay3 (F := Ideal) x = vexp (vr x) := rfl

theorem one_eq : Ideal.ofBits .f32 0x3F800000#32 = (1 : EReal) := by simp [Ideal.ofBits, Ideal.ieee, -EReal.coe_mul]; norm_num
theorem zero_eq : Ideal.ofBits .f32 0x00000000#32 = (0 : EReal) := by simp [Ideal.ofBits, Ideal.ieee]
theorem log2e_eq : Named.named (F := Ideal) (φ := .f32) κ "log2_e" 0x3FB8AA3B#32 = (((Real.log 2)⁻¹ : ℝ) : EReal) := rfl
theorem absf_eq (x : EReal) : FloatOps.absf (F := Ideal) (φ := .f32) x = max x (-x) := rfl

theorem vexp_apply (v : FVec Ideal S4x16384x16x1 .f32) (i : S4x16384x16x1.Idx) : vexp v i = rexp (v i) := by
  change Scalar.select (Ideal.cmp .olt (v i) (Ideal.ofBits .f32 0x00800000#32)) (Ideal.ofBits .f32 0x00000000#32)
    (Ideal.liftRound Int.floor (Ideal.log (v i) * Named.named (F := Ideal) (φ := .f32) κ "log2_e" 0x3FB8AA3B#32) + Ideal.ofBits .f32 0x3F800000#32) = _
  rw [zero_eq, one_eq, log2e_eq]
  rfl

theorem cast4 (v : FVec Ideal S4x16384x16 .f32) (b : Fin 4) (t : Fin 16384) (h : Fin 16) :
    shapeCast S4x16384x16x1 v shapeCasts_S4x16384x16_S4x16384x16x1 (ix4 b t h 0) = v (ix3 b t h) := by
  pointwise []

theorem red3 (v : FVec Ideal S4x16384x16x128 .f32) (b : Fin 4) (t : Fin 16384) (h : Fin 16) :
    multiReduction .maximumf [3] S4x16384x16 v 0xFF800000#32 reduces_S4x16384x16x128_S4x16384x16 (.inl rfl) rfl (ix3 b t h)
      = Finset.univ.fold max (Ideal.ofBits .f32 0xFF800000#32) (fun d : Fin 128 => v (ix4 b t h d)) := by
  pointwise []

theorem mulc_apply (v : FVec Ideal S4x16384x16x1 .f32) (c : EReal) (i : S4x16384x16x1.Idx) :
    mulf v (broadcast S4x16384x16x1 c) i = v i * c := rfl

theorem subc_apply (v : FVec Ideal S4x16384x16x1 .f32) (c : EReal) (i : S4x16384x16x1.Idx) :
    subf (broadcast S4x16384x16x1 c) v i = c - v i := rfl

theorem exp2_apply (v : FVec Ideal S4x16384x16x1 .f32) (i : S4x16384x16x1.Idx) : exp2 v i = Ideal.exp2 (v i) := rfl

theorem absx_apply (x : FVec Ideal S4x16384x16x128 .bf16) (i : S4x16384x16x128.Idx) :
    (absf (k0_pay2 (F := Ideal) x) : FVec Ideal S4x16384x16x128 .f32) i = max (x i : EReal) (-(x i : EReal)) := rfl

theorem sofb (b : BitVec 32) : Scalar.ofBits (F := Ideal) .f32 b = Ideal.ofBits .f32 b := rfl

theorem vr_apply (x : FVec Ideal S4x16384x16x128 .bf16) (b : Fin 4) (t : Fin 16384) (h : Fin 16) : vr x (ix4 b t h 0) = rr (fun d => x (ix4 b t h d)) := by
  unfold vr rr
  rw [mulc_apply, cast4, red3, sofb]
  simp only [absx_apply]

/-- The exponent of one query head's scale. -/
theorem pay3_apply (x : FVec Ideal S4x16384x16x128 .bf16) (b : Fin 4) (t : Fin 16384) (h : Fin 16) :
    k0_pay3 (F := Ideal) x (ix4 b t h 0) = rexp (rr (fun d => x (ix4 b t h d))) := by
  rw [pay3_eq, vexp_apply, vr_apply]

theorem cast3 (v : FVec Ideal S4x16384x16x1 .f32) (b : Fin 4) (t : Fin 16384) (h : Fin 16) :
    shapeCast S4x16384x16 v shapeCasts_S4x16384x16x1_S4x16384x16 (ix3 b t h) = v (ix4 b t h 0) := by
  pointwise []

theorem bcast4 (v : FVec Ideal S4x16384x16x1 .f32) (b : Fin 4) (t : Fin 16384) (h : Fin 16) (d : Fin 128) :
    broadcastTo S4x16384x16x128 v broadcasts_S4x16384x16x1_S4x16384x16x128 (ix4 b t h d) = v (ix4 b t h 0) := by
  pointwise []

/-- The third result: one query scale. -/
theorem pay5_apply (x : FVec Ideal S4x16384x16x128 .bf16) (b : Fin 4) (t : Fin 16384) (h : Fin 16) :
    k0_pay5 (F := Ideal) x (ix3 b t h) = Ideal.exp2 (rexp (rr (fun d => x (ix4 b t h d)))) := by
  have e : k0_pay5 (F := Ideal) x = shapeCast S4x16384x16 (exp2 (k0_pay3 x)) shapeCasts_S4x16384x16x1_S4x16384x16 := rfl
  rw [e, cast3, exp2_apply, pay3_apply]

/-- The codes, over a vector. -/
def vcode (x y : FVec Ideal S4x16384x16x128 .f32) : FVec Ideal S4x16384x16x128 .fp8e4m3 :=
  truncf .fp8e4m3 (minimumf (broadcast S4x16384x16x128 (Scalar.ofBits (F := Ideal) .f32 0x43E00000#32))
    (maximumf (broadcast S4x16384x16x128 (Scalar.ofBits (F := Ideal) .f32 0xC3E00000#32)) (mulf x y))) bitsLt_fp8e4m3_f32

theorem pay4_eq (x : FVec Ideal S4x16384x16x128 .bf16) : k0_pay4 (F := Ideal) x =
    vcode (k0_pay2 x) (broadcastTo S4x16384x16x128 (exp2 (subf (broadcast S4x16384x16x1 (Scalar.ofBits (F := Ideal) .f32 0x00000000#32)) (k0_pay3 x))) broadcasts_S4x16384x16x1_S4x16384x16x128) := rfl

theorem vcode_apply (x y : FVec Ideal S4x16384x16x128 .f32) (i : S4x16384x16x128.Idx) : vcode x y i = code (x i) (y i) := rfl
theorem pay2_apply (x : FVec Ideal S4x16384x16x128 .bf16) (i : S4x16384x16x128.Idx) : (k0_pay2 (F := Ideal) x i : EReal) = x i := rfl

/-- The second result: one query code. -/
theorem pay4_apply (x : FVec Ideal S4x16384x16x128 .bf16) (b : Fin 4) (t : Fin 16384) (h : Fin 16) (d : Fin 128) :
    k0_pay4 (F := Ideal) x (ix4 b t h d) = code (x (ix4 b t h d)) (Ideal.exp2 (0 - rexp (rr (fun d => x (ix4 b t h d))))) := by
  rw [pay4_eq, vcode_apply, bcast4, exp2_apply, subc_apply, pay3_apply, pay2_apply, sofb, zero_eq]

section
variable (a0 : FVec Ideal S4x16384x16x128 .bf16) (a1 : FVec Ideal S4x2x4096x128 .fp8e4m3) (a2 : FVec Ideal S4x2x4096 .f32) (a3 : FVec Ideal S4x2x4096x128 .fp8e4m3)
  (a4 : FVec Ideal S4x2 .f32) (a5 : IVec S4 32)

/-- The query head that a key head and a place in its group have. -/
def hd (a : Fin 2) (g : Fin 8) : Fin 16 := ⟨a.val * 8 + g.val, by omega⟩

/-- A score: where the position is below the length. -/
def score (b : Fin 4) (t : Fin 16384) (a : Fin 2) (g : Fin 8) (k : Fin 4096) : EReal :=
  Scalar.select (IntOp.cmpi .slt (BitVec.ofNat 32 k.val) (a5 (ix1 b)))
    ((∑ d, a1 (ix4 b a k d) * k0_pay4 (F := Ideal) a0 (ix4 b t (hd a g) d)) * k0_pay5 (F := Ideal) a0 (ix3 b t (hd a g)) * (a2 (ix3 b a k) * (((Real.sqrt 128)⁻¹ : ℝ) : EReal))) ⊥

/-- The greatest score. -/
def top (b : Fin 4) (t : Fin 16384) (a : Fin 2) (g : Fin 8) : EReal := Finset.univ.fold max ⊥ (score a0 a1 a2 a5 b t a g)

theorem sm_eq : Named.named (F := Ideal) (φ := .f32) κ "softmax_scale" 0x3DB504F3#32 = (((Real.sqrt 128)⁻¹ : ℝ) : EReal) := rfl

theorem ld4 (a : Vec Ideal S4x16384x16x128 .bf16) : View.ld a r0_0 = a := View.ld_unit_zero (S := S4x16384x16x128) hz0 _ a
theorem ld1 (a : Vec Ideal S4 .i32) : View.ld a r0_2 = a := View.ld_unit_zero (S := S4) hz5 _ a

theorem pay15_apply (b : Fin 4) (t : Fin 16384) (a : Fin 2) (g : Fin 8) (d : Fin 128) : k0_pay15 (F := Ideal) a0 a1 a2 a3 a4 a5 (ix5 b t a g d) = k0_pay4 (F := Ideal) a0 (ix4 b t (hd a g) d) := by
  have e : k0_pay15 (F := Ideal) a0 a1 a2 a3 a4 a5 = k0_pay6 (F := Ideal) a0 := by
    exact congrArg (k0_pay6 (F := Ideal)) (ld4 a0)
  rw [e]
  pointwise [k0_pay6]
  rfl

theorem pay16_apply (b : Fin 4) (t : Fin 16384) (a : Fin 2) (g : Fin 8) : k0_pay16 (F := Ideal) a0 a1 a2 a3 a4 a5 (ix4 b t a g) = k0_pay5 (F := Ideal) a0 (ix3 b t (hd a g)) := by
  have e : k0_pay16 (F := Ideal) a0 a1 a2 a3 a4 a5 = k0_pay7 (F := Ideal) a0 := by
    exact congrArg (k0_pay7 (F := Ideal)) (ld4 a0)
  rw [e]
  pointwise [k0_pay7]
  rfl

theorem pay14_apply (b : Fin 4) (k : Fin 4096) : k0_pay14 (F := Ideal) a0 a1 a2 a3 a4 a5 (ix2 b k) = BitVec.ofNat 32 k.val := by
  pointwise [k0_pay14]

theorem pay17_apply (b : Fin 4) (k : Fin 4096) : k0_pay17 (F := Ideal) a0 a1 a2 a3 a4 a5 (ix2 b k) = a5 (ix1 b) := by
  have e : k0_pay17 (F := Ideal) a0 a1 a2 a3 a4 a5 = k0_pay8 (F := Ideal) a5 := by
    exact congrArg (k0_pay8 (F := Ideal)) (ld1 a5)
  rw [e]
  pointwise [k0_pay8]

/-- One weight. -/
theorem pay10_apply (b : Fin 4) (t : Fin 16384) (a : Fin 2) (g : Fin 8) (k : Fin 4096) :
    k0_pay10 (F := Ideal) (k0_pay15 (F := Ideal) a0 a1 a2 a3 a4 a5) (k0_pay16 (F := Ideal) a0 a1 a2 a3 a4 a5) (k0_pay14 (F := Ideal) a0 a1 a2 a3 a4 a5) (k0_pay17 (F := Ideal) a0 a1 a2 a3 a4 a5) a2 a1 (ix5 b t a g k)
      = Ideal.exp (score a0 a1 a2 a5 b t a g k - top a0 a1 a2 a5 b t a g) := by
  pointwise [k0_pay10]
  simp only [pay15_apply, pay16_apply, pay14_apply, pay17_apply, sm_eq, Cert.Scale.neg_inf]
  rfl

theorem c256 : Ideal.ofBits .f32 0x43800000#32 = ((256 : ℝ) : EReal) := by simp [Ideal.ofBits, Ideal.ieee, -EReal.coe_mul]; norm_num
theorem c1_256 : Ideal.ofBits .f32 0x3B800000#32 = (((256 : ℝ)⁻¹ : ℝ) : EReal) := by simp [Ideal.ofBits, Ideal.ieee, -EReal.coe_mul]; norm_num

/-- The first result at one query head. -/
theorem G6_apply (b : Fin 4) (t : Fin 16384) (a : Fin 2) (g : Fin 8) (d : Fin 128) :
    G6 (F := Ideal) a0 a1 a2 a3 a4 a5 (ix4 b t (hd a g) d) =
      (∑ k, a3 (ix4 b a k d) * min (Ideal.ofBits .f32 0x43E00000#32) (max (Ideal.ofBits .f32 0xC3E00000#32)
        (Ideal.exp (score a0 a1 a2 a5 b t a g k - top a0 a1 a2 a5 b t a g) * ((256 : ℝ) : EReal))))
      * Ideal.div (((256 : ℝ)⁻¹ : ℝ) * a4 (ix2 b a)) (∑ k, Ideal.exp (score a0 a1 a2 a5 b t a g k - top a0 a1 a2 a5 b t a g)) := by
  have h1 : (⟨(hd a g).val / 8, by have := (hd a g).isLt; omega⟩ : Fin 2) = a := Fin.ext (by show (a.val * 8 + g.val) / 8 = a.val; omega)
  have h2 : (⟨(hd a g).val % 8, by omega⟩ : Fin 8) = g := Fin.ext (by show (a.val * 8 + g.val) % 8 = g.val; omega)
  unfold G6
  pointwise [k0_pay1]
  rw [h1, h2]
  pointwise [k0_pay9, k0_pay11, k0_pay12, k0_pay13]
  simp only [pay10_apply, c256, c1_256]

end

end Cert.ReferenceIdeal.Value

end
-- ==== Proof.Range.lean ====
/-
  The range of the number a query scale is taken from. Extended reals; no program.
-/
module

public import proofs.«01_k».proof.Proof.Scale
public import Mathlib.Analysis.SpecialFunctions.Pow.Real
public import Mathlib.Analysis.SpecialFunctions.Log.Basic

@[expose] public section

noncomputable section

namespace Cert.Scale

open Idealize.ShloMosaic

/-- A row of finite bfloat16 numbers gives a number in the range of `scale_eq`. -/
theorem rr_range (q : Fin 128 → EReal) (h : ∀ d, max (q d) (-(q d)) ≤ Ideal.ofBits .bf16 0x7F7F#16) :
    0 ≤ rr q ∧ rr q < (((2 : ℝ) ^ (120 : ℤ) : ℝ) : EReal) := by
  have hB : Ideal.ofBits .bf16 0x7F7F#16 = ((255 * (2 : ℝ) ^ (120 : ℤ) : ℝ) : EReal) := by
    simp [Ideal.ofBits, Ideal.ieee, -EReal.coe_mul]
  have hC : Ideal.ofBits .f32 0x3B124925#32 = ((9586981 * (2 : ℝ) ^ (-32 : ℤ) : ℝ) : EReal) := by
    simp [Ideal.ofBits, Ideal.ieee, -EReal.coe_mul]
  unfold rr
  obtain ⟨A, hA⟩ : ∃ A : EReal, Finset.univ.fold max (Ideal.ofBits .f32 0xFF800000#32) (fun d => max (q d) (-(q d))) = A := ⟨_, rfl⟩
  have hA0 : 0 ≤ A := by
    have h1 : max (q 0) (-(q 0)) ≤ A := hA ▸ Finset.le_fold_max _ |>.2 (Or.inr ⟨0, Finset.mem_univ _, le_rfl⟩)
    refine le_trans ?_ h1
    rcases le_total 0 (q 0) with h | h
    · exact le_max_of_le_left h
    · exact le_max_of_le_right (by simpa using EReal.neg_le_neg_iff.2 h)
  have hA1 : A ≤ ((255 * (2 : ℝ) ^ (120 : ℤ) : ℝ) : EReal) := by
    rw [← hB, ← hA]
    exact Finset.fold_max_le _ |>.2 ⟨by rw [neg_inf]; exact bot_le, fun d _ => h d⟩
  rw [hC, hA]
  clear hA
  induction A with
  | bot => simp at hA0
  | top => exact absurd hA1 (not_le.2 (EReal.coe_lt_top _))
  | coe a =>
    rw [EReal.coe_le_coe_iff] at hA1
    have ha : 0 ≤ a := by exact_mod_cast hA0
    rw [← EReal.coe_mul]
    constructor
    · exact_mod_cast (by positivity : (0 : ℝ) ≤ a * (9586981 * (2 : ℝ) ^ (-32 : ℤ)))
    · rw [EReal.coe_lt_coe_iff]
      norm_num at hA1 ⊢
      linarith

end Cert.Scale

end
-- ==== Proof.KernelIdeal.Equation.lean ====
/-
  The kernel's three results are the reference's, on the extended reals.
-/
module

public import proofs.«01_k».proof.Proof.KernelIdeal.Group
public import proofs.«01_k».proof.Proof.KernelIdeal.Inputs
public import proofs.«01_k».proof.Proof.KernelIdeal.Lens
public import proofs.«01_k».proof.Proof.ReferenceIdeal.Read
public import proofs.«01_k».proof.Proof.Range

@[expose] public section

set_option maxRecDepth 16384

noncomputable section

namespace Cert.KernelIdeal.Blk

open Cert.KernelIdeal Cert.KernelIdeal.Gen
open Idealize.ShloMosaic Idealize.ShloMosaic.TcCoe Idealize.ShloMosaic.Tactic
open Idealize.SL Idealize.SL.Sem
open Cert.Scale (kscl kinv rexp rr code)
open Cert.ReferenceIdeal.Value (hd score top)

/-- No query entry exceeds the largest finite number of its format. -/
def Bounded (A0 : FVec Ideal S4x16384x16x128 .bf16) : Prop := ∀ i, max (A0 i : EReal) (-(A0 i : EReal)) ≤ Ideal.ofBits .bf16 0x7F7F#16

section
variable (A0 : FVec Ideal S4x16384x16x128 .bf16) (A1 : FVec Ideal S4x2x4096x128 .fp8e4m3) (A2 : FVec Ideal S4x2x4096 .f32) (A3 : FVec Ideal S4x2x4096x128 .fp8e4m3)
  (A4 : FVec Ideal S4x2 .f32) (A5 : IVec S4 32) (hB : Bounded A0)

include hB in
/-- The scale of one query head, found and stated. -/
theorem scale_at (b : Fin 4) (x : Fin 16384) (h : Fin 16) :
    kscl (rr fun d => A0 (ix4 b x h d)) = Ideal.exp2 (rexp (rr fun d => A0 (ix4 b x h d)))
    ∧ kinv (rr fun d => A0 (ix4 b x h d)) = Ideal.exp2 (0 - rexp (rr fun d => A0 (ix4 b x h d)))
    ∧ ∃ k : ℝ, 0 < k ∧ Ideal.exp2 (rexp (rr fun d => A0 (ix4 b x h d))) = (k : EReal) :=
  have h := Cert.Scale.rr_range (fun d => A0 (ix4 b x h d)) (fun d => hB _)
  Cert.Scale.scale_eq _ h.1 h.2

include hB in
/-- One code. -/
theorem code_at (X : FVec Ideal S1x64x16x128 .bf16) (b : Fin 4) (x : Fin 16384) (r : Fin 64) (h : Fin 16) (d : Fin 128) (hX : ∀ d, X (ix4 0 r h d) = A0 (ix4 b x h d)) :
    qc (F := Ideal) X (ix4 0 r h d) = Cert.ReferenceIdeal.Gen.k0_pay4 (F := Ideal) A0 (ix4 b x h d) := by
  rw [qc_apply, Cert.ReferenceIdeal.Value.pay4_apply]
  simp only [hX]
  rw [(scale_at A0 hB b x h).2.1]

include hB in
/-- One scale. -/
theorem scl_at (X : FVec Ideal S1x64x16x128 .bf16) (b : Fin 4) (x : Fin 16384) (r : Fin 64) (h : Fin 16) (hX : ∀ d, X (ix4 0 r h d) = A0 (ix4 b x h d)) :
    qs (F := Ideal) X (ix3 0 r h) = Cert.ReferenceIdeal.Gen.k0_pay5 (F := Ideal) A0 (ix3 b x h) := by
  rw [qs_apply, Cert.ReferenceIdeal.Value.pay5_apply]
  simp only [hX]
  rw [(scale_at A0 hB b x h).1]

theorem qt_rw8 (r : Fin 64) (g : Fin 8) : qt (rw8 r g) = r := Fin.ext (by show (r.val * 8 + g.val) / 8 = r.val; omega)
theorem qg_rw8 (r : Fin 64) (g : Fin 8) : qg (rw8 r g) = hd 0 g := Fin.ext (by show (r.val * 8 + g.val) % 8 = 0 * 8 + g.val; omega)
theorem qg1_rw8 (r : Fin 64) (g : Fin 8) : qg1 (rw8 r g) = hd 1 g := Fin.ext (by show 8 + (r.val * 8 + g.val) % 8 = 1 * 8 + g.val; omega)

include hB in
/-- One result of the first key head's group, from the blocks it is made of. -/
theorem value_0 {v4 : BitVec 32} {n : ℕ} (hl : Len v4 n) (X : FVec Ideal S1x64x16x128 .bf16) (K : Vec Ideal S1x2x4096x128 .fp8e4m3) (S : Vec Ideal S2x4096x128 .f32)
    (V : Vec Ideal S1x2x128x4096 .fp8e4m3) (vs : EReal) (b : Fin 4) (x : Fin 16384) (r : Fin 64) (g : Fin 8) (d : Fin 128)
    (hX : ∀ h d, X (ix4 0 r h d) = A0 (ix4 b x h d)) (hK : ∀ k d, K (ix4 0 0 k d) = A1 (ix4 b 0 k d))
    (hS : ∀ k l, S (ix3 0 k l) = A2 (ix3 b 0 k) * (((Real.sqrt 128)⁻¹ * (Real.log 2)⁻¹ : ℝ) : EReal)) (hV : ∀ d k, V (ix4 0 0 d k) = A3 (ix4 b 0 k d))
    (hvs : vs = A4 (ix2 b 0)) (hv : v4 = A5 (ix1 b)) :
    oh (F := Ideal) ((n + 511) / 512) (qr0 X) (T v4 n (qh0 X) K S 0) V 0 vs (ix4 0 r g d) = Cert.ReferenceIdeal.Value.G6 (F := Ideal) A0 A1 A2 A3 A4 A5 (ix4 b x (hd 0 g) d) := by
  obtain ⟨h1, h2, c, hc, h3⟩ := scale_at A0 hB b x (hd 0 g)
  have e1 : qr0 (F := Ideal) X (ix2 0 (rw8 r g)) = (c : EReal) := by
    rw [qr0_apply, qt_rw8, qg_rw8]
    simp only [hX]
    rw [h1, h3]
  have e2 : ∀ k : Fin 4096, score A0 A1 A2 A5 b x 0 g k = Scalar.select (IntOp.cmpi .slt (BitVec.ofNat 32 k.val) v4)
      ((∑ e, K (ix4 0 0 k e) * qh0 (F := Ideal) X (ix2 (rw8 r g) e)) * (c : EReal) * (A2 (ix3 b 0 k) * (((Real.sqrt 128)⁻¹ : ℝ) : EReal))) ⊥ := fun k => by
    unfold score
    simp only [qh0_apply, qt_rw8, qg_rw8, hX, hK, Cert.ReferenceIdeal.Value.pay4_apply, Cert.ReferenceIdeal.Value.pay5_apply]
    rw [h2, h3, hv]
  rw [Cert.ReferenceIdeal.Value.G6_apply, ← hvs]
  simp only [← hV]
  exact group (qh0 X) K S 0 hl (qr0 X) V vs r g d (fun k => A2 (ix3 b 0 k)) (score A0 A1 A2 A5 b x 0 g) c hc e1 hS e2

include hB in
/-- One result of the second key head's group, from the blocks it is made of. -/
theorem value_1 {v4 : BitVec 32} {n : ℕ} (hl : Len v4 n) (X : FVec Ideal S1x64x16x128 .bf16) (K : Vec Ideal S1x2x4096x128 .fp8e4m3) (S : Vec Ideal S2x4096x128 .f32)
    (V : Vec Ideal S1x2x128x4096 .fp8e4m3) (vs : EReal) (b : Fin 4) (x : Fin 16384) (r : Fin 64) (g : Fin 8) (d : Fin 128)
    (hX : ∀ h d, X (ix4 0 r h d) = A0 (ix4 b x h d)) (hK : ∀ k d, K (ix4 0 1 k d) = A1 (ix4 b 1 k d))
    (hS : ∀ k l, S (ix3 1 k l) = A2 (ix3 b 1 k) * (((Real.sqrt 128)⁻¹ * (Real.log 2)⁻¹ : ℝ) : EReal)) (hV : ∀ d k, V (ix4 0 1 d k) = A3 (ix4 b 1 k d))
    (hvs : vs = A4 (ix2 b 1)) (hv : v4 = A5 (ix1 b)) :
    oh (F := Ideal) ((n + 511) / 512) (qr1 X) (T v4 n (qh1 X) K S 1) V 1 vs (ix4 0 r g d) = Cert.ReferenceIdeal.Value.G6 (F := Ideal) A0 A1 A2 A3 A4 A5 (ix4 b x (hd 1 g) d) := by
  obtain ⟨h1, h2, c, hc, h3⟩ := scale_at A0 hB b x (hd 1 g)
  have e1 : qr1 (F := Ideal) X (ix2 0 (rw8 r g)) = (c : EReal) := by
    rw [qr1_apply, qt_rw8, qg1_rw8]
    simp only [hX]
    rw [h1, h3]
  have e2 : ∀ k : Fin 4096, score A0 A1 A2 A5 b x 1 g k = Scalar.select (IntOp.cmpi .slt (BitVec.ofNat 32 k.val) v4)
      ((∑ e, K (ix4 0 1 k e) * qh1 (F := Ideal) X (ix2 (rw8 r g) e)) * (c : EReal) * (A2 (ix3 b 1 k) * (((Real.sqrt 128)⁻¹ : ℝ) : EReal))) ⊥ := fun k => by
    unfold score
    simp only [qh1_apply, qt_rw8, qg1_rw8, hX, hK, Cert.ReferenceIdeal.Value.pay4_apply, Cert.ReferenceIdeal.Value.pay5_apply]
    rw [h2, h3, hv]
  rw [Cert.ReferenceIdeal.Value.G6_apply, ← hvs]
  simp only [← hV]
  exact group (qh1 X) K S 1 hl (qr1 X) V vs r g d (fun k => A2 (ix3 b 1 k)) (score A0 A1 A2 A5 b x 1 g) c hc e1 hS e2

end

/-- A query head is one of a key head's group. -/
theorem head_cases (h : Fin 16) : (∃ g, h = hd 0 g) ∨ ∃ g, h = hd 1 g := by
  by_cases h8 : h.val < 8
  · exact .inl ⟨⟨h.val, h8⟩, Fin.ext (by show h.val = 0 * 8 + h.val; omega)⟩
  · exact .inr ⟨⟨h.val - 8, by omega⟩, Fin.ext (by show h.val = 1 * 8 + (h.val - 8); omega)⟩

theorem ob_0 (v4 : BitVec 32) (n : ℕ) (X : FVec Ideal S1x64x16x128 .bf16) (K : Vec Ideal S1x2x4096x128 .fp8e4m3) (S : Vec Ideal S2x4096x128 .f32)
    (V : Vec Ideal S1x2x128x4096 .fp8e4m3) (w0 w1 : EReal) (r : Fin 64) (g : Fin 8) (d : Fin 128) :
    ob (F := Ideal) v4 n X K S V w0 w1 (ix4 0 r (hd 0 g) d) = oh (F := Ideal) ((n + 511) / 512) (qr0 X) (T v4 n (qh0 X) K S 0) V 0 w0 (ix4 0 r g d) := by
  have h : (hd 0 g).val < 8 := by show 0 * 8 + g.val < 8; omega
  have hg : (⟨(hd 0 g).val, h⟩ : Fin 8) = g := Fin.ext (by show 0 * 8 + g.val = g.val; omega)
  unfold ob
  refine (dif_pos h).trans ?_
  exact congrArg (fun g' : Fin 8 => oh (F := Ideal) ((n + 511) / 512) (qr0 X) (T v4 n (qh0 X) K S 0) V 0 w0 (ix4 0 r g' d)) hg

theorem ob_1 (v4 : BitVec 32) (n : ℕ) (X : FVec Ideal S1x64x16x128 .bf16) (K : Vec Ideal S1x2x4096x128 .fp8e4m3) (S : Vec Ideal S2x4096x128 .f32)
    (V : Vec Ideal S1x2x128x4096 .fp8e4m3) (w0 w1 : EReal) (r : Fin 64) (g : Fin 8) (d : Fin 128) :
    ob (F := Ideal) v4 n X K S V w0 w1 (ix4 0 r (hd 1 g) d) = oh (F := Ideal) ((n + 511) / 512) (qr1 X) (T v4 n (qh1 X) K S 1) V 1 w1 (ix4 0 r g d) := by
  have h : ¬ (hd 1 g).val < 8 := by show ¬ 1 * 8 + g.val < 8; omega
  have hg : (⟨(hd 1 g).val - 8, by have := (hd 1 g).isLt; omega⟩ : Fin 8) = g := Fin.ext (by show 1 * 8 + g.val - 8 = g.val; omega)
  unfold ob
  refine (dif_neg h).trans ?_
  exact congrArg (fun g' : Fin 8 => oh (F := Ideal) ((n + 511) / 512) (qr1 X) (T v4 n (qh1 X) K S 1) V 1 w1 (ix4 0 r g' d)) hg

variable (m : (ℓ : Loc nD τ sig) → Buf (Elt Ideal) ℓ) (hL : Lens m) (hO : Ok m) (c : Dev nD) (hB : Bounded (a0 m c))

/-- The queries of a token, in the block of the point that writes it. -/
theorem query_at (b : Fin 4) (x : Fin 16384) (h : Fin 16) (d : Fin 128) : iblk m hO c 0 (pt b x) (ix4 0 (rw64 x) h d : S1x64x16x128.Idx) = a0 m c (ix4 b x h d) :=
  (blk_0 m hO c (pt b x) (rw64 x) h d).trans (by rw [bt_pt, tok_pt])

include hB in
/-- The second result. -/
theorem arrC_eq : arrC m hO c = Cert.ReferenceIdeal.Value.G7 (F := Ideal) (a0 m c) (a1 m c) (a2 m c) (a3 m c) (a4 m c) (a5 m c) := by
  funext i
  obtain ⟨b, x, h, d, rfl⟩ := idx4 i
  exact code_at (a0 m c) hB (iblk m hO c 0 (pt b x)) b x (rw64 x) h d (fun d => query_at m hO c b x h d)

include hB in
/-- The third result. -/
theorem arrS_eq : arrS m hO c = Cert.ReferenceIdeal.Value.G8 (F := Ideal) (a0 m c) (a1 m c) (a2 m c) (a3 m c) (a4 m c) (a5 m c) := by
  funext i
  obtain ⟨b, x, h, rfl⟩ := idx3 i
  exact scl_at (a0 m c) hB (iblk m hO c 0 (pt b x)) b x (rw64 x) h (fun d => query_at m hO c b x h d)

include hB hL in
/-- The first result. -/
theorem arrO_eq : arrO m hO c = Cert.ReferenceIdeal.Value.G6 (F := Ideal) (a0 m c) (a1 m c) (a2 m c) (a3 m c) (a4 m c) (a5 m c) := by
  funext i
  obtain ⟨b, x, h, d, rfl⟩ := idx4 i
  have hb : bt (pt b x) = b := bt_pt b x
  obtain ⟨g, rfl⟩ | ⟨g, rfl⟩ := head_cases h
  · refine (ob_0 (wdAt m c (pt b x)) (lenAt m c (pt b x)) (iblk m hO c 0 (pt b x)) (iblk m hO c 1 (pt b x)) (ksv (iblk m hO c 2 (pt b x))) (iblk m hO c 3 (pt b x))
      (vs0 (grid0.coords (pt b x)) (iblk m hO c 4 (pt b x))) (vs1 (grid0.coords (pt b x)) (iblk m hO c 4 (pt b x))) (rw64 x) g d).trans ?_
    refine value_0 (a0 m c) (a1 m c) (a2 m c) (a3 m c) (a4 m c) (a5 m c) hB (hL c (pt b x)) _ _ _ _ _ b x (rw64 x) g d (fun h d => query_at m hO c b x h d) ?_ ?_ ?_ ?_ ?_
    · exact fun k d => (blk_1 m hO c (pt b x) 0 k d).trans (by rw [hb])
    · exact fun k l => (ksv_0 m hO c (pt b x) k l).trans (by rw [hb])
    · exact fun d k => (blk_3 m hO c (pt b x) 0 d k).trans (by rw [hb])
    · exact (vs0_eq m hO c (pt b x)).trans (by rw [hb])
    · exact (wdAt_eq m c (pt b x)).trans (by rw [hb]; rfl)
  · refine (ob_1 (wdAt m c (pt b x)) (lenAt m c (pt b x)) (iblk m hO c 0 (pt b x)) (iblk m hO c 1 (pt b x)) (ksv (iblk m hO c 2 (pt b x))) (iblk m hO c 3 (pt b x))
      (vs0 (grid0.coords (pt b x)) (iblk m hO c 4 (pt b x))) (vs1 (grid0.coords (pt b x)) (iblk m hO c 4 (pt b x))) (rw64 x) g d).trans ?_
    refine value_1 (a0 m c) (a1 m c) (a2 m c) (a3 m c) (a4 m c) (a5 m c) hB (hL c (pt b x)) _ _ _ _ _ b x (rw64 x) g d (fun h d => query_at m hO c b x h d) ?_ ?_ ?_ ?_ ?_
    · exact fun k d => (blk_1 m hO c (pt b x) 1 k d).trans (by rw [hb])
    · exact fun k l => (ksv_1 m hO c (pt b x) k l).trans (by rw [hb])
    · exact fun d k => (blk_3 m hO c (pt b x) 1 d k).trans (by rw [hb])
    · exact (vs1_eq m hO c (pt b x)).trans (by rw [hb])
    · exact (wdAt_eq m c (pt b x)).trans (by rw [hb]; rfl)

end Cert.KernelIdeal.Blk

end
-- ==== Proof.Algebraic.lean ====
/-
  The claim on values: the kernel's idealization and the reference leave equal results.
-/
module

public import proofs.«01_k».proof.Proof.Frames
public import proofs.«01_k».proof.Proof.KernelIdeal.Equation

@[expose] public section

noncomputable section

namespace Cert.Proof

open Idealize.ShloMosaic Idealize.SL.Sem
open Cert.KernelIdeal.Blk (a0 a1 a2 a3 a4 a5 arrO arrC arrS)

/-- The precondition bounds the query entries. -/
theorem bounded {m : (ℓ : Loc Cert.KernelIdeal.nD Cert.KernelIdeal.τ Cert.KernelIdeal.sig) → Buf (Elt Ideal) ℓ} (h : Cert.Pre_KernelIdeal m) (c : Dev Cert.KernelIdeal.nD) : Cert.KernelIdeal.Blk.Bounded (a0 m c) := fun i => by
  have e : BitVec.ofBool (decide (max (a0 m c i : EReal) (-(a0 m c i : EReal)) ≤ Ideal.ofBits .bf16 0x7F7F#16)) = 1#1 := (Cert.PreFacts.decode (h c)).1 i
  by_contra hn
  rw [decide_eq_false hn] at e
  exact absurd e (by decide)

/-- Both programs run, keep their arguments, and leave the same three results. -/
theorem algebraic : Cert.algebraic_KernelIdeal_ReferenceIdeal := fun m g m' g' hp ha => by
  have hL := Cert.KernelIdeal.Blk.lens m fun c => (Cert.PreFacts.decode (hp c)).2
  have hO := Cert.KernelIdeal.Blk.ok m
  have hB := bounded hp
  refine ⟨arrO m hO, arrC m hO, arrS m hO, Cert.KernelIdeal.Blk.run m g hL hO, ?_⟩
  refine (θ_run _ _ _).mono (fun r h c => ?_) (Cert.ReferenceIdeal.Value.run m' g')
  obtain ⟨e0, e1, e2, e3, e4, e5⟩ := ha c
  obtain ⟨r0, r1, r2, k⟩ := h c
  rw [e0, e1, e2, e3, e4, e5] at r0 r1 r2
  exact ⟨r0.trans (Cert.KernelIdeal.Blk.arrO_eq m hL hO c (hB c)).symm, r1.trans (Cert.KernelIdeal.Blk.arrC_eq m hO c (hB c)).symm, r2.trans (Cert.KernelIdeal.Blk.arrS_eq m hO c (hB c)).symm, k⟩

end Cert.Proof

end
-- ==== Proof.lean ====
/-
  The certificate's claim, assembled: the programs' stated facts, then one proof for each claim.
-/
module

public import proofs.«01_k».proof.Defs
public import proofs.«01_k».proof.Proof.Algebraic
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_pre.Gen.facts,
    frame_p, frame_pi, frame_ri, frame_ri_pre, preserves, algebraic⟩

end Cert.Proof

end
